-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4096x2048 : Shape := ⟨2, ![4096, 2048]⟩
abbrev S2x2x128x2048 : Shape := ⟨4, ![2, 2, 128, 2048]⟩
abbrev S2x2 : Shape := ⟨2, ![2, 2]⟩
abbrev S_ : Shape := ⟨0, ![]⟩
abbrev S2 : Shape := ⟨1, ![2]⟩
abbrev S128x512 : Shape := ⟨2, ![128, 512]⟩
abbrev S128x2048 : Shape := ⟨2, ![128, 2048]⟩
abbrev S1x1 : Shape := ⟨2, ![1, 1]⟩
abbrev S1x1x128x2048 : Shape := ⟨4, ![1, 1, 128, 2048]⟩
abbrev S256x512 : Shape := ⟨2, ![256, 512]⟩
abbrev S256x2048 : Shape := ⟨2, ![256, 2048]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | .local _ .vmem, ⟨0, _⟩ => ⟨S4096x512, .f32⟩
  | .local _ .vmem, ⟨1, _⟩ => ⟨S512x2048, .f32⟩
  | .local _ .vmem, ⟨2, _⟩ => ⟨S4096x2048, .f32⟩
  | .local _ .vmem, ⟨3, _⟩ => ⟨S2x2x128x2048, .f32⟩
  | .local _ .vmem, ⟨4, _⟩ => ⟨S2x2x128x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 3 20 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_11 : BitVec 32 := 1#32
  let v13 : BitVec 32 := Scalar.muli v5 c1_i32_11
  let v14 : BitVec 32 := Scalar.addi c0_i32_12 v13
  v14.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_14 : BitVec 32 := 1#32
  let v15 : BitVec 32 := Scalar.muli v7 c1_i32_14
  let v16 : BitVec 32 := Scalar.addi c0_i32_15 v15
  v16.toNat
def k0_off1 (d0 : Dev nD) (c0_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v17 : BitVec 32 := Scalar.muli v2 c256_i32
  let v18 : BitVec 32 := Scalar.addi v17 c0_i32_20
  let v19 : Index := Scalar.indexCast v18
  let c0 : Index := 0#32
  ![v19.toNat, 0]
def k0_off2 (d0 : Dev nD) (c0_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v17 : BitVec 32 := Scalar.muli v2 c256_i32
  let v18 : BitVec 32 := Scalar.addi v17 c0_i32_20
  let v25 : Index := Scalar.indexCast v18
  let c0_23 : Index := 0#32
  ![v25.toNat, 0]
def k0_off3 (d0 : Dev nD) (c0_i32_25 : BitVec 32) : Fin 2 → Nat :=
  let c2048_i32 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_24 : BitVec 32 := 256#32
  let v29 : BitVec 32 := Scalar.muli v2 c256_i32_24
  let v30 : BitVec 32 := Scalar.addi c2048_i32 v29
  let v31 : BitVec 32 := Scalar.addi v30 c0_i32_25
  let v32 : Index := Scalar.indexCast v31
  let c0_26 : Index := 0#32
  ![v32.toNat, 0]
def k0_off4 (d0 : Dev nD) (c0_i32_25 : BitVec 32) : Fin 2 → Nat :=
  let c2048_i32 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_24 : BitVec 32 := 256#32
  let v29 : BitVec 32 := Scalar.muli v2 c256_i32_24
  let v30 : BitVec 32 := Scalar.addi c2048_i32 v29
  let v31 : BitVec 32 := Scalar.addi v30 c0_i32_25
  let v38 : Index := Scalar.indexCast v31
  let c0_30 : Index := 0#32
  ![v38.toNat, 0]
def k0_off5 (d0 : Dev nD) (c0_i32_31 : BitVec 32) (c0_i32_37 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.subi v2 c0_i32_31
  let c8_i32_32 : BitVec 32 := 8#32
  let v43 : BitVec 32 := Scalar.addi v42 c8_i32_32
  let c8_i32_33 : BitVec 32 := 8#32
  let v44 : BitVec 32 := Scalar.remsi v43 c8_i32_33
  let c256_i32_36 : BitVec 32 := 256#32
  let v47 : BitVec 32 := Scalar.muli v44 c256_i32_36
  let v48 : BitVec 32 := Scalar.addi v47 c0_i32_37
  let c0_i32_51 : BitVec 32 := 0#32
  ![v48.toNat, 0]
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_47 : BitVec 32 := 1#32
  let v52 : BitVec 32 := Scalar.muli v7 c1_i32_47
  let v53 : BitVec 32 := Scalar.addi c0_i32_48 v52
  v53.toNat
def k0_off6 (d0 : Dev nD) (c0_i32_34 : BitVec 32) (c0_i32_40 : BitVec 32) : Fin 2 → Nat :=
  let c2048_i32_39 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v45 : BitVec 32 := Scalar.addi v2 c0_i32_34
  let c8_i32_35 : BitVec 32 := 8#32
  let v46 : BitVec 32 := Scalar.remsi v45 c8_i32_35
  let c256_i32_38 : BitVec 32 := 256#32
  let v49 : BitVec 32 := Scalar.muli v46 c256_i32_38
  let v50 : BitVec 32 := Scalar.addi c2048_i32_39 v49
  let v51 : BitVec 32 := Scalar.addi v50 c0_i32_40
  let c0_i32_62 : BitVec 32 := 0#32
  ![v51.toNat, 0]
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_58 : BitVec 32 := 1#32
  let v61 : BitVec 32 := Scalar.muli v5 c1_i32_58
  let v62 : BitVec 32 := Scalar.addi c0_i32_59 v61
  v62.toNat
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_93 : BitVec 32 := 1#32
  let v105 : BitVec 32 := Scalar.muli v7 c1_i32_93
  let v106 : BitVec 32 := Scalar.addi c0_i32_94 v105
  v106.toNat
def k0_dev8 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_104 : BitVec 32 := 1#32
  let v114 : BitVec 32 := Scalar.muli v5 c1_i32_104
  let v115 : BitVec 32 := Scalar.addi c0_i32_105 v114
  v115.toNat
def k0_off7 (d0 : Dev nD) (c0_i32_109 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v123 : BitVec 32 := Scalar.subi v2 c0_i32_109
  let c1_i32_110 : BitVec 32 := 1#32
  let v124 : BitVec 32 := Scalar.subi v123 c1_i32_110
  let c16_i32 : BitVec 32 := 16#32
  let v125 : BitVec 32 := Scalar.addi v124 c16_i32
  let c8_i32_111 : BitVec 32 := 8#32
  let v126 : BitVec 32 := Scalar.remsi v125 c8_i32_111
  let c256_i32_115 : BitVec 32 := 256#32
  let v130 : BitVec 32 := Scalar.muli v126 c256_i32_115
  let v131 : Index := Scalar.indexCast v130
  let c0_116 : Index := 0#32
  ![v131.toNat, 0]
def k0_off8 (d0 : Dev nD) (c0_i32_109 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v123 : BitVec 32 := Scalar.subi v2 c0_i32_109
  let c1_i32_110 : BitVec 32 := 1#32
  let v124 : BitVec 32 := Scalar.subi v123 c1_i32_110
  let c16_i32 : BitVec 32 := 16#32
  let v125 : BitVec 32 := Scalar.addi v124 c16_i32
  let c8_i32_111 : BitVec 32 := 8#32
  let v126 : BitVec 32 := Scalar.remsi v125 c8_i32_111
  let c256_i32_115 : BitVec 32 := 256#32
  let v130 : BitVec 32 := Scalar.muli v126 c256_i32_115
  let v137 : Index := Scalar.indexCast v130
  let c0_120 : Index := 0#32
  ![v137.toNat, 0]
def k0_off9 (d0 : Dev nD) (c0_i32_112 : BitVec 32) : Fin 2 → Nat :=
  let c2048_i32_122 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v127 : BitVec 32 := Scalar.addi v2 c0_i32_112
  let c1_i32_113 : BitVec 32 := 1#32
  let v128 : BitVec 32 := Scalar.addi v127 c1_i32_113
  let c8_i32_114 : BitVec 32 := 8#32
  let v129 : BitVec 32 := Scalar.remsi v128 c8_i32_114
  let c256_i32_121 : BitVec 32 := 256#32
  let v141 : BitVec 32 := Scalar.muli v129 c256_i32_121
  let v142 : BitVec 32 := Scalar.addi c2048_i32_122 v141
  let v143 : Index := Scalar.indexCast v142
  let c0_123 : Index := 0#32
  ![v143.toNat, 0]
def k0_off10 (d0 : Dev nD) (c0_i32_112 : BitVec 32) : Fin 2 → Nat :=
  let c2048_i32_122 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v127 : BitVec 32 := Scalar.addi v2 c0_i32_112
  let c1_i32_113 : BitVec 32 := 1#32
  let v128 : BitVec 32 := Scalar.addi v127 c1_i32_113
  let c8_i32_114 : BitVec 32 := 8#32
  let v129 : BitVec 32 := Scalar.remsi v128 c8_i32_114
  let c256_i32_121 : BitVec 32 := 256#32
  let v141 : BitVec 32 := Scalar.muli v129 c256_i32_121
  let v142 : BitVec 32 := Scalar.addi c2048_i32_122 v141
  let v149 : Index := Scalar.indexCast v142
  let c0_127 : Index := 0#32
  ![v149.toNat, 0]
def k0_off11 (d0 : Dev nD) (c0_i32_109 : BitVec 32) (c0_i32_144 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v123 : BitVec 32 := Scalar.subi v2 c0_i32_109
  let c1_i32_110 : BitVec 32 := 1#32
  let v124 : BitVec 32 := Scalar.subi v123 c1_i32_110
  let c16_i32 : BitVec 32 := 16#32
  let v125 : BitVec 32 := Scalar.addi v124 c16_i32
  let c8_i32_111 : BitVec 32 := 8#32
  let v126 : BitVec 32 := Scalar.remsi v125 c8_i32_111
  let c256_i32_143 : BitVec 32 := 256#32
  let v160 : BitVec 32 := Scalar.muli v126 c256_i32_143
  let v161 : BitVec 32 := Scalar.addi v160 c0_i32_144
  let v162 : Index := Scalar.indexCast v161
  let c0_145 : Index := 0#32
  ![v162.toNat, 0]
def k0_off12 (d0 : Dev nD) (c0_i32_112 : BitVec 32) (c0_i32_164 : BitVec 32) : Fin 2 → Nat :=
  let c2048_i32_163 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v127 : BitVec 32 := Scalar.addi v2 c0_i32_112
  let c1_i32_113 : BitVec 32 := 1#32
  let v128 : BitVec 32 := Scalar.addi v127 c1_i32_113
  let c8_i32_114 : BitVec 32 := 8#32
  let v129 : BitVec 32 := Scalar.remsi v128 c8_i32_114
  let c256_i32_162 : BitVec 32 := 256#32
  let v178 : BitVec 32 := Scalar.muli v129 c256_i32_162
  let v179 : BitVec 32 := Scalar.addi c2048_i32_163 v178
  let v180 : BitVec 32 := Scalar.addi v179 c0_i32_164
  let v181 : Index := Scalar.indexCast v180
  let c0_165 : Index := 0#32
  ![v181.toNat, 0]
def k0_dev9 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_187 : BitVec 32 := 1#32
  let v200 : BitVec 32 := Scalar.muli v7 c1_i32_187
  let v201 : BitVec 32 := Scalar.addi c0_i32_188 v200
  v201.toNat
def k0_dev10 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_198 : BitVec 32 := 1#32
  let v209 : BitVec 32 := Scalar.muli v5 c1_i32_198
  let v210 : BitVec 32 := Scalar.addi c0_i32_199 v209
  v210.toNat
def k0_dev11 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_257 : BitVec 32 := 1#32
  let v265 : BitVec 32 := Scalar.muli v7 c1_i32_257
  let v266 : BitVec 32 := Scalar.addi c0_i32_258 v265
  v266.toNat
def k0_dev12 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_268 : BitVec 32 := 1#32
  let v274 : BitVec 32 := Scalar.muli v5 c1_i32_268
  let v275 : BitVec 32 := Scalar.addi c0_i32_269 v274
  v275.toNat
def k0_dev13 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_274 : BitVec 32 := 1#32
  let v283 : BitVec 32 := Scalar.muli v5 c1_i32_274
  let v284 : BitVec 32 := Scalar.addi c0_i32_275 v283
  v284.toNat
def k0_dev14 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_277 : BitVec 32 := 1#32
  let v285 : BitVec 32 := Scalar.muli v7 c1_i32_277
  let v286 : BitVec 32 := Scalar.addi c0_i32_278 v285
  v286.toNat
def k0_dev15 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_378 : BitVec 32 := 1#32
  let v374 : BitVec 32 := Scalar.muli v7 c1_i32_378
  let v375 : BitVec 32 := Scalar.addi c0_i32_379 v374
  v375.toNat
def k0_dev16 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_389 : BitVec 32 := 1#32
  let v383 : BitVec 32 := Scalar.muli v5 c1_i32_389
  let v384 : BitVec 32 := Scalar.addi c0_i32_390 v383
  v384.toNat
def k0_dev17 (d0 : Dev nD) : Nat :=
  let c0_i32_470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_469 : BitVec 32 := 1#32
  let v449 : BitVec 32 := Scalar.muli v7 c1_i32_469
  let v450 : BitVec 32 := Scalar.addi c0_i32_470 v449
  v450.toNat
def k0_dev18 (d0 : Dev nD) : Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_480 : BitVec 32 := 1#32
  let v458 : BitVec 32 := Scalar.muli v5 c1_i32_480
  let v459 : BitVec 32 := Scalar.addi c0_i32_481 v458
  v459.toNat
def k0_dev19 (d0 : Dev nD) : Nat :=
  let c0_i32_487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_486 : BitVec 32 := 1#32
  let v467 : BitVec 32 := Scalar.muli v5 c1_i32_486
  let v468 : BitVec 32 := Scalar.addi c0_i32_487 v467
  v468.toNat
def k0_dev20 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_489 : BitVec 32 := 1#32
  let v469 : BitVec 32 := Scalar.muli v7 c1_i32_489
  let v470 : BitVec 32 := Scalar.addi c0_i32_490 v469
  v470.toNat
def k0_dev21 (d0 : Dev nD) : Nat :=
  let c0_i32_590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_589 : BitVec 32 := 1#32
  let v558 : BitVec 32 := Scalar.muli v7 c1_i32_589
  let v559 : BitVec 32 := Scalar.addi c0_i32_590 v558
  v559.toNat
def k0_dev22 (d0 : Dev nD) : Nat :=
  let c0_i32_601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_600 : BitVec 32 := 1#32
  let v567 : BitVec 32 := Scalar.muli v5 c1_i32_600
  let v568 : BitVec 32 := Scalar.addi c0_i32_601 v567
  v568.toNat
def k0_dev23 (d0 : Dev nD) : Nat :=
  let c0_i32_681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_680 : BitVec 32 := 1#32
  let v633 : BitVec 32 := Scalar.muli v7 c1_i32_680
  let v634 : BitVec 32 := Scalar.addi c0_i32_681 v633
  v634.toNat
def k0_dev24 (d0 : Dev nD) : Nat :=
  let c0_i32_692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_691 : BitVec 32 := 1#32
  let v642 : BitVec 32 := Scalar.muli v5 c1_i32_691
  let v643 : BitVec 32 := Scalar.addi c0_i32_692 v642
  v643.toNat
def k0_dev25 (d0 : Dev nD) : Nat :=
  let c0_i32_698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_697 : BitVec 32 := 1#32
  let v651 : BitVec 32 := Scalar.muli v5 c1_i32_697
  let v652 : BitVec 32 := Scalar.addi c0_i32_698 v651
  v652.toNat
def k0_dev26 (d0 : Dev nD) : Nat :=
  let c0_i32_701 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_700 : BitVec 32 := 1#32
  let v653 : BitVec 32 := Scalar.muli v7 c1_i32_700
  let v654 : BitVec 32 := Scalar.addi c0_i32_701 v653
  v654.toNat
def k0_dev27 (d0 : Dev nD) : Nat :=
  let c0_i32_801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_800 : BitVec 32 := 1#32
  let v742 : BitVec 32 := Scalar.muli v7 c1_i32_800
  let v743 : BitVec 32 := Scalar.addi c0_i32_801 v742
  v743.toNat
def k0_dev28 (d0 : Dev nD) : Nat :=
  let c0_i32_812 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_811 : BitVec 32 := 1#32
  let v751 : BitVec 32 := Scalar.muli v5 c1_i32_811
  let v752 : BitVec 32 := Scalar.addi c0_i32_812 v751
  v752.toNat
def k0_dev29 (d0 : Dev nD) : Nat :=
  let c0_i32_892 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_891 : BitVec 32 := 1#32
  let v817 : BitVec 32 := Scalar.muli v7 c1_i32_891
  let v818 : BitVec 32 := Scalar.addi c0_i32_892 v817
  v818.toNat
def k0_dev30 (d0 : Dev nD) : Nat :=
  let c0_i32_903 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_902 : BitVec 32 := 1#32
  let v826 : BitVec 32 := Scalar.muli v5 c1_i32_902
  let v827 : BitVec 32 := Scalar.addi c0_i32_903 v826
  v827.toNat
def k0_dev31 (d0 : Dev nD) : Nat :=
  let c0_i32_909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_908 : BitVec 32 := 1#32
  let v835 : BitVec 32 := Scalar.muli v5 c1_i32_908
  let v836 : BitVec 32 := Scalar.addi c0_i32_909 v835
  v836.toNat
def k0_dev32 (d0 : Dev nD) : Nat :=
  let c0_i32_912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_911 : BitVec 32 := 1#32
  let v837 : BitVec 32 := Scalar.muli v7 c1_i32_911
  let v838 : BitVec 32 := Scalar.addi c0_i32_912 v837
  v838.toNat
def k0_dev33 (d0 : Dev nD) : Nat :=
  let c0_i32_1012 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1011 : BitVec 32 := 1#32
  let v926 : BitVec 32 := Scalar.muli v7 c1_i32_1011
  let v927 : BitVec 32 := Scalar.addi c0_i32_1012 v926
  v927.toNat
def k0_dev34 (d0 : Dev nD) : Nat :=
  let c0_i32_1023 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1022 : BitVec 32 := 1#32
  let v935 : BitVec 32 := Scalar.muli v5 c1_i32_1022
  let v936 : BitVec 32 := Scalar.addi c0_i32_1023 v935
  v936.toNat
def k0_dev35 (d0 : Dev nD) : Nat :=
  let c0_i32_1103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1102 : BitVec 32 := 1#32
  let v1001 : BitVec 32 := Scalar.muli v7 c1_i32_1102
  let v1002 : BitVec 32 := Scalar.addi c0_i32_1103 v1001
  v1002.toNat
def k0_dev36 (d0 : Dev nD) : Nat :=
  let c0_i32_1114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1113 : BitVec 32 := 1#32
  let v1010 : BitVec 32 := Scalar.muli v5 c1_i32_1113
  let v1011 : BitVec 32 := Scalar.addi c0_i32_1114 v1010
  v1011.toNat
def k0_dev37 (d0 : Dev nD) : Nat :=
  let c0_i32_1120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1119 : BitVec 32 := 1#32
  let v1019 : BitVec 32 := Scalar.muli v5 c1_i32_1119
  let v1020 : BitVec 32 := Scalar.addi c0_i32_1120 v1019
  v1020.toNat
def k0_dev38 (d0 : Dev nD) : Nat :=
  let c0_i32_1123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1122 : BitVec 32 := 1#32
  let v1021 : BitVec 32 := Scalar.muli v7 c1_i32_1122
  let v1022 : BitVec 32 := Scalar.addi c0_i32_1123 v1021
  v1022.toNat
def k0_dev39 (d0 : Dev nD) : Nat :=
  let c0_i32_1223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1222 : BitVec 32 := 1#32
  let v1110 : BitVec 32 := Scalar.muli v7 c1_i32_1222
  let v1111 : BitVec 32 := Scalar.addi c0_i32_1223 v1110
  v1111.toNat
def k0_dev40 (d0 : Dev nD) : Nat :=
  let c0_i32_1234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1233 : BitVec 32 := 1#32
  let v1119 : BitVec 32 := Scalar.muli v5 c1_i32_1233
  let v1120 : BitVec 32 := Scalar.addi c0_i32_1234 v1119
  v1120.toNat
def k0_dev41 (d0 : Dev nD) : Nat :=
  let c0_i32_1314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1313 : BitVec 32 := 1#32
  let v1185 : BitVec 32 := Scalar.muli v7 c1_i32_1313
  let v1186 : BitVec 32 := Scalar.addi c0_i32_1314 v1185
  v1186.toNat
def k0_dev42 (d0 : Dev nD) : Nat :=
  let c0_i32_1325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1324 : BitVec 32 := 1#32
  let v1194 : BitVec 32 := Scalar.muli v5 c1_i32_1324
  let v1195 : BitVec 32 := Scalar.addi c0_i32_1325 v1194
  v1195.toNat
def k0_dev43 (d0 : Dev nD) : Nat :=
  let c0_i32_1331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1330 : BitVec 32 := 1#32
  let v1203 : BitVec 32 := Scalar.muli v5 c1_i32_1330
  let v1204 : BitVec 32 := Scalar.addi c0_i32_1331 v1203
  v1204.toNat
def k0_dev44 (d0 : Dev nD) : Nat :=
  let c0_i32_1334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1333 : BitVec 32 := 1#32
  let v1205 : BitVec 32 := Scalar.muli v7 c1_i32_1333
  let v1206 : BitVec 32 := Scalar.addi c0_i32_1334 v1205
  v1206.toNat
def k0_off13 (d0 : Dev nD) (c0_i32_1419 : BitVec 32) (c0_i32_1432 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1418 : BitVec 32 := 1#32
  let v1284 : BitVec 32 := Scalar.addi v2 c1_i32_1418
  let v1285 : BitVec 32 := Scalar.subi v1284 c0_i32_1419
  let c16_i32_1420 : BitVec 32 := 16#32
  let v1286 : BitVec 32 := Scalar.addi v1285 c16_i32_1420
  let c8_i32_1421 : BitVec 32 := 8#32
  let v1287 : BitVec 32 := Scalar.remsi v1286 c8_i32_1421
  let c256_i32_1431 : BitVec 32 := 256#32
  let v1297 : BitVec 32 := Scalar.muli v1287 c256_i32_1431
  let v1298 : BitVec 32 := Scalar.addi v1297 c0_i32_1432
  let c0_i32_1442 : BitVec 32 := 0#32
  ![v1298.toNat, 0]
def k0_dev45 (d0 : Dev nD) : Nat :=
  let c0_i32_1441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1440 : BitVec 32 := 1#32
  let v1302 : BitVec 32 := Scalar.muli v7 c1_i32_1440
  let v1303 : BitVec 32 := Scalar.addi c0_i32_1441 v1302
  v1303.toNat
def k0_off14 (d0 : Dev nD) (c0_i32_1423 : BitVec 32) (c0_i32_1435 : BitVec 32) : Fin 2 → Nat :=
  let c2048_i32_1434 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1422 : BitVec 32 := 1#32
  let v1288 : BitVec 32 := Scalar.subi v2 c1_i32_1422
  let v1289 : BitVec 32 := Scalar.addi v1288 c0_i32_1423
  let c8_i32_1424 : BitVec 32 := 8#32
  let v1290 : BitVec 32 := Scalar.addi v1289 c8_i32_1424
  let c8_i32_1425 : BitVec 32 := 8#32
  let v1291 : BitVec 32 := Scalar.remsi v1290 c8_i32_1425
  let c256_i32_1433 : BitVec 32 := 256#32
  let v1299 : BitVec 32 := Scalar.muli v1291 c256_i32_1433
  let v1300 : BitVec 32 := Scalar.addi c2048_i32_1434 v1299
  let v1301 : BitVec 32 := Scalar.addi v1300 c0_i32_1435
  let c0_i32_1450 : BitVec 32 := 0#32
  ![v1301.toNat, 0]
def k0_dev46 (d0 : Dev nD) : Nat :=
  let c0_i32_1449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1448 : BitVec 32 := 1#32
  let v1310 : BitVec 32 := Scalar.muli v5 c1_i32_1448
  let v1311 : BitVec 32 := Scalar.addi c0_i32_1449 v1310
  v1311.toNat
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1491 : BitVec 32 := 1#32
  let v1355 : BitVec 32 := Scalar.addi v2 c1_i32_1491
  let c8_i32_1492 : BitVec 32 := 8#32
  let v1356 : BitVec 32 := Scalar.remsi v1355 c8_i32_1492
  let c256_i32_1493 : BitVec 32 := 256#32
  let v1357 : BitVec 32 := Scalar.muli v1356 c256_i32_1493
  let c0_i32_1495 : BitVec 32 := 0#32
  ![v1357.toNat, 0]
def k0_off16 (d0 : Dev nD) : Fin 2 → Nat :=
  let c2048_i32_1501 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1497 : BitVec 32 := 1#32
  let v1362 : BitVec 32 := Scalar.subi v2 c1_i32_1497
  let c8_i32_1498 : BitVec 32 := 8#32
  let v1363 : BitVec 32 := Scalar.addi v1362 c8_i32_1498
  let c8_i32_1499 : BitVec 32 := 8#32
  let v1364 : BitVec 32 := Scalar.remsi v1363 c8_i32_1499
  let c256_i32_1500 : BitVec 32 := 256#32
  let v1365 : BitVec 32 := Scalar.muli v1364 c256_i32_1500
  let v1366 : BitVec 32 := Scalar.addi c2048_i32_1501 v1365
  let c0_i32_1503 : BitVec 32 := 0#32
  ![v1366.toNat, 0]
def k0_dev47 (d0 : Dev nD) : Nat :=
  let c0_i32_1548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1547 : BitVec 32 := 1#32
  let v1399 : BitVec 32 := Scalar.muli v7 c1_i32_1547
  let v1400 : BitVec 32 := Scalar.addi c0_i32_1548 v1399
  v1400.toNat
def k0_dev48 (d0 : Dev nD) : Nat :=
  let c0_i32_1556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1555 : BitVec 32 := 1#32
  let v1407 : BitVec 32 := Scalar.muli v5 c1_i32_1555
  let v1408 : BitVec 32 := Scalar.addi c0_i32_1556 v1407
  v1408.toNat
def k0_dev49 (d0 : Dev nD) : Nat :=
  let c0_i32_1561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1560 : BitVec 32 := 1#32
  let v1415 : BitVec 32 := Scalar.muli v5 c1_i32_1560
  let v1416 : BitVec 32 := Scalar.addi c0_i32_1561 v1415
  v1416.toNat
def k0_dev50 (d0 : Dev nD) : Nat :=
  let c0_i32_1564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1563 : BitVec 32 := 1#32
  let v1417 : BitVec 32 := Scalar.muli v7 c1_i32_1563
  let v1418 : BitVec 32 := Scalar.addi c0_i32_1564 v1417
  v1418.toNat
def k0_dev51 (d0 : Dev nD) : Nat :=
  let c0_i32_1628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1627 : BitVec 32 := 1#32
  let v1459 : BitVec 32 := Scalar.muli v7 c1_i32_1627
  let v1460 : BitVec 32 := Scalar.addi c0_i32_1628 v1459
  v1460.toNat
def k0_dev52 (d0 : Dev nD) : Nat :=
  let c0_i32_1636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1635 : BitVec 32 := 1#32
  let v1467 : BitVec 32 := Scalar.muli v5 c1_i32_1635
  let v1468 : BitVec 32 := Scalar.addi c0_i32_1636 v1467
  v1468.toNat
def k0_dev53 (d0 : Dev nD) : Nat :=
  let c0_i32_1698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1697 : BitVec 32 := 1#32
  let v1515 : BitVec 32 := Scalar.muli v7 c1_i32_1697
  let v1516 : BitVec 32 := Scalar.addi c0_i32_1698 v1515
  v1516.toNat
def k0_dev54 (d0 : Dev nD) : Nat :=
  let c0_i32_1706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1705 : BitVec 32 := 1#32
  let v1523 : BitVec 32 := Scalar.muli v5 c1_i32_1705
  let v1524 : BitVec 32 := Scalar.addi c0_i32_1706 v1523
  v1524.toNat
def k0_dev55 (d0 : Dev nD) : Nat :=
  let c0_i32_1711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1710 : BitVec 32 := 1#32
  let v1531 : BitVec 32 := Scalar.muli v5 c1_i32_1710
  let v1532 : BitVec 32 := Scalar.addi c0_i32_1711 v1531
  v1532.toNat
def k0_dev56 (d0 : Dev nD) : Nat :=
  let c0_i32_1714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1713 : BitVec 32 := 1#32
  let v1533 : BitVec 32 := Scalar.muli v7 c1_i32_1713
  let v1534 : BitVec 32 := Scalar.addi c0_i32_1714 v1533
  v1534.toNat
def k0_dev57 (d0 : Dev nD) : Nat :=
  let c0_i32_1772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1771 : BitVec 32 := 1#32
  let v1573 : BitVec 32 := Scalar.muli v7 c1_i32_1771
  let v1574 : BitVec 32 := Scalar.addi c0_i32_1772 v1573
  v1574.toNat
def k0_dev58 (d0 : Dev nD) : Nat :=
  let c0_i32_1780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1779 : BitVec 32 := 1#32
  let v1581 : BitVec 32 := Scalar.muli v5 c1_i32_1779
  let v1582 : BitVec 32 := Scalar.addi c0_i32_1780 v1581
  v1582.toNat
def k0_dev59 (d0 : Dev nD) : Nat :=
  let c0_i32_1836 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1835 : BitVec 32 := 1#32
  let v1627 : BitVec 32 := Scalar.muli v7 c1_i32_1835
  let v1628 : BitVec 32 := Scalar.addi c0_i32_1836 v1627
  v1628.toNat
def k0_dev60 (d0 : Dev nD) : Nat :=
  let c0_i32_1844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1843 : BitVec 32 := 1#32
  let v1635 : BitVec 32 := Scalar.muli v5 c1_i32_1843
  let v1636 : BitVec 32 := Scalar.addi c0_i32_1844 v1635
  v1636.toNat
def k0_dev61 (d0 : Dev nD) : Nat :=
  let c0_i32_1849 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1848 : BitVec 32 := 1#32
  let v1643 : BitVec 32 := Scalar.muli v5 c1_i32_1848
  let v1644 : BitVec 32 := Scalar.addi c0_i32_1849 v1643
  v1644.toNat
def k0_dev62 (d0 : Dev nD) : Nat :=
  let c0_i32_1852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1851 : BitVec 32 := 1#32
  let v1645 : BitVec 32 := Scalar.muli v7 c1_i32_1851
  let v1646 : BitVec 32 := Scalar.addi c0_i32_1852 v1645
  v1646.toNat
def k0_dev63 (d0 : Dev nD) : Nat :=
  let c0_i32_1910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1909 : BitVec 32 := 1#32
  let v1685 : BitVec 32 := Scalar.muli v7 c1_i32_1909
  let v1686 : BitVec 32 := Scalar.addi c0_i32_1910 v1685
  v1686.toNat
def k0_dev64 (d0 : Dev nD) : Nat :=
  let c0_i32_1918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1917 : BitVec 32 := 1#32
  let v1693 : BitVec 32 := Scalar.muli v5 c1_i32_1917
  let v1694 : BitVec 32 := Scalar.addi c0_i32_1918 v1693
  v1694.toNat
def k0_dev65 (d0 : Dev nD) : Nat :=
  let c0_i32_1974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1973 : BitVec 32 := 1#32
  let v1739 : BitVec 32 := Scalar.muli v7 c1_i32_1973
  let v1740 : BitVec 32 := Scalar.addi c0_i32_1974 v1739
  v1740.toNat
def k0_dev66 (d0 : Dev nD) : Nat :=
  let c0_i32_1982 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1981 : BitVec 32 := 1#32
  let v1747 : BitVec 32 := Scalar.muli v5 c1_i32_1981
  let v1748 : BitVec 32 := Scalar.addi c0_i32_1982 v1747
  v1748.toNat
def k0_dev67 (d0 : Dev nD) : Nat :=
  let c0_i32_1987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1986 : BitVec 32 := 1#32
  let v1755 : BitVec 32 := Scalar.muli v5 c1_i32_1986
  let v1756 : BitVec 32 := Scalar.addi c0_i32_1987 v1755
  v1756.toNat
def k0_dev68 (d0 : Dev nD) : Nat :=
  let c0_i32_1990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1989 : BitVec 32 := 1#32
  let v1757 : BitVec 32 := Scalar.muli v7 c1_i32_1989
  let v1758 : BitVec 32 := Scalar.addi c0_i32_1990 v1757
  v1758.toNat
def k0_dev69 (d0 : Dev nD) : Nat :=
  let c0_i32_2048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2047 : BitVec 32 := 1#32
  let v1797 : BitVec 32 := Scalar.muli v7 c1_i32_2047
  let v1798 : BitVec 32 := Scalar.addi c0_i32_2048 v1797
  v1798.toNat
def k0_dev70 (d0 : Dev nD) : Nat :=
  let c0_i32_2056 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2055 : BitVec 32 := 1#32
  let v1805 : BitVec 32 := Scalar.muli v5 c1_i32_2055
  let v1806 : BitVec 32 := Scalar.addi c0_i32_2056 v1805
  v1806.toNat
def k0_dev71 (d0 : Dev nD) : Nat :=
  let c0_i32_2112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2111 : BitVec 32 := 1#32
  let v1851 : BitVec 32 := Scalar.muli v7 c1_i32_2111
  let v1852 : BitVec 32 := Scalar.addi c0_i32_2112 v1851
  v1852.toNat
def k0_dev72 (d0 : Dev nD) : Nat :=
  let c0_i32_2120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2119 : BitVec 32 := 1#32
  let v1859 : BitVec 32 := Scalar.muli v5 c1_i32_2119
  let v1860 : BitVec 32 := Scalar.addi c0_i32_2120 v1859
  v1860.toNat
def k0_dev73 (d0 : Dev nD) : Nat :=
  let c0_i32_2125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2124 : BitVec 32 := 1#32
  let v1867 : BitVec 32 := Scalar.muli v5 c1_i32_2124
  let v1868 : BitVec 32 := Scalar.addi c0_i32_2125 v1867
  v1868.toNat
def k0_dev74 (d0 : Dev nD) : Nat :=
  let c0_i32_2128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2127 : BitVec 32 := 1#32
  let v1869 : BitVec 32 := Scalar.muli v7 c1_i32_2127
  let v1870 : BitVec 32 := Scalar.addi c0_i32_2128 v1869
  v1870.toNat
def k0_dev75 (d0 : Dev nD) : Nat :=
  let c0_i32_2186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2185 : BitVec 32 := 1#32
  let v1909 : BitVec 32 := Scalar.muli v7 c1_i32_2185
  let v1910 : BitVec 32 := Scalar.addi c0_i32_2186 v1909
  v1910.toNat
def k0_dev76 (d0 : Dev nD) : Nat :=
  let c0_i32_2194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2193 : BitVec 32 := 1#32
  let v1917 : BitVec 32 := Scalar.muli v5 c1_i32_2193
  let v1918 : BitVec 32 := Scalar.addi c0_i32_2194 v1917
  v1918.toNat
def k0_dev77 (d0 : Dev nD) : Nat :=
  let c0_i32_2250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2249 : BitVec 32 := 1#32
  let v1963 : BitVec 32 := Scalar.muli v7 c1_i32_2249
  let v1964 : BitVec 32 := Scalar.addi c0_i32_2250 v1963
  v1964.toNat
def k0_dev78 (d0 : Dev nD) : Nat :=
  let c0_i32_2258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2257 : BitVec 32 := 1#32
  let v1971 : BitVec 32 := Scalar.muli v5 c1_i32_2257
  let v1972 : BitVec 32 := Scalar.addi c0_i32_2258 v1971
  v1972.toNat
def k0_dev79 (d0 : Dev nD) : Nat :=
  let c0_i32_2263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2262 : BitVec 32 := 1#32
  let v1979 : BitVec 32 := Scalar.muli v5 c1_i32_2262
  let v1980 : BitVec 32 := Scalar.addi c0_i32_2263 v1979
  v1980.toNat
def k0_dev80 (d0 : Dev nD) : Nat :=
  let c0_i32_2266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2265 : BitVec 32 := 1#32
  let v1981 : BitVec 32 := Scalar.muli v7 c1_i32_2265
  let v1982 : BitVec 32 := Scalar.addi c0_i32_2266 v1981
  v1982.toNat
def k0_dev81 (d0 : Dev nD) : Nat :=
  let c0_i32_2324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2323 : BitVec 32 := 1#32
  let v2021 : BitVec 32 := Scalar.muli v7 c1_i32_2323
  let v2022 : BitVec 32 := Scalar.addi c0_i32_2324 v2021
  v2022.toNat
def k0_dev82 (d0 : Dev nD) : Nat :=
  let c0_i32_2332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2331 : BitVec 32 := 1#32
  let v2029 : BitVec 32 := Scalar.muli v5 c1_i32_2331
  let v2030 : BitVec 32 := Scalar.addi c0_i32_2332 v2029
  v2030.toNat
def k0_dev83 (d0 : Dev nD) : Nat :=
  let c0_i32_2388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2387 : BitVec 32 := 1#32
  let v2075 : BitVec 32 := Scalar.muli v7 c1_i32_2387
  let v2076 : BitVec 32 := Scalar.addi c0_i32_2388 v2075
  v2076.toNat
def k0_dev84 (d0 : Dev nD) : Nat :=
  let c0_i32_2396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2395 : BitVec 32 := 1#32
  let v2083 : BitVec 32 := Scalar.muli v5 c1_i32_2395
  let v2084 : BitVec 32 := Scalar.addi c0_i32_2396 v2083
  v2084.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Prog.lean ====
/-
# The kernel's body as a program with a step parameter

The printed body is one straight line of several hundred operations: a prologue, fourteen steps and an epilogue, the
steps written out. This module writes the same operations as definitions that take the step as a parameter, in
continuation form, and states that the printed body is exactly that program. Everything later reasons about the
definitions here.

Conventions used throughout: a direction is a `Bool`, `false` for the ring that sends to the right neighbour (upper half
of the rows) and `true` for the ring that sends to the left one (lower half); a half-chunk is a `Fin 2`.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.Sem

variable {F : FTy → Type} [FloatOps F]

/-! ## The buffers -/

abbrev xM : Memref sig .tc .vmem S4096x512 .f32 := Memref.whole cc0_stg0_0
abbrev wM : Memref sig .tc .vmem S512x2048 .f32 := Memref.whole cc0_stg1_0
abbrev oM : Memref sig .tc .hbm S4096x2048 .f32 := Memref.whole main_v1
abbrev aM : Memref sig .tc .vmem S4096x2048 .f32 := Memref.whole cc0_scratch0
/-- The receive buffer of a direction. -/
abbrev rM : Bool → Memref sig .tc .vmem S2x2x128x2048 .f32
  | false => Memref.whole cc0_scratch1
  | true => Memref.whole cc0_scratch2

/-! ## The semaphores -/

theorem inbS (j k : Fin 2) : ∀ a, (![j.val, k.val] : Fin 2 → Nat) a + S1x1.size a ≤ S2x2.size a := by
  revert j k; decide
theorem inbR (j k : Fin 2) : ∀ a, (![j.val, k.val, 0, 0] : Fin 4 → Nat) a + S1x1x128x2048.size a ≤ S2x2x128x2048.size a := by
  revert j k; decide

/-- The parity of a step as a slot number. -/
abbrev sl (j : ℕ) : Fin 2 := ⟨j % 2, Nat.mod_lt _ (by decide)⟩

/-- Entry `(j, k)` of a two by two array of DMA semaphores. -/
abbrev semAt (A : DmaSems sig S2x2) (j k : Fin 2) : DmaSem sig :=
  ((A.slice (Rect.unit (s := S2x2) ![j.val, k.val] S1x1.size (inbS j k))).squeeze S_ squeezes_S1x1_S_ : DmaSems sig S_).sem

/-- The semaphore a send of direction `d` completes on at its source. -/
abbrev sendS (d : Bool) (j k : Fin 2) : DmaSem sig := semAt (match d with | false => cc0_scratch3 | true => cc0_scratch5) j k
/-- The semaphore it completes on at its destination. -/
abbrev recvS (d : Bool) (j k : Fin 2) : DmaSem sig := semAt (match d with | false => cc0_scratch4 | true => cc0_scratch6) j k
/-- The semaphore that grants a direction's next send. -/
abbrev readyS (d : Bool) : Sem sig := match d with | false => (cc0_scratch7 : Sems sig S_).sem | true => (cc0_scratch8 : Sems sig S_).sem
/-- The semaphore of a direction's copy of its own finished chunk. -/
abbrev ownS (d : Bool) : DmaSem sig := match d with
  | false => ((cc0_scratch9.slice (Rect.unit (s := S2) ![0] S1.size inb_S2_S1_0)).squeeze S_ squeezes_S1_S_ : DmaSems sig S_).sem
  | true => ((cc0_scratch9.slice (Rect.unit (s := S2) ![1] S1.size inb_S2_S1_1)).squeeze S_ squeezes_S1_S_ : DmaSems sig S_).sem
/-- The runtime's barrier semaphore. -/
abbrev barS : Sem sig := (SemArray.scalar (sig.barrier 0 rfl) : Sems sig S_).sem

/-! ## The devices -/

/-- The neighbour a direction sends to, as the program computes it. -/
abbrev nxP (d : Bool) (c : Dev nD) : Dev nD := match d with | false => ⟨k0_dev5 c, k0_dev5_lt c⟩ | true => ⟨k0_dev6 c, k0_dev6_lt c⟩

/-! ## The blocks the program names -/

abbrev Blk (sp : Space) : Type := Memref sig .tc sp S128x2048 .f32

/-- A half-slot of a receive buffer. -/
abbrev recvB (d : Bool) (j k : Fin 2) : Blk .vmem :=
  ((rM d).slice (Rect.unit (s := S2x2x128x2048) ![j.val, k.val, 0, 0] S1x1x128x2048.size (inbR j k)) (fun _ => rfl)).squeeze S128x2048 squeezes_S1x1x128x2048_S128x2048

abbrev w32 (n : ℕ) : BitVec 32 := BitVec.ofNat 32 n

/-- The source of send `s` of the first phase. -/
abbrev sendP (d : Bool) (c : Dev nD) (s : Fin 7) (k : Fin 2) : Blk .vmem := match d with
  | false => aM.slice (Rect.unit (s := S4096x2048) (k0_off5 c (w32 s.val) (w32 (128 * k.val))) S128x2048.size (k0_off5_inb c s k)) (fun _ => rfl)
  | true => aM.slice (Rect.unit (s := S4096x2048) (k0_off6 c (w32 s.val) (w32 (128 * k.val))) S128x2048.size (k0_off6_inb c s k)) (fun _ => rfl)
/-- The block of the accumulator sent as send `t` of the second phase. -/
abbrev agA (d : Bool) (c : Dev nD) (t : Fin 7) (k : Fin 2) : Blk .vmem := match d with
  | false => aM.slice (Rect.unit (s := S4096x2048) (k0_off13 c (w32 t.val) (w32 (128 * k.val))) S128x2048.size (k0_off13_inb c t k)) (fun _ => rfl)
  | true => aM.slice (Rect.unit (s := S4096x2048) (k0_off14 c (w32 t.val) (w32 (128 * k.val))) S128x2048.size (k0_off14_inb c t k)) (fun _ => rfl)
/-- The same block of the result. -/
abbrev agO (d : Bool) (c : Dev nD) (t : Fin 7) (k : Fin 2) : Blk .hbm := match d with
  | false => oM.slice (Rect.unit (s := S4096x2048) (k0_off13 c (w32 t.val) (w32 (128 * k.val))) S128x2048.size (k0_off13_inb c t k)) (fun _ => rfl)
  | true => oM.slice (Rect.unit (s := S4096x2048) (k0_off14 c (w32 t.val) (w32 (128 * k.val))) S128x2048.size (k0_off14_inb c t k)) (fun _ => rfl)
/-- A direction's own chunk in the accumulator, and in the result. -/
abbrev ownA (d : Bool) (c : Dev nD) : Memref sig .tc .vmem S256x2048 .f32 := match d with
  | false => aM.slice (Rect.unit (s := S4096x2048) (k0_off15 c) S256x2048.size (k0_off15_inb c)) (fun _ => rfl)
  | true => aM.slice (Rect.unit (s := S4096x2048) (k0_off16 c) S256x2048.size (k0_off16_inb c)) (fun _ => rfl)
abbrev ownO (d : Bool) (c : Dev nD) : Memref sig .tc .hbm S256x2048 .f32 := match d with
  | false => oM.slice (Rect.unit (s := S4096x2048) (k0_off15 c) S256x2048.size (k0_off15_inb c)) (fun _ => rfl)
  | true => oM.slice (Rect.unit (s := S4096x2048) (k0_off16 c) S256x2048.size (k0_off16_inb c)) (fun _ => rfl)

/-- The rectangle an accumulation touches. -/
abbrev addR (d : Bool) (c : Dev nD) (s : Fin 7) (k : Fin 2) : Rect S4096x2048 := match d with
  | false => Rect.unit (s := S4096x2048) (k0_off11 c (w32 s.val) (w32 (128 * k.val))) S128x2048.size (k0_off11_inb c s k)
  | true => Rect.unit (s := S4096x2048) (k0_off12 c (w32 s.val) (w32 (128 * k.val))) S128x2048.size (k0_off12_inb c s k)

abbrev recvR (j k : Fin 2) : Rect S2x2x128x2048 := Rect.unit (s := S2x2x128x2048) ![j.val, k.val, 0, 0] S1x1x128x2048.size (inbR j k)
abbrev wR : Rect S512x2048 := Rect.unit (s := S512x2048) ![0, 0] S512x2048.size inb_S512x2048_S512x2048_0_0

/-! ## The operations, each before a continuation -/

abbrev PR (F : FTy → Type) := Prog (TpuEff nD τ sig (Elt F) Λ₀ .tc) PUnit.{1}

/-- The matrix product of 128 rows, stored to the accumulator: rows at offset `ox` of `x`, at `oa` of the accumulator. -/
def gemm128 (ox oa : Fin 2 → Nat) (hx : ∀ a, ox a + S128x512.size a ≤ S4096x512.size a) (ha : ∀ a, oa a + S128x2048.size a ≤ S4096x2048.size a)
    (K : PR F) : PR F :=
  Prog.op (.load xM (Rect.unit (s := S4096x512) ox S128x512.size hx).toLoadRect (View.loadsAt_vmem h_S128x512)) fun (x : Vec F S128x512 .f32) =>
  Prog.op (.load wM wR.toLoadRect (View.loadsAt_vmem h_S512x2048)) fun (w : Vec F S512x2048 .f32) =>
  Prog.op (.load aM (Rect.unit (s := S4096x2048) oa S128x2048.size ha).toLoadRect (View.loadsAt_vmem h_S128x2048)) fun _ =>
  Prog.op (.store aM (Rect.unit (s := S4096x2048) oa S128x2048.size ha) (k0_pay3 x w) Finset.univ (View.stores_vmem_bits_univ h_S128x2048 rfl) (.inl rfl)) fun _ => K

/-- The matrix product of 256 rows. -/
def gemm256 (ox oa : Fin 2 → Nat) (hx : ∀ a, ox a + S256x512.size a ≤ S4096x512.size a) (ha : ∀ a, oa a + S256x2048.size a ≤ S4096x2048.size a)
    (K : PR F) : PR F :=
  Prog.op (.load xM (Rect.unit (s := S4096x512) ox S256x512.size hx).toLoadRect (View.loadsAt_vmem h_S256x512)) fun (x : Vec F S256x512 .f32) =>
  Prog.op (.load wM wR.toLoadRect (View.loadsAt_vmem h_S512x2048)) fun (w : Vec F S512x2048 .f32) =>
  Prog.op (.load aM (Rect.unit (s := S4096x2048) oa S256x2048.size ha).toLoadRect (View.loadsAt_vmem h_S256x2048)) fun _ =>
  Prog.op (.store aM (Rect.unit (s := S4096x2048) oa S256x2048.size ha) (k0_pay6 x w) Finset.univ (View.stores_vmem_bits_univ h_S256x2048 rfl) (.inl rfl)) fun _ => K

/-- The product of a half of device `c`'s own chunk, before the first send. -/
def gemmOwn (d : Bool) (c : Dev nD) (k : Fin 2) (K : PR F) : PR F := match d with
  | false => gemm128 (k0_off1 c (w32 (128 * k.val))) (k0_off2 c (w32 (128 * k.val))) (k0_off1_inb c k) (k0_off2_inb c k) K
  | true => gemm128 (k0_off3 c (w32 (128 * k.val))) (k0_off4 c (w32 (128 * k.val))) (k0_off3_inb c k) (k0_off4_inb c k) K
/-- The product of the chunk that step `s` receives into. -/
def gemmNext (d : Bool) (c : Dev nD) (s : Fin 7) (K : PR F) : PR F := match d with
  | false => gemm256 (k0_off7 c (w32 s.val)) (k0_off8 c (w32 s.val)) (k0_off7_inb c s) (k0_off8_inb c s) K
  | true => gemm256 (k0_off9 c (w32 s.val)) (k0_off10 c (w32 s.val)) (k0_off9_inb c s) (k0_off10_inb c s) K

/-- A send of the first phase: an accumulator block into the neighbour's receive half-slot. -/
def sendRS (d : Bool) (c : Dev nD) (s : Fin 7) (k : Fin 2) (K : PR F) : PR F :=
  Prog.op (.enqueueDma (sendP d c s k) (.remote (Dev.tc (nxP d c)) (recvB d (sl s.val) k) (.dma (sendS d (sl s.val) k)) (by cases d <;> rfl)) (.dma (recvS d (sl s.val) k))
    (by cases d <;> exact View.wordExact_bits rfl) (by cases d <;> exact (View.wordExact_bits rfl).reshape _ _) ⟨⟨rfl, Or.inl rfl⟩, trivial⟩) fun _ => K
/-- The first send of the second phase: the finished own block, from the accumulator into the neighbour's result. -/
def sendAG0 (d : Bool) (c : Dev nD) (k : Fin 2) (K : PR F) : PR F :=
  Prog.op (.enqueueDma (agA d c 0 k) (.remote (Dev.tc (nxP d c)) (agO d c 0 k) (.dma (sendS d 1 k)) (by cases d <;> rfl)) (.dma (recvS d 1 k))
    (by cases d <;> exact View.wordExact_bits rfl) (by cases d <;> exact View.wordExact_bits rfl) ⟨⟨rfl, Or.inl rfl⟩, trivial⟩) fun _ => K
/-- A later send of the second phase: a block of the result into the neighbour's result. -/
def sendAG (d : Bool) (c : Dev nD) (t : Fin 7) (k : Fin 2) (K : PR F) : PR F :=
  Prog.op (.enqueueDma (agO d c t k) (.remote (Dev.tc (nxP d c)) (agO d c t k) (.dma (sendS d (sl (t.val + 1)) k)) (by cases d <;> rfl)) (.dma (recvS d (sl (t.val + 1)) k))
    (by cases d <;> exact View.wordExact_bits rfl) (by cases d <;> exact View.wordExact_bits rfl) ⟨⟨rfl, Or.inl rfl⟩, trivial⟩) fun _ => K

/-- The wait for a block of the first phase to arrive. -/
def waitRS (d : Bool) (c : Dev nD) (s : Fin 7) (k : Fin 2) (K : PR F) : PR F :=
  Prog.op (.waitDma2 (recvS d (sl s.val) k) (sendP d c s k) (recvB d (sl s.val) k)
    (by cases d <;> exact View.wordExact_bits rfl) (by cases d <;> exact (View.wordExact_bits rfl).reshape _ _)) fun _ => K
/-- The wait for the first block of the second phase to arrive. -/
def waitAG0 (d : Bool) (c : Dev nD) (k : Fin 2) (K : PR F) : PR F :=
  Prog.op (.waitDma2 (recvS d 1 k) (agA d c 0 k) (agO d c 0 k)
    (by cases d <;> exact View.wordExact_bits rfl) (by cases d <;> exact View.wordExact_bits rfl)) fun _ => K
/-- The wait for a later block of the second phase to arrive. -/
def waitAG (d : Bool) (c : Dev nD) (t : Fin 7) (k : Fin 2) (K : PR F) : PR F :=
  Prog.op (.waitDma2 (recvS d (sl (t.val + 1)) k) (agO d c t k) (agO d c t k)
    (by cases d <;> exact View.wordExact_bits rfl) (by cases d <;> exact View.wordExact_bits rfl)) fun _ => K

/-- The wait for a send of the first phase to have left. -/
def waitSendRS (d : Bool) (c : Dev nD) (s : Fin 7) (k : Fin 2) (K : PR F) : PR F :=
  Prog.op (.waitDma2 (sendS d (sl s.val) k) (recvB d (sl s.val) k) (sendP d c s k)
    (by cases d <;> exact (View.wordExact_bits rfl).reshape _ _) (by cases d <;> exact View.wordExact_bits rfl)) fun _ => K
/-- The wait for the first send of the second phase to have left. -/
def waitSendAG0 (d : Bool) (c : Dev nD) (k : Fin 2) (K : PR F) : PR F :=
  Prog.op (.waitDma2 (sendS d 1 k) (agO d c 0 k) (agA d c 0 k)
    (by cases d <;> exact View.wordExact_bits rfl) (by cases d <;> exact View.wordExact_bits rfl)) fun _ => K
/-- The wait for a later send of the second phase to have left. -/
def waitSendAG (d : Bool) (c : Dev nD) (t : Fin 7) (k : Fin 2) (K : PR F) : PR F :=
  Prog.op (.waitDma2 (sendS d (sl (t.val + 1)) k) (agO d c t k) (agO d c t k)
    (by cases d <;> exact View.wordExact_bits rfl) (by cases d <;> exact View.wordExact_bits rfl)) fun _ => K

/-- The accumulation of an arrived block of the first phase. -/
def addRS (d : Bool) (c : Dev nD) (s : Fin 7) (k : Fin 2) (K : PR F) : PR F := match d with
  | false =>
    Prog.op (.load aM (Rect.unit (s := S4096x2048) (k0_off11 c (w32 s.val) (w32 (128 * k.val))) S128x2048.size (k0_off11_inb c s k)).toLoadRect (View.loadsAt_vmem h_S128x2048)) fun (x : Vec F S128x2048 .f32) =>
    Prog.op (.load (rM false) (recvR (sl s.val) k).toLoadRect (View.loadsAt_vmem h_S1x1x128x2048)) fun (y : Vec F S1x1x128x2048 .f32) =>
    Prog.op (.load aM (Rect.unit (s := S4096x2048) (k0_off11 c (w32 s.val) (w32 (128 * k.val))) S128x2048.size (k0_off11_inb c s k)).toLoadRect (View.loadsAt_vmem h_S128x2048)) fun _ =>
    Prog.op (.store aM (Rect.unit (s := S4096x2048) (k0_off11 c (w32 s.val) (w32 (128 * k.val))) S128x2048.size (k0_off11_inb c s k)) (k0_pay9 x y) Finset.univ (View.stores_vmem_bits_univ h_S128x2048 rfl) (.inl rfl)) fun _ => K
  | true =>
    Prog.op (.load aM (Rect.unit (s := S4096x2048) (k0_off12 c (w32 s.val) (w32 (128 * k.val))) S128x2048.size (k0_off12_inb c s k)).toLoadRect (View.loadsAt_vmem h_S128x2048)) fun (x : Vec F S128x2048 .f32) =>
    Prog.op (.load (rM true) (recvR (sl s.val) k).toLoadRect (View.loadsAt_vmem h_S1x1x128x2048)) fun (y : Vec F S1x1x128x2048 .f32) =>
    Prog.op (.load aM (Rect.unit (s := S4096x2048) (k0_off12 c (w32 s.val) (w32 (128 * k.val))) S128x2048.size (k0_off12_inb c s k)).toLoadRect (View.loadsAt_vmem h_S128x2048)) fun _ =>
    Prog.op (.store aM (Rect.unit (s := S4096x2048) (k0_off12 c (w32 s.val) (w32 (128 * k.val))) S128x2048.size (k0_off12_inb c s k)) (k0_pay9 x y) Finset.univ (View.stores_vmem_bits_univ h_S128x2048 rfl) (.inl rfl)) fun _ => K

/-- The copy of a direction's own finished chunk to the result, started and awaited. -/
def flushOwn (d : Bool) (c : Dev nD) (K : PR F) : PR F :=
  Prog.op (.enqueueDma (ownA d c) (.here (ownO d c)) (.dma (ownS d)) (by cases d <;> exact View.wordExact_bits rfl) (by cases d <;> exact View.wordExact_bits rfl) ⟨Or.inl rfl, trivial⟩) fun _ => K
def waitOwn (d : Bool) (c : Dev nD) (K : PR F) : PR F :=
  Prog.op (.waitDma2 (ownS d) (ownA d c) (ownO d c) (by cases d <;> exact View.wordExact_bits rfl) (by cases d <;> exact View.wordExact_bits rfl)) fun _ => K

/-- Granting the neighbours their next sends: `n` units to each. -/
def grant (c : Dev nD) (n : Int) (K : PR F) : PR F :=
  Prog.op (.semSignal (Dev.tc (nxP true c)) (readyS false) n) fun _ => Prog.op (.semSignal (Dev.tc (nxP false c)) (readyS true) n) fun _ => K
/-- Waiting for both grants. -/
def waitReady (K : PR F) : PR F :=
  Prog.op (.semWait (readyS false) 1) fun _ => Prog.op (.semWait (readyS true) 1) fun _ => K

/-! ## The steps -/

/-- A half of the prologue: the two own products, the two first sends. -/
def pre (c : Dev nD) (k : Fin 2) (K : PR F) : PR F :=
  gemmOwn false c k <| gemmOwn true c k <| sendRS false c 0 k <| sendRS true c 0 k K

/-- The sends of step `s + 1` of the first phase, after the sends of step `s - 1` have left. -/
def halfSends (c : Dev nD) (s : Fin 7) (k : Fin 2) (K : PR F) : PR F :=
  let K' : PR F := if h : s.val + 1 < 7 then sendRS false c ⟨s.val + 1, h⟩ k <| sendRS true c ⟨s.val + 1, h⟩ k K else sendAG0 false c k <| sendAG0 true c k K
  if h : 0 < s.val then waitSendRS false c ⟨s.val - 1, by omega⟩ k <| waitSendRS true c ⟨s.val - 1, by omega⟩ k K' else K'

/-- A half of a step of the first phase. -/
def halfRS (c : Dev nD) (s : Fin 7) (k : Fin 2) (K : PR F) : PR F :=
  waitRS false c s k <| addRS false c s k <| waitRS true c s k <| addRS true c s k <|
    if s.val = 6 ∧ k.val = 1 then flushOwn false c <| flushOwn true c <| halfSends c s k K else halfSends c s k K

/-- A step of the first phase. -/
def stepRS (c : Dev nD) (s : Fin 7) (K : PR F) : PR F :=
  gemmNext false c s <| gemmNext true c s <| waitReady <| halfRS c s 0 <| halfRS c s 1 <| grant c 1 K

/-- A half of step `7 + t` of the second phase: the arrivals; then the sends of the step before having left, the next sends. -/
def arriveAG (c : Dev nD) (t : Fin 7) (k : Fin 2) (K : PR F) : PR F :=
  if t.val = 0 then waitAG0 false c k <| waitAG0 true c k K else waitAG false c t k <| waitAG true c t k K
/-- The sends of step `6 + t`, awaited. -/
def leftAG (c : Dev nD) (t : Fin 7) (k : Fin 2) (K : PR F) : PR F :=
  if t.val = 0 then waitSendRS false c 6 k <| waitSendRS true c 6 k K
  else if t.val = 1 then waitSendAG0 false c k <| waitSendAG0 true c k K
  else waitSendAG false c ⟨t.val - 1, by omega⟩ k <| waitSendAG true c ⟨t.val - 1, by omega⟩ k K
/-- A half of a step of the second phase that is not its last. -/
def halfAG (c : Dev nD) (t : Fin 6) (k : Fin 2) (K : PR F) : PR F :=
  arriveAG c t.castSucc k <| leftAG c t.castSucc k <| sendAG false c t.succ k <| sendAG true c t.succ k K

/-- A step of the second phase that is not its last; the last grant is of step 11. -/
def stepAG (c : Dev nD) (t : Fin 6) (K : PR F) : PR F :=
  waitReady <| halfAG c t 0 <| halfAG c t 1 <| if t.val < 5 then grant c 1 K else K

/-- The last step and the epilogue. -/
def fini (c : Dev nD) : PR F :=
  arriveAG c 6 0 <| arriveAG c 6 1 <|
  waitSendAG false c 5 0 <| waitSendAG true c 5 0 <| waitSendAG false c 5 1 <| waitSendAG true c 5 1 <|
  waitSendAG false c 6 0 <| waitSendAG true c 6 0 <| waitSendAG false c 6 1 <| waitSendAG true c 6 1 <|
  waitOwn false c <| waitOwn true c <| Prog.ret ⟨⟩

/-- The handshake with both neighbours. -/
def barrier (c : Dev nD) (K : PR F) : PR F :=
  Prog.op (.semSignal (Dev.tc (nxP true c)) barS 1) fun _ => Prog.op (.semSignal (Dev.tc (nxP false c)) barS 1) fun _ =>
  Prog.op (.semWait barS 2) fun _ => K

/-- The first phase's steps from `s` on, the second's, each a chain. -/
def loopAG (c : Dev nD) : PR F :=
  stepAG c 0 <| stepAG c 1 <| stepAG c 2 <| stepAG c 3 <| stepAG c 4 <| stepAG c 5 <| fini c
def loopRS (c : Dev nD) : PR F :=
  stepRS c 0 <| stepRS c 1 <| stepRS c 2 <| stepRS c 3 <| stepRS c 4 <| stepRS c 5 <| stepRS c 6 <| loopAG c

/-- The whole body on device `c`. -/
def prog (c : Dev nD) : PR F :=
  barrier c <| grant c 2 <| waitReady <| pre c 0 <| pre c 1 <| loopRS c

set_option maxRecDepth 100000 in
/-- The printed body is that program. -/
theorem body_eq : (cc0_body (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 cc0_scratch7 cc0_scratch8 cc0_scratch9 : PR F)
    = Prog.op .deviceId fun c => prog c := by
  chain_rfl

end Cert.RingProof

end
-- ==== Proof.Base.lean ====
/-
# Chunks, blocks and semaphore cells

The two rings are described by one set of formulas, indexed by a direction. On device `c`, send number `n` (of fourteen)
of direction `d` carries chunk `ch d c n`; what arrives in step `n` is chunk `ch d c (n + 1)`. This module fixes those
formulas, the rectangles of the blocks, the finite list of semaphore cells of a device, and proves that the program's
own offset arithmetic names these blocks.
-/
module

public import proofs.«01_k».proof.Proof.Prog
public import Mathlib.Data.Fintype.Sum
public import Mathlib.Data.Fintype.Basic
public import Mathlib.Data.Fintype.Prod

@[expose] public section

noncomputable section

namespace Cert.RingProof

open Cert.KernelIdeal Cert.KernelIdeal.Gen

open Idealize.ShloMosaic
open Idealize.ShloMosaic.TcCoe
open Idealize.SL Idealize.SL.Sem

/-! ## Devices and chunks -/

theorem nxP_false (c : Dev nD) : (nxP false c).val = (c.val + 1) % 8 := k0_dev5_eq c
theorem nxP_true (c : Dev nD) : (nxP true c).val = (c.val + 7) % 8 := k0_dev6_eq c

/-- The two neighbours are opposite: going one way and back. -/
theorem nx_back (d : Bool) (c : Dev nD) : nxP (!d) (nxP d c) = c := by
  have h := c.isLt
  have h8 : nD = 8 := rfl
  apply Fin.ext
  cases d
  · show (nxP true (nxP false c)).val = _; rw [nxP_true, nxP_false]; omega
  · show (nxP false (nxP true c)).val = _; rw [nxP_false, nxP_true]; omega
theorem nx_back' (d : Bool) (c : Dev nD) : nxP d (nxP (!d) c) = c := by
  have := nx_back (!d) c; rwa [Bool.not_not] at this

/-- Moving every device one step in a direction. -/
def ringE (d : Bool) : Dev nD ≃ Dev nD := ⟨nxP d, nxP (!d), nx_back d, nx_back' d⟩

/-- The chunk that device `c`'s send number `n` of direction `d` carries. -/
def ch (d : Bool) (c : Dev nD) (n : ℕ) : Fin 8 := ⟨(c.val + (if d then n else 7 * n)) % 8, Nat.mod_lt _ (by decide)⟩

theorem ch_next (d : Bool) (c : Dev nD) (n : ℕ) : ch d (nxP d c) (n + 1) = ch d c n := by
  apply Fin.ext
  cases d
  · show ((nxP false c).val + 7 * (n + 1)) % 8 = (c.val + 7 * n) % 8; rw [nxP_false]; omega
  · show ((nxP true c).val + (n + 1)) % 8 = (c.val + n) % 8; rw [nxP_true]; omega
theorem ch_prev (d : Bool) (c : Dev nD) (n : ℕ) : ch d (nxP (!d) c) n = ch d c (n + 1) := by
  conv_rhs => rw [← nx_back' d c]
  exact (ch_next d _ n).symm
theorem ch_add8 (d : Bool) (c : Dev nD) (n : ℕ) : ch d c (n + 8) = ch d c n := by
  apply Fin.ext; cases d <;> simp only [ch] <;> simp <;> omega
theorem ch_zero (d : Bool) (c : Dev nD) : (ch d c 0).val = c.val := by
  have h := c.isLt
  have h8 : nD = 8 := rfl
  cases d <;> simp only [ch] <;> simp <;> omega

/-- How many steps after device `h` the ring of direction `d` reaches device `c`. -/
def dist (d : Bool) (h : Fin 8) (c : Dev nD) : ℕ := (h.val + (if d then 7 * c.val else c.val) + (if d then 0 else 6 * h.val)) % 8

/-- The distance recovers the number of the send that carries a chunk. -/
theorem dist_ch (d : Bool) (c : Dev nD) (n : ℕ) (hn : n < 8) : dist d (ch d c n) c = n := by
  have h := c.isLt
  have h8 : nD = 8 := rfl
  cases d <;> simp [ch, dist] <;> omega
theorem ch_dist (d : Bool) (c : Dev nD) (h : Fin 8) : ch d c (dist d h c) = h := by
  have h1 := c.isLt
  have h2 := h.isLt
  have h8 : nD = 8 := rfl
  apply Fin.ext
  cases d <;> simp [ch, dist] <;> omega
theorem dist_lt (d : Bool) (h : Fin 8) (c : Dev nD) : dist d h c < 8 := Nat.mod_lt _ (by decide)

/-! ## Blocks -/

/-- The first row of chunk `h` of direction `d`, and of its half `k`. -/
def rc (d : Bool) (h : Fin 8) : ℕ := (if d then 2048 else 0) + 256 * h.val
def rb (d : Bool) (h : Fin 8) (k : Fin 2) : ℕ := rc d h + 128 * k.val

theorem rc_le (d : Bool) (h : Fin 8) : rc d h + 256 ≤ 4096 := by have := h.isLt; unfold rc; cases d <;> simp <;> omega
theorem rb_le (d : Bool) (h : Fin 8) (k : Fin 2) : rb d h k + 128 ≤ 4096 := by have := rc_le d h; have := k.isLt; unfold rb; omega

theorem inbC (n : ℕ) (hn : n + 256 ≤ 4096) : ∀ a, (![n, 0] : Fin 2 → Nat) a + S256x2048.size a ≤ S4096x2048.size a := by
  intro a; fin_cases a
  · exact hn
  · exact Nat.le_refl 2048
theorem inbB (n : ℕ) (hn : n + 128 ≤ 4096) : ∀ a, (![n, 0] : Fin 2 → Nat) a + S128x2048.size a ≤ S4096x2048.size a := by
  intro a; fin_cases a
  · exact hn
  · exact Nat.le_refl 2048

/-- The rectangle of a whole chunk, and of half a chunk. -/
abbrev chR (d : Bool) (h : Fin 8) : Rect S4096x2048 := Rect.unit (s := S4096x2048) ![rc d h, 0] S256x2048.size (inbC _ (rc_le d h))
abbrev blkR (d : Bool) (h : Fin 8) (k : Fin 2) : Rect S4096x2048 := Rect.unit (s := S4096x2048) ![rb d h k, 0] S128x2048.size (inbB _ (rb_le d h k))

/-- A half-chunk of the accumulator, and of the result. -/
abbrev accB (d : Bool) (h : Fin 8) (k : Fin 2) : Blk .vmem := aM.slice (blkR d h k) (fun _ => rfl)
abbrev outB (d : Bool) (h : Fin 8) (k : Fin 2) : Blk .hbm := oM.slice (blkR d h k) (fun _ => rfl)

theorem slice_unit_congr {κ : Idealize.ShloMosaic.Kind} {sp : Space} {s : Shape} {e : EltTy} (M : Memref sig κ sp s e) {off off' size : Fin s.rank → Nat} (h : off = off')
    (i : ∀ a, off a + size a ≤ s.size a) (i' : ∀ a, off' a + size a ≤ s.size a) :
    M.slice (Rect.unit (s := s) off size i) (fun _ => rfl) = M.slice (Rect.unit (s := s) off' size i') (fun _ => rfl) := by
  subst h; rfl
theorem rect_unit_congr {s : Shape} {off off' size : Fin s.rank → Nat} (h : off = off')
    (i : ∀ a, off a + size a ≤ s.size a) (i' : ∀ a, off' a + size a ≤ s.size a) :
    Rect.unit (s := s) off size i = Rect.unit (s := s) off' size i' := by
  subst h; rfl

theorem vec_congr {a b : ℕ} (h : a = b) : (![a, 0] : Fin 2 → Nat) = ![b, 0] := by rw [h]

/-- Closed forms of the row offsets, direction by direction. -/
theorem off5_eq (c : Dev nD) (s : Fin 7) (k : Fin 2) : k0_off5 c (w32 s.val) (w32 (128 * k.val)) = ![rb false (ch false c s.val) k, 0] := by
  rw [k0_off5_eq]; exact vec_congr (by have := s.isLt; have := c.isLt; simp [rb, rc, ch]; omega)
theorem off6_eq (c : Dev nD) (s : Fin 7) (k : Fin 2) : k0_off6 c (w32 s.val) (w32 (128 * k.val)) = ![rb true (ch true c s.val) k, 0] := by
  rw [k0_off6_eq]; exact vec_congr (by have := s.isLt; have := c.isLt; simp [rb, rc, ch]; omega)
theorem off11_eq (c : Dev nD) (s : Fin 7) (k : Fin 2) : k0_off11 c (w32 s.val) (w32 (128 * k.val)) = ![rb false (ch false c (s.val + 1)) k, 0] := by
  rw [k0_off11_eq]; exact vec_congr (by have := s.isLt; have := c.isLt; simp [rb, rc, ch]; omega)
theorem off12_eq (c : Dev nD) (s : Fin 7) (k : Fin 2) : k0_off12 c (w32 s.val) (w32 (128 * k.val)) = ![rb true (ch true c (s.val + 1)) k, 0] := by
  rw [k0_off12_eq]; exact vec_congr (by have := s.isLt; have := c.isLt; simp [rb, rc, ch]; omega)
theorem off13_eq (c : Dev nD) (t : Fin 7) (k : Fin 2) : k0_off13 c (w32 t.val) (w32 (128 * k.val)) = ![rb false (ch false c (7 + t.val)) k, 0] := by
  rw [k0_off13_eq]; exact vec_congr (by have := t.isLt; have := c.isLt; simp [rb, rc, ch]; omega)
theorem off14_eq (c : Dev nD) (t : Fin 7) (k : Fin 2) : k0_off14 c (w32 t.val) (w32 (128 * k.val)) = ![rb true (ch true c (7 + t.val)) k, 0] := by
  rw [k0_off14_eq]; exact vec_congr (by have := t.isLt; have := c.isLt; simp [rb, rc, ch]; omega)
theorem off15_eq (c : Dev nD) : k0_off15 c = ![rc false (ch false c 7), 0] := by
  rw [k0_off15_eq]; exact vec_congr (by have := c.isLt; simp [rc, ch]; omega)
theorem off16_eq (c : Dev nD) : k0_off16 c = ![rc true (ch true c 7), 0] := by
  rw [k0_off16_eq]; exact vec_congr (by have := c.isLt; simp [rc, ch]; omega)

/-- The source of send `s` of the first phase is the half-chunk `ch d c s` of the accumulator. -/
theorem sendP_eq (d : Bool) (c : Dev nD) (s : Fin 7) (k : Fin 2) : sendP d c s k = accB d (ch d c s.val) k := by
  cases d
  · exact slice_unit_congr aM (off5_eq c s k) _ _
  · exact slice_unit_congr aM (off6_eq c s k) _ _
theorem agA_eq (d : Bool) (c : Dev nD) (t : Fin 7) (k : Fin 2) : agA d c t k = accB d (ch d c (7 + t.val)) k := by
  cases d
  · exact slice_unit_congr aM (off13_eq c t k) _ _
  · exact slice_unit_congr aM (off14_eq c t k) _ _
theorem agO_eq (d : Bool) (c : Dev nD) (t : Fin 7) (k : Fin 2) : agO d c t k = outB d (ch d c (7 + t.val)) k := by
  cases d
  · exact slice_unit_congr oM (off13_eq c t k) _ _
  · exact slice_unit_congr oM (off14_eq c t k) _ _
theorem ownA_eq (d : Bool) (c : Dev nD) : ownA d c = aM.slice (chR d (ch d c 7)) (fun _ => rfl) := by
  cases d
  · exact slice_unit_congr aM (off15_eq c) _ _
  · exact slice_unit_congr aM (off16_eq c) _ _
theorem ownO_eq (d : Bool) (c : Dev nD) : ownO d c = oM.slice (chR d (ch d c 7)) (fun _ => rfl) := by
  cases d
  · exact slice_unit_congr oM (off15_eq c) _ _
  · exact slice_unit_congr oM (off16_eq c) _ _
theorem addR_eq (d : Bool) (c : Dev nD) (s : Fin 7) (k : Fin 2) : addR d c s k = blkR d (ch d c (s.val + 1)) k := by
  cases d
  · exact rect_unit_congr (off11_eq c s k) _ _
  · exact rect_unit_congr (off12_eq c s k) _ _

/-! ## The semaphore cells of a device -/

/-- A lane: a direction, a half-chunk, and the slot (parity) of a transfer. -/
abbrev LK : Type := Bool × Fin 2 × Fin 2
/-- The cells: the barrier; a direction's grants; a direction's own copy; a lane's sends; a lane's receipts. -/
abbrev Kd : Type := Unit ⊕ Bool ⊕ Bool ⊕ LK ⊕ LK
abbrev kBar : Kd := .inl ()
abbrev kRdy (d : Bool) : Kd := .inr (.inl d)
abbrev kOwn (d : Bool) : Kd := .inr (.inr (.inl d))
abbrev kSnd (d : Bool) (k j : Fin 2) : Kd := .inr (.inr (.inr (.inl (d, k, j))))
abbrev kRcv (d : Bool) (k j : Fin 2) : Kd := .inr (.inr (.inr (.inr (d, k, j))))

/-- The semaphore of a cell. -/
def csem : Kd → SemLoc sig
  | .inl _ => .reg barS
  | .inr (.inl d) => .reg (readyS d)
  | .inr (.inr (.inl d)) => .dma (ownS d)
  | .inr (.inr (.inr (.inl (d, k, j)))) => .dma (sendS d j k)
  | .inr (.inr (.inr (.inr (d, k, j)))) => .dma (recvS d j k)

instance : DecidableEq Kd := @instDecidableEqSum _ _ _ (@instDecidableEqSum _ _ _ (@instDecidableEqSum _ _ _ (@instDecidableEqSum _ _ _ _)))

theorem csem_inj : Function.Injective csem := by
  have h : ∀ a b : Kd, csem a = csem b → a = b := by decide
  exact fun a b => h a b

/-- The cell of device `c`. -/
abbrev cell (c : Dev nD) (κ : Kd) : GSem nD τ sig := ((c : Thread nD τ), csem κ)

theorem cell_inj {c c' : Dev nD} {κ κ' : Kd} (h : cell c κ = cell c' κ') : c = c' ∧ κ = κ' :=
  ⟨congrArg (fun g : GSem nD τ sig => g.1.1) h, csem_inj (congrArg Prod.snd h)⟩

/-- The credit of a half-chunk's transfer, and of a whole chunk's. -/
def NB : ℕ := (accB false 0 0).view.dmaCredit
def NC : ℕ := (ownA false 0).view.dmaCredit

theorem NB_pos : 0 < NB := View.dmaCredit_pos _ (by decide)
theorem NC_pos : 0 < NC := View.dmaCredit_pos _ (by decide)

theorem credit_acc (d : Bool) (h : Fin 8) (k : Fin 2) : (accB d h k).view.dmaCredit = NB := rfl
theorem credit_out (d : Bool) (h : Fin 8) (k : Fin 2) : (outB d h k).view.dmaCredit = NB := rfl
theorem credit_recv (d : Bool) (j k : Fin 2) : (recvB d j k).view.dmaCredit = NB := by cases d <;> rfl

end Cert.RingProof

end
-- ==== Proof.Values.lean ====
/-
# What the blocks hold

Device `c` holds `X c`, its columns of the left matrix, and `Wt c`, its rows of the right one. `PB c` is its own partial
product, `AB c` what its accumulator holds on a chunk once the partial sums of the devices before it on the ring have been
added, and `G` the finished sum. This module also proves that the program's loads, stores and transfers on a block
produce exactly these contents.
-/
module

public import proofs.«01_k».proof.Proof.Base
public import Idealize.ShloMosaic.Lib.Pipeline.Value

@[expose] public section

noncomputable section

namespace Cert.RingProof

open Cert.KernelIdeal Cert.KernelIdeal.Gen

open Idealize.ShloMosaic
open Idealize.ShloMosaic.TcCoe
open Idealize.SL Idealize.SL.Sem

variable {F : FTy → Type} [FloatOps F]

/-! ## The block of a row -/

/-- The direction, the chunk and the half of a row. -/
def dR (r : ℕ) : Bool := decide (2048 ≤ r)
def hR (r : ℕ) : Fin 8 := ⟨r % 2048 / 256, by omega⟩
def kR (r : ℕ) : Fin 2 := ⟨r % 256 / 128, by omega⟩

theorem dR_eq (d : Bool) (h : Fin 8) (n : ℕ) (hn : n < 256) : dR (rc d h + n) = d := by
  have := h.isLt; cases d <;> simp [dR, rc] <;> omega
theorem hR_eq (d : Bool) (h : Fin 8) (n : ℕ) (hn : n < 256) : hR (rc d h + n) = h := by
  have := h.isLt; apply Fin.ext; cases d <;> simp [hR, rc] <;> omega
theorem kR_eq (d : Bool) (h : Fin 8) (k : Fin 2) (n : ℕ) (hn : n < 128) : kR (rb d h k + n) = k := by
  have := h.isLt; have := k.isLt; apply Fin.ext; cases d <;> simp [kR, rb, rc] <;> omega

/-- A row lies in its block. -/
theorem row_mem (r : ℕ) (hr : r < 4096) : rb (dR r) (hR r) (kR r) ≤ r ∧ r < rb (dR r) (hR r) (kR r) + 128 := by
  by_cases h : 2048 ≤ r <;> simp [dR, hR, kR, rb, rc, h] <;> omega

/-- Row `r` within its half-chunk, and within its chunk. -/
def lB (i : S4096x2048.Idx) : S128x2048.Idx := fun a => match a with
  | ⟨0, _⟩ => (⟨(i 0).val % 128, Nat.mod_lt _ (by decide)⟩ : Fin 128)
  | ⟨1, _⟩ => (⟨(i 1).val, (i 1).isLt⟩ : Fin 2048)
def lC (i : S4096x2048.Idx) : S256x2048.Idx := fun a => match a with
  | ⟨0, _⟩ => (⟨(i 0).val % 256, Nat.mod_lt _ (by decide)⟩ : Fin 256)
  | ⟨1, _⟩ => (⟨(i 1).val, (i 1).isLt⟩ : Fin 2048)

theorem lB_emb (d : Bool) (h : Fin 8) (k : Fin 2) (y : S128x2048.Idx) : lB ((blkR d h k).emb y) = y := by
  funext a; apply Fin.ext; fin_cases a
  · have hy : (y 0).val < 128 := (y 0).isLt
    show (rb d h k + 1 * (y 0).val) % 128 = (y 0).val
    cases d <;> simp [rb, rc] <;> omega
  · show 0 + 1 * (y 1).val = (y 1).val; omega
theorem lC_emb (d : Bool) (h : Fin 8) (y : S256x2048.Idx) : lC ((chR d h).emb y) = y := by
  funext a; apply Fin.ext; fin_cases a
  · have hy : (y 0).val < 256 := (y 0).isLt
    show (rc d h + 1 * (y 0).val) % 256 = (y 0).val
    cases d <;> simp [rc] <;> omega
  · show 0 + 1 * (y 1).val = (y 1).val; omega

/-- Membership in a block or a chunk is a matter of rows. -/
theorem mem_blk {d : Bool} {h : Fin 8} {k : Fin 2} {i : S4096x2048.Idx} :
    i ∈ (blkR d h k).set ↔ rb d h k ≤ (i 0).val ∧ (i 0).val < rb d h k + 128 := by
  rw [Rect.mem_set_unit]
  constructor
  · intro H; exact H 0
  · intro H a; fin_cases a
    · exact H
    · exact ⟨Nat.zero_le _, by have : (i 1).val < 2048 := (i 1).isLt; show (i 1).val < 0 + 2048; omega⟩
theorem mem_ch {d : Bool} {h : Fin 8} {i : S4096x2048.Idx} :
    i ∈ (chR d h).set ↔ rc d h ≤ (i 0).val ∧ (i 0).val < rc d h + 256 := by
  rw [Rect.mem_set_unit]
  constructor
  · intro H; exact H 0
  · intro H a; fin_cases a
    · exact H
    · exact ⟨Nat.zero_le _, by have : (i 1).val < 2048 := (i 1).isLt; show (i 1).val < 0 + 2048; omega⟩

theorem blk_dR {d : Bool} {h : Fin 8} {k : Fin 2} {i : S4096x2048.Idx} (hi : i ∈ (blkR d h k).set) :
    dR (i 0).val = d ∧ hR (i 0).val = h ∧ kR (i 0).val = k := by
  obtain ⟨h1, h2⟩ := mem_blk.mp hi
  have hk := k.isLt
  have e : (i 0).val = rc d h + (128 * k.val + ((i 0).val - rb d h k)) := by unfold rb at *; omega
  have e' : (i 0).val = rb d h k + ((i 0).val - rb d h k) := by omega
  refine ⟨?_, ?_, ?_⟩
  · rw [e]; exact dR_eq d h _ (by omega)
  · rw [e]; exact hR_eq d h _ (by omega)
  · rw [e']; exact kR_eq d h k _ (by omega)
theorem ch_dR {d : Bool} {h : Fin 8} {i : S4096x2048.Idx} (hi : i ∈ (chR d h).set) :
    dR (i 0).val = d ∧ hR (i 0).val = h := by
  obtain ⟨h1, h2⟩ := mem_ch.mp hi
  have e : (i 0).val = rc d h + ((i 0).val - rc d h) := by omega
  refine ⟨?_, ?_⟩
  · rw [e]; exact dR_eq d h _ (by omega)
  · rw [e]; exact hR_eq d h _ (by omega)

/-- A chunk is its two halves. -/
theorem ch_union (d : Bool) (h : Fin 8) : (chR d h).set = (blkR d h 0).set ∪ (blkR d h 1).set := by
  ext i
  rw [Finset.mem_union, mem_ch, mem_blk, mem_blk]
  simp [rb]; omega
theorem blk_sub (d : Bool) (h : Fin 8) (k : Fin 2) : (blkR d h k).set ⊆ (chR d h).set := fun i hi => by
  have hk := k.isLt
  have := mem_blk.mp hi
  refine mem_ch.mpr ?_
  unfold rb at this; omega
theorem blk_disjoint {d d' : Bool} {h h' : Fin 8} {k k' : Fin 2} (hne : (d, h, k) ≠ (d', h', k')) :
    Disjoint (blkR d h k).set (blkR d' h' k').set := by
  refine Finset.disjoint_left.mpr fun i hi hi' => hne ?_
  obtain ⟨a1, a2, a3⟩ := blk_dR hi
  obtain ⟨b1, b2, b3⟩ := blk_dR hi'
  rw [← a1, ← a2, ← a3, ← b1, ← b2, ← b3]
theorem blk_cover (i : S4096x2048.Idx) : i ∈ (blkR (dR (i 0).val) (hR (i 0).val) (kR (i 0).val)).set :=
  mem_blk.mpr (row_mem _ (i 0).isLt)

/-! ## The contents -/

abbrev OV (F : FTy → Type) := Vec F S4096x2048 .f32

theorem inbX128 (d : Bool) (h : Fin 8) (k : Fin 2) : ∀ a, (![rb d h k, 0] : Fin 2 → Nat) a + S128x512.size a ≤ S4096x512.size a := by
  intro a; fin_cases a
  · exact rb_le d h k
  · exact Nat.le_refl 512
theorem inbX256 (d : Bool) (h : Fin 8) : ∀ a, (![rc d h, 0] : Fin 2 → Nat) a + S256x512.size a ≤ S4096x512.size a := by
  intro a; fin_cases a
  · exact rc_le d h
  · exact Nat.le_refl 512
/-- The rows of the left matrix a product reads. -/
abbrev xR128 (d : Bool) (h : Fin 8) (k : Fin 2) : Rect S4096x512 := Rect.unit (s := S4096x512) ![rb d h k, 0] S128x512.size (inbX128 d h k)
abbrev xR256 (d : Bool) (h : Fin 8) : Rect S4096x512 := Rect.unit (s := S4096x512) ![rc d h, 0] S256x512.size (inbX256 d h)

section Contents

variable (X : Dev nD → Vec F S4096x512 .f32) (Wt : Dev nD → Vec F S512x2048 .f32)

/-- The products the program computes, by 128 and by 256 rows. -/
def p128 (c : Dev nD) (d : Bool) (h : Fin 8) (k : Fin 2) : Vec F S128x2048 .f32 :=
  k0_pay3 (xM.view.readAt (Elt F) (xR128 d h k).toLoadRect (X c)) (wM.view.readAt (Elt F) wR.toLoadRect (Wt c))
def p256 (c : Dev nD) (d : Bool) (h : Fin 8) : Vec F S256x2048 .f32 :=
  k0_pay6 (xM.view.readAt (Elt F) (xR256 d h).toLoadRect (X c)) (wM.view.readAt (Elt F) wR.toLoadRect (Wt c))

/-- Device `c`'s own partial product. -/
def PB (c : Dev nD) : OV F := fun i =>
  if (hR (i 0).val).val = c.val then p128 X Wt c (dR (i 0).val) (hR (i 0).val) (kR (i 0).val) (lB i)
  else p256 X Wt c (dR (i 0).val) (hR (i 0).val) (lC i)

/-- The sum of the partial products of device `c` and of the `n` devices before it in direction `d`. -/
def accN (d : Bool) : ℕ → Dev nD → OV F
  | 0, c => PB X Wt c
  | n + 1, c => addf (s := S4096x2048) (φ := .f32) (PB X Wt c) (accN d n (nxP (!d) c))

/-- What device `c`'s accumulator holds of a chunk when it sends it. -/
def AB (c : Dev nD) : OV F := fun i => accN X Wt (dR (i 0).val) (dist (dR (i 0).val) (hR (i 0).val) c) c i

/-- The device whose accumulator finishes a chunk. -/
def owner (d : Bool) (h : Fin 8) : Dev nD := nxP (!d) ⟨h.val, h.isLt⟩

/-- The finished sum. -/
def G : OV F := fun i => accN X Wt (dR (i 0).val) 7 (owner (dR (i 0).val) (hR (i 0).val)) i

theorem owner_ch (d : Bool) (c : Dev nD) : owner d (ch d c 7) = c := by
  have h := c.isLt
  have h8 : nD = 8 := rfl
  apply Fin.ext
  unfold owner
  cases d
  · show (nxP true _).val = _; rw [nxP_true]; simp [ch]; omega
  · show (nxP false _).val = _; rw [nxP_false]; simp [ch]; omega

theorem AB_of_mem {d : Bool} {c : Dev nD} {n : ℕ} (hn : n < 8) {i : S4096x2048.Idx} (hi : i ∈ (chR d (ch d c n)).set) :
    AB X Wt c i = accN X Wt d n c i := by
  obtain ⟨a1, a2⟩ := ch_dR hi
  unfold AB; rw [a1, a2, dist_ch d c n hn]

/-- On the chunk a device starts with, the sum is its own product. -/
theorem AB_zero {d : Bool} {c : Dev nD} {i : S4096x2048.Idx} (hi : i ∈ (chR d (ch d c 0)).set) : AB X Wt c i = PB X Wt c i := by
  rw [AB_of_mem X Wt (by decide) hi]; rfl
/-- On a later chunk it is its own product plus what the device before sends. -/
theorem AB_succ {d : Bool} {c : Dev nD} {n : ℕ} (hn : n < 7) {i : S4096x2048.Idx} (hi : i ∈ (chR d (ch d c (n + 1))).set) :
    AB X Wt c i = addf (s := S4096x2048) (φ := .f32) (PB X Wt c) (AB X Wt (nxP (!d) c)) i := by
  rw [AB_of_mem X Wt (by omega) hi]
  have e : AB X Wt (nxP (!d) c) i = accN X Wt d n (nxP (!d) c) i := AB_of_mem X Wt (by omega) (by rw [ch_prev]; exact hi)
  show FloatOps.addf (PB X Wt c i) (accN X Wt d n (nxP (!d) c) i) = FloatOps.addf (PB X Wt c i) (AB X Wt (nxP (!d) c) i)
  rw [e]
/-- On the last chunk the sum is finished. -/
theorem AB_last {d : Bool} {c : Dev nD} {i : S4096x2048.Idx} (hi : i ∈ (chR d (ch d c 7)).set) : AB X Wt c i = G X Wt i := by
  rw [AB_of_mem X Wt (by decide) hi]
  obtain ⟨a1, a2⟩ := ch_dR hi
  unfold G; rw [a1, a2, owner_ch]

theorem ch_val_ne (d : Bool) (c : Dev nD) (n : ℕ) (hn : n < 7) : (ch d c (n + 1)).val ≠ c.val := by
  have h := c.isLt
  have h8 : nD = 8 := rfl
  cases d <;> simp [ch] <;> omega

/-! ## Stores -/

theorem mem_emb {r : Rect S4096x2048} {i : S4096x2048.Idx} (hi : i ∈ r.set) : ∃ y, r.emb y = i := by
  rw [← Rect.map_emb_univ] at hi
  obtain ⟨y, -, e⟩ := Finset.mem_map.mp hi
  exact ⟨y, e⟩

/-- A store of 128 rows on the chunk a device starts with. -/
theorem store_p128 (d : Bool) (c : Dev nD) (k : Fin 2) (f : OV F) {i : S4096x2048.Idx} (hi : i ∈ (blkR d (ch d c 0) k).set) :
    (aM.access (blkR d (ch d c 0) k)).write (Elt F) f (p128 X Wt c d (ch d c 0) k) Finset.univ i = PB X Wt c i := by
  obtain ⟨a1, a2, a3⟩ := blk_dR hi
  obtain ⟨y, rfl⟩ := mem_emb hi
  refine ((aM.access (blkR d (ch d c 0) k)).write_emb_of_mem (Val := Elt F) f (p128 X Wt c d (ch d c 0) k) (Finset.mem_univ y)).trans ?_
  unfold PB
  rw [a1, a2, a3, if_pos (ch_zero d c), lB_emb]
  rfl
/-- A store of 256 rows on a later chunk. -/
theorem store_p256 (d : Bool) (c : Dev nD) (n : ℕ) (hn : n < 7) (f : OV F) {i : S4096x2048.Idx} (hi : i ∈ (chR d (ch d c (n + 1))).set) :
    (aM.access (chR d (ch d c (n + 1)))).write (Elt F) f (p256 X Wt c d (ch d c (n + 1))) Finset.univ i = PB X Wt c i := by
  obtain ⟨a1, a2⟩ := ch_dR hi
  obtain ⟨y, rfl⟩ := mem_emb hi
  refine ((aM.access (chR d (ch d c (n + 1)))).write_emb_of_mem (Val := Elt F) f (p256 X Wt c d (ch d c (n + 1))) (Finset.mem_univ y)).trans ?_
  unfold PB
  rw [a1, a2, if_neg (ch_val_ne d c n hn), lC_emb]
  rfl

/-- The accumulation at an index. -/
theorem pay9_apply (x : Vec F S128x2048 .f32) (v : Vec F S1x1x128x2048 .f32) (y : S128x2048.Idx) :
    k0_pay9 x v y = FloatOps.addf (φ := .f32) (x y) (shapeCast (α := Elt F .f32) S128x2048 v shapeCasts_S1x1x128x2048_S128x2048 y) := by
  unfold k0_pay9
  simp only [shapeCast_self]
  rfl

/-- A store of an accumulation on a block, at an index of the block. -/
theorem store_pay9 (r : Rect S4096x2048) (hr : r.shape = S128x2048) (f : OV F) (w : r.shape.Idx → Elt F .f32) (y : r.shape.Idx) :
    (aM.access r).write (Elt F) f w Finset.univ (r.emb y) = w y :=
  (aM.access r).write_emb_of_mem (Val := Elt F) f w (Finset.mem_univ y)

/-- Adding an arrived block: the own product and the arrived partial sum make the next partial sum. -/
theorem store_add (d : Bool) (c : Dev nD) (n : ℕ) (hn : n < 7) (k : Fin 2) (f f' : OV F) (v : Vec F S1x1x128x2048 .f32)
    (hf : ∀ i ∈ (blkR d (ch d c (n + 1)) k).set, f' i = PB X Wt c i)
    (hv : shapeCast (α := Elt F .f32) S128x2048 v shapeCasts_S1x1x128x2048_S128x2048 = (accB d (ch d c (n + 1)) k).view.read (Elt F) (AB X Wt (nxP (!d) c)))
    {i : S4096x2048.Idx} (hi : i ∈ (blkR d (ch d c (n + 1)) k).set) :
    (aM.access (blkR d (ch d c (n + 1)) k)).write (Elt F) f
      (k0_pay9 (aM.view.readAt (Elt F) (blkR d (ch d c (n + 1)) k).toLoadRect f') v) Finset.univ i = AB X Wt c i := by
  have hA : AB X Wt c i = FloatOps.addf (φ := .f32) (PB X Wt c i) (AB X Wt (nxP (!d) c) i) := AB_succ X Wt hn (blk_sub d _ k hi)
  have hf' := hf i hi
  rw [hA, ← hf']
  obtain ⟨y, hy⟩ := mem_emb hi
  have h1 : (aM.access (blkR d (ch d c (n + 1)) k)).write (Elt F) f
      (k0_pay9 (aM.view.readAt (Elt F) (blkR d (ch d c (n + 1)) k).toLoadRect f') v) Finset.univ ((blkR d (ch d c (n + 1)) k).emb y) = _ :=
    store_pay9 (blkR d (ch d c (n + 1)) k) rfl f _ y
  rw [hy] at h1
  have h2 := congrFun hv y
  have h3 : (accB d (ch d c (n + 1)) k).view.read (Elt F) (AB X Wt (nxP (!d) c)) y = AB X Wt (nxP (!d) c) i := by rw [← hy]; rfl
  have h4 : aM.view.readAt (Elt F) (blkR d (ch d c (n + 1)) k).toLoadRect f' y = f' i := by rw [← hy]; rfl
  rw [h1, pay9_apply, h2, h3]
  exact congrArg (fun z => FloatOps.addf (φ := .f32) z _) h4

/-- A block of the accumulator copied to the result, and a block of the result copied to the neighbour's. -/
theorem copy_acc_out (d : Bool) (h : Fin 8) (k : Fin 2) (f g : OV F) {i : S4096x2048.Idx} (hi : i ∈ (blkR d h k).set) :
    (outB d h k).view.write (Elt F) f ((accB d h k).view.read (Elt F) g) Finset.univ i = g i := by
  obtain ⟨y, rfl⟩ := mem_emb hi
  exact (outB d h k).view.write_emb_of_mem (Val := Elt F) f _ (Finset.mem_univ y)
theorem copy_out_out (d : Bool) (h : Fin 8) (k : Fin 2) (f g : OV F) {i : S4096x2048.Idx} (hi : i ∈ (blkR d h k).set) :
    (outB d h k).view.write (Elt F) f ((outB d h k).view.read (Elt F) g) Finset.univ i = g i := by
  obtain ⟨y, rfl⟩ := mem_emb hi
  exact (outB d h k).view.write_emb_of_mem (Val := Elt F) f _ (Finset.mem_univ y)
theorem copy_own (d : Bool) (h : Fin 8) (f g : OV F) {i : S4096x2048.Idx} (hi : i ∈ (chR d h).set) :
    (oM.slice (chR d h) (fun _ => rfl)).view.write (Elt F) f ((aM.slice (chR d h) (fun _ => rfl)).view.read (Elt F) g) Finset.univ i = g i := by
  obtain ⟨y, rfl⟩ := mem_emb hi
  exact (oM.slice (chR d h) (fun _ => rfl)).view.write_emb_of_mem (Val := Elt F) f _ (Finset.mem_univ y)

/-- The rows of a receive half-slot, loaded and reshaped, are what its block view reads. -/
theorem recv_cast (d : Bool) (j k : Fin 2) (f : (rM d).view.ty.Contents (Elt F)) :
    shapeCast (α := Elt F .f32) S128x2048 ((rM d).view.readAt (Elt F) (recvR j k).toLoadRect f) shapeCasts_S1x1x128x2048_S128x2048
      = (recvB d j k).view.read (Elt F) f :=
  (Memref.read_squeeze_slice (rM d) _ _ _ _ f).symm

end Contents

end Cert.RingProof

end
-- ==== Proof.Sched.lean ====
/-
# Who hands what to whom

Every semaphore cell is given a schedule: which contributions it receives, in which round, and what each hands to the
device that waits. A send's receipt carries the block that arrived; it also carries the sender's own destination for the
receiver's next send the other way, so a device learns from what it receives where it may write next.
-/
module

public import proofs.«01_k».proof.Proof.Values

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) ℕ
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Blocks held -/

/-- A half-chunk of the accumulator, of the result; a whole chunk of either; a receive half-slot. -/
def accP (c : Dev nD) (d : Bool) (h : Fin 8) (k : Fin 2) (q : PosShare TreeShare) (f : OV F) : sProp 𝕄 :=
  (accB d h k).view.loc (c : Thread nD τ) ↦[(accB d h k).view.set]{q} f
def outP (c : Dev nD) (d : Bool) (h : Fin 8) (k : Fin 2) (f : OV F) : sProp 𝕄 :=
  (outB d h k).view.loc (c : Thread nD τ) ↦[(outB d h k).view.set]{fullShare} f
def accC (c : Dev nD) (d : Bool) (h : Fin 8) (q : PosShare TreeShare) (f : OV F) : sProp 𝕄 :=
  (aM.slice (chR d h) (fun _ => rfl)).view.loc (c : Thread nD τ) ↦[(aM.slice (chR d h) (fun _ => rfl)).view.set]{q} f
def outC (c : Dev nD) (d : Bool) (h : Fin 8) (f : OV F) : sProp 𝕄 :=
  (oM.slice (chR d h) (fun _ => rfl)).view.loc (c : Thread nD τ) ↦[(oM.slice (chR d h) (fun _ => rfl)).view.set]{fullShare} f
def recvP (c : Dev nD) (d : Bool) (j k : Fin 2) (f : (rM d).view.ty.Contents (Elt F)) : sProp 𝕄 :=
  (recvB d j k).view.loc (c : Thread nD τ) ↦[(recvB d j k).view.set]{fullShare} f

instance accP_storable (c : Dev nD) (d : Bool) (h : Fin 8) (k : Fin 2) (q) (f) : BI.Storable (upEmb : UEmb _ 𝕄) (accP (F := F) c d h k q f) := by unfold accP; infer_instance
instance outP_storable (c : Dev nD) (d : Bool) (h : Fin 8) (k : Fin 2) (f) : BI.Storable (upEmb : UEmb _ 𝕄) (outP (F := F) c d h k f) := by unfold outP; infer_instance
instance accC_storable (c : Dev nD) (d : Bool) (h : Fin 8) (q) (f) : BI.Storable (upEmb : UEmb _ 𝕄) (accC (F := F) c d h q f) := by unfold accC; infer_instance
instance outC_storable (c : Dev nD) (d : Bool) (h : Fin 8) (f) : BI.Storable (upEmb : UEmb _ 𝕄) (outC (F := F) c d h f) := by unfold outC; infer_instance
instance recvP_storable (c : Dev nD) (d : Bool) (j k : Fin 2) (f) : BI.Storable (upEmb : UEmb _ 𝕄) (recvP (F := F) c d j k f) := by unfold recvP; infer_instance

theorem acc_set (d : Bool) (h : Fin 8) (k : Fin 2) : (accB d h k).view.set = (blkR d h k).set := View.set_slice_whole _ _
theorem out_set (d : Bool) (h : Fin 8) (k : Fin 2) : (outB d h k).view.set = (blkR d h k).set := View.set_slice_whole _ _
theorem accC_set (d : Bool) (h : Fin 8) : (aM.slice (chR d h) (fun _ => rfl)).view.set = (chR d h).set := View.set_slice_whole _ _
theorem outC_set (d : Bool) (h : Fin 8) : (oM.slice (chR d h) (fun _ => rfl)).view.set = (chR d h).set := View.set_slice_whole _ _

theorem accP_congr (c : Dev nD) (d : Bool) (h : Fin 8) (k : Fin 2) (q) (f g : OV F) (e : ∀ i ∈ (blkR d h k).set, f i = g i) :
    accP c d h k q f = accP c d h k q g := pointsTo_congr fun i hi => e i (by rw [← acc_set]; exact hi)
theorem outP_congr (c : Dev nD) (d : Bool) (h : Fin 8) (k : Fin 2) (f g : OV F) (e : ∀ i ∈ (blkR d h k).set, f i = g i) :
    outP c d h k f = outP c d h k g := pointsTo_congr fun i hi => e i (by rw [← out_set]; exact hi)
theorem accC_congr (c : Dev nD) (d : Bool) (h : Fin 8) (q) (f g : OV F) (e : ∀ i ∈ (chR d h).set, f i = g i) :
    accC c d h q f = accC c d h q g := pointsTo_congr fun i hi => e i (by rw [← accC_set]; exact hi)
theorem outC_congr (c : Dev nD) (d : Bool) (h : Fin 8) (f g : OV F) (e : ∀ i ∈ (chR d h).set, f i = g i) :
    outC c d h f = outC c d h g := pointsTo_congr fun i hi => e i (by rw [← outC_set]; exact hi)

/-- A chunk splits into its halves, and back. -/
theorem accC_halves (c : Dev nD) (d : Bool) (h : Fin 8) (q) (f : OV F) :
    accC c d h q f ⊣⊢ iprop(accP c d h 0 q f ∗ accP c d h 1 q f) := by
  have e : accC c d h q f = ((aM.view.loc (c : Thread nD τ)) ↦[(blkR d h 0).set ∪ (blkR d h 1).set]{q} f : sProp 𝕄) := by
    unfold accC; rw [accC_set, ch_union]
  have e0 : ∀ k, accP c d h k q f = ((aM.view.loc (c : Thread nD τ)) ↦[(blkR d h k).set]{q} f : sProp 𝕄) := fun k => by
    unfold accP; rw [acc_set]
  rw [e, e0, e0]
  exact pointsTo_union (blk_disjoint (by simp))
/-- A block splits into its two half shares, and back. -/
theorem accP_share (c : Dev nD) (d : Bool) (h : Fin 8) (k : Fin 2) (f : OV F) :
    accP c d h k fullShare f ⊣⊢ iprop(accP c d h k fullShare.left f ∗ accP c d h k fullShare.right f) :=
  pointsTo_share (by rw [PosShare.left_op_right]; exact Part.mem_some _)

/-! ## The payloads -/

section Payloads

variable (X : Dev nD → Vec F S4096x512 .f32) (Wt : Dev nD → Vec F S512x2048 .f32)

/-- Where send `n` of direction `d` lands on the receiving device `c`. -/
def dstP (c : Dev nD) (d : Bool) (n : ℕ) (k : Fin 2) : sProp 𝕄 :=
  if n < 7 then iprop(∃ f, recvP c d (sl n) k f) else iprop(∃ f, outP c d (ch d c (n + 1)) k f)

/-- What send `n` reads, returned when it has left. -/
def srcP (c : Dev nD) (d : Bool) (n : ℕ) (k : Fin 2) : sProp 𝕄 :=
  if n < 7 then accP c d (ch d c n) k fullShare (AB X Wt c)
  else if n = 7 then accP c d (ch d c n) k fullShare.left (AB X Wt c)
  else outP c d (ch d c n) k (G X Wt)

/-- What has landed on `c` when send `n` of the device before it has arrived. -/
def landP (c : Dev nD) (d : Bool) (n : ℕ) (k : Fin 2) : sProp 𝕄 :=
  if n < 7 then iprop(∃ f, recvP c d (sl n) k f ∗ ⌜(recvB d (sl n) k).view.read (Elt F) f = (accB d (ch d c (n + 1)) k).view.read (Elt F) (AB X Wt (nxP (!d) c))⌝)
  else outP c d (ch d c (n + 1)) k (G X Wt)

/-- What device `c` hands over with its send `n` of direction `d`: its own destination for the other side's next send. -/
def handP (c : Dev nD) (d : Bool) (n : ℕ) (k : Fin 2) : sProp 𝕄 :=
  if n ≤ 12 then iprop(dstP c (!d) (n + 1) k ∗ reached ER (cell c (kRcv (!d) k (sl (n + 1)))) ((n + 1) / 2)) else iprop(emp)

/-- What a device's neighbour hands it at the handshake: the destinations of the first sends. -/
def barP (c : Dev nD) (d : Bool) : sProp 𝕄 := iprop(dstP (nxP d c) d 0 0 ∗ dstP (nxP d c) d 0 1)

/-- What the copy of the own finished chunk returns. -/
def ownP (c : Dev nD) (d : Bool) : sProp 𝕄 := iprop(outC c d (ch d c 7) (G X Wt) ∗ accC c d (ch d c 7) fullShare.right (AB X Wt c))

instance dstP_storable (c : Dev nD) (d : Bool) (n : ℕ) (k : Fin 2) : BI.Storable (upEmb : UEmb _ 𝕄) (dstP (F := F) c d n k) := by
  unfold dstP; (repeat' split) <;> infer_instance
instance srcP_storable (c : Dev nD) (d : Bool) (n : ℕ) (k : Fin 2) : BI.Storable (upEmb : UEmb _ 𝕄) (srcP X Wt c d n k) := by
  unfold srcP; (repeat' split) <;> infer_instance
instance landP_storable (c : Dev nD) (d : Bool) (n : ℕ) (k : Fin 2) : BI.Storable (upEmb : UEmb _ 𝕄) (landP X Wt c d n k) := by
  unfold landP; (repeat' split) <;> infer_instance
instance handP_storable (c : Dev nD) (d : Bool) (n : ℕ) (k : Fin 2) : BI.Storable (upEmb : UEmb _ 𝕄) (handP (F := F) c d n k) := by
  unfold handP; (repeat' split) <;> infer_instance
instance barP_storable (c : Dev nD) (d : Bool) : BI.Storable (upEmb : UEmb _ 𝕄) (barP (F := F) c d) := by unfold barP; infer_instance
instance ownP_storable (c : Dev nD) (d : Bool) : BI.Storable (upEmb : UEmb _ 𝕄) (ownP X Wt c d) := by unfold ownP; infer_instance

/-- The contributions of a cell's round, their units, and what they hand over. -/
def dutK : Kd → ℕ → Finset ℕ
  | .inl _, r => if r = 0 then {0, 1} else ∅
  | .inr (.inl _), r => if r = 0 then Finset.range 13 else ∅
  | .inr (.inr (.inl _)), r => if r = 0 then {0} else ∅
  | .inr (.inr (.inr (.inl _))), r => if r < 7 then {0} else ∅
  | .inr (.inr (.inr (.inr _))), r => if r < 7 then {0} else ∅
def amtK : Kd → ℕ → ℕ
  | .inl _, _ => 1
  | .inr (.inl _), e => if e = 0 then 2 else 1
  | .inr (.inr (.inl _)), _ => NC
  | .inr (.inr (.inr (.inl _))), _ => NB
  | .inr (.inr (.inr (.inr _))), _ => NB
def payK (c : Dev nD) : Kd → ℕ → ℕ → sProp 𝕄
  | .inl _, _, e => if e = 0 then barP c false else barP c true
  | .inr (.inl _), _, _ => iprop(emp)
  | .inr (.inr (.inl d)), _, _ => ownP X Wt c d
  | .inr (.inr (.inr (.inl (d, k, j)))), r, _ => srcP X Wt c d (2 * r + j.val) k
  | .inr (.inr (.inr (.inr (d, k, j)))), r, _ => iprop(landP X Wt c d (2 * r + j.val) k ∗ handP (nxP (!d) c) d (2 * r + j.val) k)

instance payK_storable (c : Dev nD) (κ : Kd) (r e : ℕ) : BI.Storable (upEmb : UEmb _ 𝕄) (payK X Wt c κ r e) := by
  rcases κ with _ | d | d | ⟨d, k, j⟩ | ⟨d, k, j⟩ <;> unfold payK
  · dsimp only; split <;> infer_instance
  all_goals dsimp only; infer_instance

theorem amtK_pos (κ : Kd) (e : ℕ) : 0 < amtK κ e := by
  rcases κ with _ | d | d | ⟨d, k, j⟩ | ⟨d, k, j⟩ <;> unfold amtK
  · exact Nat.one_pos
  · dsimp only; split <;> decide
  · exact NC_pos
  · exact NB_pos
  · exact NB_pos

open Classical in
/-- The cell a semaphore is, if it is one of ours. -/
def kdOf (g : GSem nD τ sig) : Option Kd := if h : g.1.2 = .tc ∧ ∃ κ, csem κ = g.2 then some h.2.choose else none

theorem kdOf_cell (c : Dev nD) (κ : Kd) : kdOf (cell c κ) = some κ := by
  have h : (cell c κ).1.2 = .tc ∧ ∃ κ', csem κ' = (cell c κ).2 := ⟨rfl, κ, rfl⟩
  unfold kdOf; rw [dif_pos h]
  exact congrArg some (csem_inj h.2.choose_spec)

/-- The schedule of all cells. -/
def sched : Rounds.Schedule (GSem nD τ sig) ℕ 𝕄 where
  duties g r := match kdOf g with | some κ => dutK κ r | none => ∅
  unitless _ := False
  amount g _ e := match kdOf g with | some κ => amtK κ e | none => 1
  payload g r e := match kdOf g with | some κ => payK X Wt g.1.1 κ r e | none => iprop(emp)
  amount_pos g r e _ := by
    cases kdOf g
    · exact Nat.one_pos
    · exact amtK_pos _ _

instance sched_storable (g : GSem nD τ sig) (r e : ℕ) : BI.Storable (upEmb : UEmb _ 𝕄) ((sched X Wt).payload g r e) := by
  show BI.Storable upEmb (match kdOf g with | some κ => payK X Wt g.1.1 κ r e | none => iprop(emp))
  cases kdOf g <;> dsimp only <;> infer_instance

theorem duties_cell (c : Dev nD) (κ : Kd) (r : ℕ) : (sched X Wt).duties (cell c κ) r = dutK κ r := by
  show (match kdOf (cell c κ) with | some κ => dutK κ r | none => ∅) = _; rw [kdOf_cell]
theorem amount_cell (c : Dev nD) (κ : Kd) (r e : ℕ) : (sched X Wt).amount (cell c κ) r e = amtK κ e := by
  show (match kdOf (cell c κ) with | some κ => amtK κ e | none => 1) = _; rw [kdOf_cell]
theorem payload_cell (c : Dev nD) (κ : Kd) (r e : ℕ) : (sched X Wt).payload (cell c κ) r e = payK X Wt c κ r e := by
  show (match kdOf (cell c κ) with | some κ' => payK X Wt (cell c κ).1.1 κ' r e | none => iprop(emp)) = _; rw [kdOf_cell]
theorem expect_cell (c : Dev nD) (κ : Kd) (r : ℕ) : (sched X Wt).expect (cell c κ) r = ∑ e ∈ dutK κ r, amtK κ e := by
  unfold Schedule.expect Schedule.amountOf; rw [duties_cell]
  exact Finset.sum_congr rfl fun e _ => amount_cell X Wt c κ r e
theorem rest_cell (c : Dev nD) (κ : Kd) (r : ℕ) :
    bigSep ((sched X Wt).duties (cell c κ) r \ ∅) (fun e => (sched X Wt).payload (cell c κ) r e) = bigSep (dutK κ r) (fun e => payK X Wt c κ r e) := by
  rw [Finset.sdiff_empty, duties_cell]
  exact bigSep_congr fun e _ => payload_cell X Wt c κ r e

/-- A number is its half doubled and its parity. -/
theorem two_div (n : ℕ) : 2 * (n / 2) + (sl n).val = n := by show 2 * (n / 2) + n % 2 = n; omega

theorem payload_snd (c : Dev nD) (d : Bool) (k : Fin 2) (n : ℕ) :
    (sched X Wt).payload (cell c (kSnd d k (sl n))) (n / 2) 0 = srcP X Wt c d n k := by
  rw [payload_cell]; show srcP X Wt c d (2 * (n / 2) + (sl n).val) k = _; rw [two_div]
theorem payload_rcv (c : Dev nD) (d : Bool) (k : Fin 2) (n : ℕ) :
    (sched X Wt).payload (cell c (kRcv d k (sl n))) (n / 2) 0 = iprop(landP X Wt c d n k ∗ handP (nxP (!d) c) d n k) := by
  rw [payload_cell]; show iprop(landP X Wt c d (2 * (n / 2) + (sl n).val) k ∗ handP (nxP (!d) c) d (2 * (n / 2) + (sl n).val) k) = _; rw [two_div]
theorem duties_snd (c : Dev nD) (d : Bool) (k : Fin 2) (n : ℕ) (hn : n < 14) : (sched X Wt).duties (cell c (kSnd d k (sl n))) (n / 2) = {0} := by
  rw [duties_cell]; show (if n / 2 < 7 then _ else _) = _; rw [if_pos (by omega)]
theorem duties_rcv (c : Dev nD) (d : Bool) (k : Fin 2) (n : ℕ) (hn : n < 14) : (sched X Wt).duties (cell c (kRcv d k (sl n))) (n / 2) = {0} := by
  rw [duties_cell]; show (if n / 2 < 7 then _ else _) = _; rw [if_pos (by omega)]
theorem expect_snd (c : Dev nD) (d : Bool) (k : Fin 2) (n : ℕ) (hn : n < 14) : (sched X Wt).expect (cell c (kSnd d k (sl n))) (n / 2) = NB := by
  unfold Schedule.expect Schedule.amountOf; rw [duties_snd X Wt c d k n hn, Finset.sum_singleton, amount_cell]; rfl
theorem expect_rcv (c : Dev nD) (d : Bool) (k : Fin 2) (n : ℕ) (hn : n < 14) : (sched X Wt).expect (cell c (kRcv d k (sl n))) (n / 2) = NB := by
  unfold Schedule.expect Schedule.amountOf; rw [duties_rcv X Wt c d k n hn, Finset.sum_singleton, amount_cell]; rfl
theorem rest_snd (c : Dev nD) (d : Bool) (k : Fin 2) (n : ℕ) (hn : n < 14) :
    bigSep ((sched X Wt).duties (cell c (kSnd d k (sl n))) (n / 2) \ ∅) (fun e => (sched X Wt).payload (cell c (kSnd d k (sl n))) (n / 2) e) = srcP X Wt c d n k := by
  rw [Finset.sdiff_empty, duties_snd X Wt c d k n hn, bigSep_singleton, payload_snd]
theorem rest_rcv (c : Dev nD) (d : Bool) (k : Fin 2) (n : ℕ) (hn : n < 14) :
    bigSep ((sched X Wt).duties (cell c (kRcv d k (sl n))) (n / 2) \ ∅) (fun e => (sched X Wt).payload (cell c (kRcv d k (sl n))) (n / 2) e)
      = iprop(landP X Wt c d n k ∗ handP (nxP (!d) c) d n k) := by
  rw [Finset.sdiff_empty, duties_rcv X Wt c d k n hn, bigSep_singleton, payload_rcv]

theorem duties_late (c : Dev nD) (κ : Kd) (R : ℕ) (hR : match κ with | .inr (.inr (.inr _)) => 7 ≤ R | _ => 1 ≤ R) :
    ∀ r, R ≤ r → (sched X Wt).duties (cell c κ) r = ∅ := by
  intro r hr
  rw [duties_cell]
  rcases κ with _ | d | d | ⟨d, k, j⟩ | ⟨d, k, j⟩ <;> dsimp only at hR <;> unfold dutK <;> dsimp only <;> exact if_neg (by omega)

end Payloads

/-! ## What a device owes, and the order of waits -/

/-- An entry of what a device owes: a direction (the neighbour paid), the cell there, an index, the units. -/
structure Pay where
  dir : Bool
  at_ : Kd
  ix : ℕ
  n : ℕ

/-- The cell an entry of device `c` pays, and the tally it owes there. -/
def Pay.tally (p : Pay) (c : Dev nD) : CellTallies nD τ sig ℕ := tallyAt (cell (nxP p.dir c) p.at_) p.ix p.n

/-- What a device owes for a list of entries; the first is paid first. -/
def owed (c : Dev nD) : List Pay → CellTallies nD τ sig ℕ
  | [] => 0
  | p :: l => owed c l + p.tally c

def pBar (d : Bool) : Pay := ⟨!d, kBar, 1, 1⟩
def pRdy (d : Bool) (s n : ℕ) : Pay := ⟨!d, kRdy d, 2 * s + 2, n⟩
def pSnd (d : Bool) (k : Fin 2) (n : ℕ) : Pay := ⟨d, kRcv d k (sl n), 2 * n + 3, NB⟩

def pSnds (n : ℕ) (k : Fin 2) (l : List Pay) : List Pay := pSnd false k n :: pSnd true k n :: l
def pGrant (s n : ℕ) (l : List Pay) : List Pay := pRdy false s n :: pRdy true s n :: l

/-- What remains when `r` steps remain: the sends of the step and the grants at its end. -/
def payR : ℕ → List Pay
  | 0 => []
  | r + 1 => pSnds (13 - r) 0 (pSnds (13 - r) 1 (if r = 0 then payR r else pGrant (13 - r) 1 (payR r)))
/-- What is owed from the start of step `s`. -/
def payFrom (s : ℕ) : List Pay := payR (13 - s)
/-- What is owed at launch. -/
def payAll : List Pay := pBar false :: pBar true :: pGrant 0 2 (pSnds 0 0 (pSnds 0 1 (payFrom 0)))

theorem payFrom_lt (s : ℕ) (hs : s < 12) : payFrom s = pSnds (s + 1) 0 (pSnds (s + 1) 1 (pGrant (s + 1) 1 (payFrom (s + 1)))) := by
  unfold payFrom
  rw [show 13 - s = (12 - s) + 1 by omega, payR, if_neg (by omega), show 13 - (12 - s) = s + 1 by omega, show 13 - (s + 1) = 12 - s by omega]
theorem payFrom_12 : payFrom 12 = pSnds 13 0 (pSnds 13 1 []) := rfl
theorem payFrom_13 : payFrom 13 = [] := rfl

/-- Every entry still owed has an index above `b`, and below 64. -/
def Above (b : ℕ) (l : List Pay) : Prop := ∀ p ∈ l, b < p.ix ∧ p.ix < 64

theorem Above.nil (b : ℕ) : Above b [] := fun p hp => absurd hp (by simp)
theorem Above.cons {b : ℕ} {p : Pay} {l : List Pay} (hp : b < p.ix ∧ p.ix < 64) (hl : Above b l) : Above b (p :: l) := by
  intro q hq
  rcases List.mem_cons.mp hq with rfl | h
  · exact hp
  · exact hl q h
theorem Above.mono {b b' : ℕ} {l : List Pay} (h : b' ≤ b) (hl : Above b l) : Above b' l := fun p hp => ⟨Nat.lt_of_le_of_lt h (hl p hp).1, (hl p hp).2⟩
theorem Above.snds {b n : ℕ} {k : Fin 2} {l : List Pay} (h : b < 2 * n + 3) (h' : n < 20) (hl : Above b l) : Above b (pSnds n k l) :=
  .cons ⟨h, by show 2 * n + 3 < 64; omega⟩ (.cons ⟨h, by show 2 * n + 3 < 64; omega⟩ hl)
theorem Above.grant {b s n : ℕ} {l : List Pay} (h : b < 2 * s + 2) (h' : s < 20) (hl : Above b l) : Above b (pGrant s n l) :=
  .cons ⟨h, by show 2 * s + 2 < 64; omega⟩ (.cons ⟨h, by show 2 * s + 2 < 64; omega⟩ hl)
theorem above_payR : ∀ r, r ≤ 13 → Above (2 * (13 - r) + 3) (payR r)
  | 0, _ => .nil _
  | r + 1, hr => by
    have ih := above_payR r (by omega)
    rw [payR]
    refine .snds (by omega) (by omega) (.snds (by omega) (by omega) ?_)
    split
    · exact ih.mono (by omega)
    · exact .grant (by omega) (by omega) (ih.mono (by omega))
theorem above_payFrom (s : ℕ) (hs : s ≤ 13) : Above (2 * s + 3) (payFrom s) := by
  have := above_payR (13 - s) (by omega)
  rwa [show 13 - (13 - s) = s by omega] at this

/-- The indices of a cell, and its level at an index. -/
def L (g : GSem nD τ sig) : Finset ℕ := if g.1.2 = .tc then Finset.range 64 else ∅
def lv (g : GSem nD τ sig) (ι : ℕ) : ℕ := ι

theorem L_of_ne (g : GSem nD τ sig) (h : g.1.2 ≠ .tc) : L g = ∅ := if_neg h
theorem L_tc (c : Dev nD) (sm : SemLoc sig) : L ((c : Thread nD τ), sm) = Finset.range 64 := if_pos rfl

theorem owed_pos {c : Dev nD} : ∀ {l : List Pay} {g : GSem nD τ sig} {ι : ℕ}, 0 < owed c l g ι → ∃ p ∈ l, g = cell (nxP p.dir c) p.at_ ∧ ι = p.ix
  | [], g, ι, h => absurd h (Nat.lt_irrefl 0)
  | p :: l, g, ι, h => by
    by_cases hp : g = cell (nxP p.dir c) p.at_ ∧ ι = p.ix
    · exact ⟨p, List.mem_cons_self, hp⟩
    · have h' : 0 < owed c l g ι := by
        rw [owed, Pay.tally, Pi.add_apply, Finsupp.add_apply, tallyAt_apply, if_neg hp] at h
        exact h
      obtain ⟨q, hq, e⟩ := owed_pos h'
      exact ⟨q, List.mem_cons_of_mem _ hq, e⟩

/-- A device may wait at an index below everything it still owes. -/
theorem mayWait_above (c : Dev nD) (sm : SemLoc sig) (b : ℕ) (hb : b < 64) (l : List Pay) (hl : Above b l) :
    (levAts L lv : sProp 𝕄) ⊢ MayWait (c : Thread nD τ) sm b (owed c l) :=
  MayOwe.of_cut (L := L) (lev := lv) b
    (fun p hp => by rw [Finset.mem_singleton.mp hp, L_tc]; exact Finset.mem_range.mpr hb)
    (fun g u hg => by obtain ⟨p, hp, rfl, rfl⟩ := owed_pos hg; rw [L_tc]; exact Finset.mem_range.mpr (hl p hp).2)
    (fun p hp => by rw [Finset.mem_singleton.mp hp]; exact Nat.le_refl b)
    (fun g u hg => by obtain ⟨p, hp, rfl, rfl⟩ := owed_pos hg; exact (hl p hp).1)

end Cert.RingProof

end
-- ==== Proof.Ops.lean ====
/-
# One rule for each operation

The program's waits, sends, grants, products and accumulations, each with what it needs and what it gives, stated once for
all steps: send and receipt number `n` covers both phases.
-/
module

public import proofs.«01_k».proof.Proof.Sched

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The weakest precondition of a program on device `c`. -/
abbrev WPc (c : Dev nD) (p : PR F) (Q : PUnit.{1} → sProp 𝕄) : sProp 𝕄 :=
  wp frame (wpE (defs₀ (F := F)) 𝒱₀ (c : Thread nD τ) none) Set.univ p Q

/-! ## The program's transfers, numbered through both phases -/

/-- Send `n`, the wait for receipt `n`, the wait for send `n` to have left. -/
def sendN (d : Bool) (c : Dev nD) (n : ℕ) (k : Fin 2) (K : PR F) : PR F :=
  if h : n < 7 then sendRS d c ⟨n, h⟩ k K else if n = 7 then sendAG0 d c k K
  else if h : n < 14 then sendAG d c ⟨n - 7, by omega⟩ k K else K
def recvN (d : Bool) (c : Dev nD) (n : ℕ) (k : Fin 2) (K : PR F) : PR F :=
  if h : n < 7 then waitRS d c ⟨n, h⟩ k K else if n = 7 then waitAG0 d c k K
  else if h : n < 14 then waitAG d c ⟨n - 7, by omega⟩ k K else K
def leftN (d : Bool) (c : Dev nD) (n : ℕ) (k : Fin 2) (K : PR F) : PR F :=
  if h : n < 7 then waitSendRS d c ⟨n, h⟩ k K else if n = 7 then waitSendAG0 d c k K
  else if h : n < 14 then waitSendAG d c ⟨n - 7, by omega⟩ k K else K

/-- The sends of step `s + 1`, once those of step `s - 1` have left. -/
def sendsN (c : Dev nD) (s : ℕ) (k : Fin 2) (K : PR F) : PR F :=
  if 0 < s then leftN false c (s - 1) k <| leftN true c (s - 1) k <| sendN false c (s + 1) k <| sendN true c (s + 1) k K
  else sendN false c (s + 1) k <| sendN true c (s + 1) k K

theorem waitRS_eq (d : Bool) (c : Dev nD) (s : Fin 7) (k : Fin 2) (K : PR F) : waitRS d c s k K = recvN d c s.val k K := by
  unfold recvN; rw [dif_pos s.isLt]
theorem sendN_rs (d : Bool) (c : Dev nD) (n : ℕ) (h : n < 7) (k : Fin 2) (K : PR F) : sendN d c n k K = sendRS d c ⟨n, h⟩ k K := by
  unfold sendN; rw [dif_pos h]
theorem sendN_7 (d : Bool) (c : Dev nD) (k : Fin 2) (K : PR F) : sendN d c 7 k K = sendAG0 d c k K := by
  unfold sendN; rw [dif_neg (by decide), if_pos rfl]
theorem leftN_rs (d : Bool) (c : Dev nD) (n : ℕ) (h : n < 7) (k : Fin 2) (K : PR F) : leftN d c n k K = waitSendRS d c ⟨n, h⟩ k K := by
  unfold leftN; rw [dif_pos h]
theorem halfSends_eq (c : Dev nD) (s : Fin 7) (k : Fin 2) (K : PR F) : halfSends c s k K = sendsN c s.val k K := by
  unfold halfSends sendsN
  have e : (if h : s.val + 1 < 7 then sendRS false c ⟨s.val + 1, h⟩ k <| sendRS true c ⟨s.val + 1, h⟩ k K else sendAG0 false c k <| sendAG0 true c k K)
      = sendN false c (s.val + 1) k (sendN true c (s.val + 1) k K) := by
    by_cases h : s.val + 1 < 7
    · rw [dif_pos h, sendN_rs _ _ _ h, sendN_rs _ _ _ h]
    · rw [dif_neg h, show s.val + 1 = 7 by omega, sendN_7, sendN_7]
  dsimp only
  rw [e]
  by_cases h : 0 < s.val
  · rw [dif_pos h, if_pos h, leftN_rs _ _ _ (by omega), leftN_rs _ _ _ (by omega)]
  · rw [dif_neg h, if_neg h]
theorem recvN_ag (d : Bool) (c : Dev nD) (m : ℕ) (h : m < 7) (h0 : m ≠ 0) (k : Fin 2) (K : PR F) :
    recvN d c (7 + m) k K = waitAG d c ⟨m, h⟩ k K := by
  unfold recvN
  rw [dif_neg (by omega), if_neg (by omega), dif_pos (by omega)]
  congr 1
  exact Fin.ext (Nat.add_sub_cancel_left 7 m)
theorem sendN_ag (d : Bool) (c : Dev nD) (m : ℕ) (h : m < 7) (h0 : m ≠ 0) (k : Fin 2) (K : PR F) :
    sendN d c (7 + m) k K = sendAG d c ⟨m, h⟩ k K := by
  unfold sendN
  rw [dif_neg (by omega), if_neg (by omega), dif_pos (by omega)]
  congr 1
  exact Fin.ext (Nat.add_sub_cancel_left 7 m)
theorem leftN_ag (d : Bool) (c : Dev nD) (m : ℕ) (h : m < 7) (h0 : m ≠ 0) (k : Fin 2) (K : PR F) :
    leftN d c (7 + m) k K = waitSendAG d c ⟨m, h⟩ k K := by
  unfold leftN
  rw [dif_neg (by omega), if_neg (by omega), dif_pos (by omega)]
  congr 1
  exact Fin.ext (Nat.add_sub_cancel_left 7 m)
theorem leftN_6 (d : Bool) (c : Dev nD) (k : Fin 2) (K : PR F) : leftN d c 6 k K = waitSendRS d c 6 k K := by
  unfold leftN; rw [dif_pos (by decide)]; rfl
theorem leftN_7 (d : Bool) (c : Dev nD) (k : Fin 2) (K : PR F) : leftN d c 7 k K = waitSendAG0 d c k K := by
  unfold leftN; rw [dif_neg (by decide), if_pos rfl]
theorem recvN_7 (d : Bool) (c : Dev nD) (k : Fin 2) (K : PR F) : recvN d c 7 k K = waitAG0 d c k K := by
  unfold recvN; rw [dif_neg (by decide), if_pos rfl]

theorem arriveAG_eq (c : Dev nD) (t : Fin 7) (k : Fin 2) (K : PR F) :
    arriveAG c t k K = recvN false c (7 + t.val) k (recvN true c (7 + t.val) k K) := by
  unfold arriveAG
  by_cases h : t.val = 0
  · rw [if_pos h, h, recvN_7, recvN_7]
  · rw [if_neg h, recvN_ag _ _ _ t.isLt h, recvN_ag _ _ _ t.isLt h]
theorem leftAG_eq (c : Dev nD) (t : Fin 7) (k : Fin 2) (K : PR F) :
    leftAG c t k K = leftN false c (7 + t.val - 1) k (leftN true c (7 + t.val - 1) k K) := by
  unfold leftAG
  by_cases h : t.val = 0
  · rw [if_pos h, h, leftN_6, leftN_6]
  · rw [if_neg h]
    by_cases h1 : t.val = 1
    · rw [if_pos h1, h1, leftN_7, leftN_7]
    · rw [if_neg h1, show 7 + t.val - 1 = 7 + (t.val - 1) by omega, leftN_ag _ _ _ (by omega) (by omega), leftN_ag _ _ _ (by omega) (by omega)]
theorem halfAG_eq (c : Dev nD) (t : Fin 6) (k : Fin 2) (K : PR F) :
    halfAG c t k K = recvN false c (7 + t.val) k (recvN true c (7 + t.val) k (sendsN c (7 + t.val) k K)) := by
  unfold halfAG sendsN
  rw [arriveAG_eq, leftAG_eq, if_pos (by omega), Nat.add_assoc,
    sendN_ag _ _ _ (by omega : t.val + 1 < 7) (Nat.succ_ne_zero _), sendN_ag _ _ _ (by omega : t.val + 1 < 7) (Nat.succ_ne_zero _)]
  rfl
theorem fini_eq (c : Dev nD) : fini (F := F) c =
    (recvN false c 13 0 <| recvN true c 13 0 <| recvN false c 13 1 <| recvN true c 13 1 <|
      leftN false c 12 0 <| leftN true c 12 0 <| leftN false c 12 1 <| leftN true c 12 1 <|
      leftN false c 13 0 <| leftN true c 13 0 <| leftN false c 13 1 <| leftN true c 13 1 <|
      waitOwn false c <| waitOwn true c <| Prog.ret ⟨⟩) := rfl
theorem pre_eq (c : Dev nD) (k : Fin 2) (K : PR F) :
    pre c k K = (gemmOwn false c k <| gemmOwn true c k <| sendN false c 0 k <| sendN true c 0 k K) := rfl

/-! ## The state -/

section State

variable (X : Dev nD → Vec F S4096x512 .f32) (Wt : Dev nD → Vec F S512x2048 .f32) (Kn : Dev nD × Kd → ℕ)

/-- What every device knows of every cell: its invariant, and that its first round is open; and the order of waits. -/
def records : sProp 𝕄 :=
  iprop((bigSep Finset.univ fun ck : Dev nD × Kd => cellInv ER (sched X Wt) (Kn ck) (cell ck.1 ck.2))
    ∗ bigSep Finset.univ fun ck : Dev nD × Kd => reached ER (cell ck.1 ck.2) 0)
instance records_persistent : BI.Persistent (records X Wt Kn) := by unfold records; infer_instance
def ctx : sProp 𝕄 := iprop(records X Wt Kn ∗ levAts L lv)
instance ctx_persistent : BI.Persistent (ctx X Wt Kn) := by unfold ctx; infer_instance

theorem ctx_inv (c : Dev nD) (κ : Kd) : ctx X Wt Kn ⊢ cellInv ER (sched X Wt) (Kn (c, κ)) (cell c κ) := by
  unfold ctx records
  iintro ⟨⟨H, -⟩, -⟩
  have h : (bigSep Finset.univ fun ck : Dev nD × Kd => cellInv ER (sched X Wt) (Kn ck) (cell ck.1 ck.2)) ⊢ cellInv ER (sched X Wt) (Kn (c, κ)) (cell c κ) :=
    bigSep_elim (Finset.mem_univ (c, κ))
  iapply h $$ H
theorem ctx_reached (c : Dev nD) (κ : Kd) : ctx X Wt Kn ⊢ reached ER (cell c κ) 0 := by
  unfold ctx records
  iintro ⟨⟨-, H⟩, -⟩
  have h : (bigSep Finset.univ fun ck : Dev nD × Kd => (reached ER (cell ck.1 ck.2) 0 : sProp 𝕄)) ⊢ reached ER (cell c κ) 0 :=
    bigSep_elim (Finset.mem_univ (c, κ))
  iapply h $$ H
theorem ctx_lev : ctx X Wt Kn ⊢ levAts L lv := by unfold ctx; iintro ⟨-, H⟩; iexact H

end State

/-- Being at the start of round `r` of a cell, nothing of it taken. -/
def pos (c : Dev nD) (κ : Kd) (r : ℕ) : sProp 𝕄 := iprop(atPos ER (cell c κ) r ∅ 0 ∗ reached ER (cell c κ) r)
/-- What the device owes. -/
def due (c : Dev nD) (l : List Pay) : sProp 𝕄 := iprop(∃ W, owes (c : Thread nD τ) (owed c l) W)
/-- The right to a send: its two contributions. -/
def tok (c : Dev nD) (d : Bool) (k : Fin 2) (n : ℕ) : sProp 𝕄 :=
  iprop(dutyTok ER (cell c (kSnd d k (sl n))) (n / 2) 0 ∗ dutyTok ER (cell (nxP d c) (kRcv d k (sl n))) (n / 2) 0)
/-- The credit of a send on its way, and of a receipt to come. -/
def sCr (c : Dev nD) (d : Bool) (k : Fin 2) (n : ℕ) : sProp 𝕄 := cred (tallyAt (cell c (kSnd d k (sl n))) 0 NB)
def rCr (c : Dev nD) (d : Bool) (k : Fin 2) (n : ℕ) : sProp 𝕄 := cred (tallyAt (cell c (kRcv d k (sl n))) (2 * n + 3) NB)

theorem sl_sub (n : ℕ) (h : 7 ≤ n) : sl n = sl (n - 7 + 1) := Fin.ext (by show n % 2 = (n - 7 + 1) % 2; omega)

section Rules

variable (X : Dev nD → Vec F S4096x512 .f32) (Wt : Dev nD → Vec F S512x2048 .f32) (Kn : Dev nD × Kd → ℕ)

/-! ## Waits on transfers -/

/-- A wait for the whole of a round of a transfer cell. -/
theorem wp_wait_dma (c : Dev nD) (κ : Kd) (q : DmaSem sig) (hq : csem κ = .dma q) {sp sp' : Space} {s s' : Shape} {e e' : EltTy}
    {src : Memref sig .tc sp s e} {dst : Memref sig .tc sp' s' e'} {h1 : src.view.WordExact} {h2 : dst.view.WordExact}
    (N : ℕ) (hN : dst.view.dmaCredit = N) (R : ℕ) (hR : (sched X Wt).expect (cell c κ) R = N) (b : ℕ) (hb : b < 64) (l : List Pay) (hl : Above b l)
    {K : PUnit.{1} → PR F} {Q : PUnit.{1} → sProp 𝕄} :
    iprop(ctx X Wt Kn ∗ cred (tallyAt (cell c κ) b N) ∗ due c l ∗ atPos ER (cell c κ) R ∅ 0)
      ⊢ iprop(((due c l ∗ pos c κ (R + 1) ∗ bigSep ((sched X Wt).duties (cell c κ) R \ ∅) fun e => (sched X Wt).payload (cell c κ) R e)
            -∗ WPc c (K ⟨⟩) Q)
          -∗ WPc c (Prog.op (.waitDma2 q src dst h1 h2) K) Q) := by
  have hc : cell c κ = ((c : Thread nD τ), SemLoc.dma q) := by rw [← hq]
  rw [hc] at hR ⊢
  subst hN
  unfold due pos
  rw [hc]
  iintro ⟨#Hctx, Hcr, ⟨%W, HO⟩, Hat⟩ HK
  ihave #HI := (ctx_inv X Wt Kn c κ) $$ Hctx
  ihave #Hl := (ctx_lev X Wt Kn) $$ Hctx
  iapply (Rounds.wp_wait_rest_token 𝒱₀ ER (sched X Wt) (c : Thread nD τ) none (κ := Kn (c, κ)) (sm := .dma q)
      (wpE_waitDma2_eq 𝒱₀ (c : Thread nD τ) none Set.univ) (Set.mem_univ _) b (O := owed c l) (W := W) (R := R) (m := 0) (T := ∅)
      (by rw [Nat.zero_add]; exact hR.symm)) $$ [Hcr HO Hat]
  · isplitr
    · rw [← hc]; iexact HI
    isplitl [Hcr]; · iexact Hcr
    isplitl [HO]; · iexact HO
    isplitr; · iapply (mayWait_above c (.dma q) b hb l hl); iexact Hl
    iexact Hat
  iintro ⟨HO, Hat, Hr, Hpay⟩
  iapply HK
  isplitl [HO]; · iexists _; iexact HO
  isplitl [Hat Hr]
  · isplitl [Hat]; · iexact Hat
    iexact Hr
  iexact Hpay

/-- The wait for receipt `n`: the block that arrived, and where the next send the other way may go. -/
theorem wp_recvN (c : Dev nD) (d : Bool) (k : Fin 2) (n : ℕ) (hn : n < 14) (l : List Pay) (hl : Above (2 * n + 3) l)
    {K : PR F} {Q : PUnit.{1} → sProp 𝕄} :
    iprop(ctx X Wt Kn ∗ rCr c d k n ∗ due c l ∗ atPos ER (cell c (kRcv d k (sl n))) (n / 2) ∅ 0)
      ⊢ iprop(((due c l ∗ pos c (kRcv d k (sl n)) (n / 2 + 1) ∗ landP X Wt c d n k ∗ handP (nxP (!d) c) d n k) -∗ WPc c K Q)
          -∗ WPc c (recvN d c n k K) Q) := by
  rw [← rest_rcv X Wt c d k n hn]
  have hE := expect_rcv X Wt c d k n hn
  unfold rCr recvN
  by_cases h : n < 7
  · rw [dif_pos h]
    unfold waitRS
    exact wp_wait_dma X Wt Kn c (kRcv d k (sl n)) (recvS d (sl n) k) rfl NB (credit_recv d _ k) (n / 2) hE _ (by omega) l hl (K := fun _ => K)
  rw [dif_neg h]
  by_cases h7 : n = 7
  · subst h7
    rw [if_pos rfl]
    unfold waitAG0
    exact wp_wait_dma X Wt Kn c (kRcv d k (sl 7)) (recvS d 1 k) rfl NB ((congrArg (fun M : Blk .hbm => M.view.dmaCredit) (agO_eq d c 0 k)).trans (credit_out d _ k)) (7 / 2) hE _ (by omega) l hl (K := fun _ => K)
  rw [if_neg h7, dif_pos hn]
  unfold waitAG
  rw [sl_sub n (by omega)] at hE ⊢
  exact wp_wait_dma X Wt Kn c (kRcv d k (sl (n - 7 + 1))) (recvS d (sl (n - 7 + 1)) k) rfl NB ((congrArg (fun M : Blk .hbm => M.view.dmaCredit) (agO_eq d c ⟨n - 7, by omega⟩ k)).trans (credit_out d _ k)) (n / 2) hE _ (by omega) l hl (K := fun _ => K)

/-- The wait for send `n` to have left: its source is the device's again. -/
theorem wp_leftN (c : Dev nD) (d : Bool) (k : Fin 2) (n : ℕ) (hn : n < 14) (l : List Pay) (hl : Above 0 l)
    {K : PR F} {Q : PUnit.{1} → sProp 𝕄} :
    iprop(ctx X Wt Kn ∗ sCr c d k n ∗ due c l ∗ atPos ER (cell c (kSnd d k (sl n))) (n / 2) ∅ 0)
      ⊢ iprop(((due c l ∗ pos c (kSnd d k (sl n)) (n / 2 + 1) ∗ srcP X Wt c d n k) -∗ WPc c K Q)
          -∗ WPc c (leftN d c n k K) Q) := by
  rw [← rest_snd X Wt c d k n hn]
  have hE := expect_snd X Wt c d k n hn
  unfold sCr leftN
  by_cases h : n < 7
  · rw [dif_pos h]
    unfold waitSendRS
    exact wp_wait_dma X Wt Kn c (kSnd d k (sl n)) (sendS d (sl n) k) rfl NB ((congrArg (fun M : Blk .vmem => M.view.dmaCredit) (sendP_eq d c ⟨n, h⟩ k)).trans (credit_acc d _ k)) (n / 2) hE _ (by omega) l hl (K := fun _ => K)
  rw [dif_neg h]
  by_cases h7 : n = 7
  · subst h7
    rw [if_pos rfl]
    unfold waitSendAG0
    exact wp_wait_dma X Wt Kn c (kSnd d k (sl 7)) (sendS d 1 k) rfl NB ((congrArg (fun M : Blk .vmem => M.view.dmaCredit) (agA_eq d c 0 k)).trans (credit_acc d _ k)) (7 / 2) hE _ (by omega) l hl (K := fun _ => K)
  rw [if_neg h7, dif_pos hn]
  unfold waitSendAG
  rw [sl_sub n (by omega)] at hE ⊢
  exact wp_wait_dma X Wt Kn c (kSnd d k (sl (n - 7 + 1))) (sendS d (sl (n - 7 + 1)) k) rfl NB ((congrArg (fun M : Blk .hbm => M.view.dmaCredit) (agO_eq d c ⟨n - 7, by omega⟩ k)).trans (credit_out d _ k)) (n / 2) hE _ (by omega) l hl (K := fun _ => K)

/-! ## Sends -/

/-- A send: its source at work, its destination (held by the sender, handed over by the receiver) rewritten for the receiver. -/
theorem wp_send_gen (c : Dev nD) (d : Bool) (k : Fin 2) (n : ℕ) (hn : n < 14) {sp sp' : Space} (S : Blk sp) (D : Blk sp') (qs qr : DmaSem sig)
    (hqs : csem (kSnd d k (sl n)) = .dma qs) (hqr : csem (kRcv d k (sl n)) = .dma qr) (hN : D.view.dmaCredit = NB)
    {hsc : D.view.ref.isScScratch = false} {hsrc : S.view.WordExact} {hdst : D.view.WordExact}
    {hsem : DmaTarget.Typed sp (.dma qr) (.remote (nxP d c : Thread nD τ) D (.dma qs) hsc)}
    {q : PosShare TreeShare} {fs : Buf (Elt F) (S.view.loc (c : Thread nD τ))} {fd : Buf (Elt F) (D.view.loc (nxP d c : Thread nD τ))} (l : List Pay)
    (h1 : (S.view.loc (c : Thread nD τ) ↦[S.view.set]{q} fs : sProp 𝕄) ⊢ srcP X Wt c d n k)
    (h2 : (D.view.loc (nxP d c : Thread nD τ) ↦[D.view.set]{fullShare} (D.view.write (Elt F) fd (S.view.read (Elt F) fs) Finset.univ) : sProp 𝕄)
      ⊢ landP X Wt (nxP d c) d n k)
    {K : PUnit.{1} → PR F} {Q : PUnit.{1} → sProp 𝕄} :
    iprop(ctx X Wt Kn ∗ (S.view.loc (c : Thread nD τ) ↦[S.view.set]{q} fs) ∗ (D.view.loc (nxP d c : Thread nD τ) ↦[D.view.set]{fullShare} fd)
        ∗ handP c d n k ∗ due c (pSnd d k n :: l) ∗ tok c d k n
        ∗ reached ER (cell c (kSnd d k (sl n))) (n / 2) ∗ reached ER (cell (nxP d c) (kRcv d k (sl n))) (n / 2))
      ⊢ iprop(((sCr c d k n ∗ due c l) -∗ WPc c (K ⟨⟩) Q)
          -∗ WPc c (Prog.op (.enqueueDma S (.remote (nxP d c : Thread nD τ) D (.dma qs) hsc) (.dma qr) hsrc hdst hsem) K) Q) := by
  have hc1 : cell c (kSnd d k (sl n)) = ((c : Thread nD τ), SemLoc.dma qs) := by rw [← hqs]
  have hc2 : cell (nxP d c) (kRcv d k (sl n)) = ((nxP d c : Thread nD τ), SemLoc.dma qr) := by rw [← hqr]
  have hd1 := duties_snd X Wt c d k n hn
  have hd2 := duties_rcv X Wt (nxP d c) d k n hn
  have ha1 : (sched X Wt).amount (cell c (kSnd d k (sl n))) (n / 2) 0 = NB := amount_cell X Wt c _ _ _
  have ha2 : (sched X Wt).amount (cell (nxP d c) (kRcv d k (sl n))) (n / 2) 0 = NB := amount_cell X Wt _ _ _ _
  have hp1 := payload_snd X Wt c d k n
  have hp2 := payload_rcv X Wt (nxP d c) d k n
  have hO : owed c (pSnd d k n :: l) = owed c l + tallyAt (cell (nxP d c) (kRcv d k (sl n))) (2 * n + 3) NB := rfl
  rw [nx_back] at hp2
  unfold due tok sCr
  iintro ⟨#Hctx, Hs, Hd, Hh, ⟨%W, HO⟩, ⟨Ht1, Ht2⟩, Hr1, Hr2⟩ HK
  ihave #HI1 := (ctx_inv X Wt Kn c (kSnd d k (sl n))) $$ Hctx
  ihave #HI2 := (ctx_inv X Wt Kn (nxP d c) (kRcv d k (sl n))) $$ Hctx
  rw [hc1] at hd1 ha1 hp1 ⊢
  rw [hc2] at hd2 ha2 hp2 hO ⊢
  iapply (Rounds.wp_send_pointsTo_with 𝒱₀ ER (sched X Wt) (c : Thread nD τ) none (c' := (nxP d c : Thread nD τ)) (src := S) (dst := D) (sS := .dma qs) (sem := .dma qr) (q := q) (fs := fs) (fd := fd)
      (F := handP c d n k) (r₁ := n / 2) (r₂ := n / 2) (d₁ := 0) (d₂ := 0) (κ₁ := Kn (c, kSnd d k (sl n))) (κ₂ := Kn (nxP d c, kRcv d k (sl n)))
      (by rw [hd1]; exact Finset.mem_singleton_self _) (by rw [hd2]; exact Finset.mem_singleton_self _) (2 * n + 3) 0 NB hN ha1 ha2 (owed c l) hO (W := W)
      (by rw [hp1]; exact h1) (by rw [hp2]; exact sep_mono_left h2)) $$ [Hs Hd Hh HO Ht1 Ht2 Hr1 Hr2]
  · isplitr; · iexact HI1
    isplitr; · iexact HI2
    isplitl [Hs]; · iexact Hs
    isplitl [Hd Hh]
    · isplitl [Hd]; · iexact Hd
      iexact Hh
    isplitl [HO]; · iexact HO
    isplitl [Ht1]; · iexact Ht1
    isplitl [Hr1]; · iexact Hr1
    isplitl [Ht2]; · iexact Ht2
    iexact Hr2
  iintro ⟨Hc, HO⟩
  iapply HK
  isplitl [Hc]; · iexact Hc
  iexists W; iexact HO

/-- A send of the first phase. -/
theorem wp_send_rs (c : Dev nD) (d : Bool) (k : Fin 2) (n : ℕ) (hn : n < 7) (l : List Pay) {K : PR F} {Q : PUnit.{1} → sProp 𝕄} :
    iprop(ctx X Wt Kn ∗ srcP X Wt c d n k ∗ dstP (nxP d c) d n k ∗ handP c d n k ∗ due c (pSnd d k n :: l) ∗ tok c d k n
        ∗ reached ER (cell c (kSnd d k (sl n))) (n / 2) ∗ reached ER (cell (nxP d c) (kRcv d k (sl n))) (n / 2))
      ⊢ iprop(((sCr c d k n ∗ due c l) -∗ WPc c K Q) -∗ WPc c (sendRS d c ⟨n, hn⟩ k K) Q) := by
  have e1 : srcP X Wt c d n k = accP c d (ch d c n) k fullShare (AB X Wt c) := if_pos hn
  have e2 : dstP (F := F) (nxP d c) d n k = iprop(∃ f, recvP (nxP d c) d (sl n) k f) := if_pos hn
  have e3 : landP X Wt (nxP d c) d n k = iprop(∃ f, recvP (nxP d c) d (sl n) k f ∗ ⌜(recvB d (sl n) k).view.read (Elt F) f = (accB d (ch d c n) k).view.read (Elt F) (AB X Wt c)⌝) := by
    unfold landP; rw [if_pos hn, ch_next, nx_back]
  have h1 : accP c d (ch d c n) k fullShare (AB X Wt c) ⊢ srcP X Wt c d n k := Entails.of_eq e1.symm
  have h2 : ∀ fd, recvP (nxP d c) d (sl n) k ((recvB d (sl n) k).view.write (Elt F) fd ((accB d (ch d c n) k).view.read (Elt F) (AB X Wt c)) Finset.univ) ⊢ landP X Wt (nxP d c) d n k := fun fd => by
    rw [e3]
    iintro H
    iexists ((recvB d (sl n) k).view.write (Elt F) fd ((accB d (ch d c n) k).view.read (Elt F) (AB X Wt c)) Finset.univ)
    isplitl [H]; · iexact H
    ipureintro
    exact View.read_write_univ _ _
  rw [e1, e2]
  unfold sendRS
  generalize_proofs p1 p2 p3 p4
  revert p1 p2 p3 p4
  rw [sendP_eq]
  intro p1 p2 p3 p4
  unfold accP recvP at *
  iintro ⟨#Hctx, Hs, ⟨%fd, Hd⟩, Hh, HO, Ht, Hr1, Hr2⟩ HK
  iapply (wp_send_gen X Wt Kn c d k n (by omega) (accB d (ch d c n) k) (recvB d (sl n) k) (sendS d (sl n) k) (recvS d (sl n) k) rfl rfl (credit_recv d _ k)
    (fd := fd) (fs := AB X Wt c) (q := fullShare) l h1 (h2 fd)) $$ [Hs Hd Hh HO Ht Hr1 Hr2]
  · isplitr; · iexact Hctx
    isplitl [Hs]; · iexact Hs
    isplitl [Hd]; · iexact Hd
    isplitl [Hh]; · iexact Hh
    isplitl [HO]; · iexact HO
    isplitl [Ht]; · iexact Ht
    isplitl [Hr1]; · iexact Hr1
    iexact Hr2
  iexact HK

/-- The first send of the second phase. -/
theorem wp_send_ag0 (c : Dev nD) (d : Bool) (k : Fin 2) (n : ℕ) (hn : n = 7) (l : List Pay) {K : PR F} {Q : PUnit.{1} → sProp 𝕄} :
    iprop(ctx X Wt Kn ∗ srcP X Wt c d n k ∗ dstP (nxP d c) d n k ∗ handP c d n k ∗ due c (pSnd d k n :: l) ∗ tok c d k n
        ∗ reached ER (cell c (kSnd d k (sl n))) (n / 2) ∗ reached ER (cell (nxP d c) (kRcv d k (sl n))) (n / 2))
      ⊢ iprop(((sCr c d k n ∗ due c l) -∗ WPc c K Q) -∗ WPc c (sendAG0 d c k K) Q) := by
  subst hn
  have e1 : srcP X Wt c d 7 k = accP c d (ch d c 7) k fullShare.left (AB X Wt c) := by unfold srcP; rw [if_neg (by decide), if_pos rfl]
  have e2 : dstP (F := F) (nxP d c) d 7 k = iprop(∃ f, outP (nxP d c) d (ch d c 7) k f) := by
    unfold dstP; rw [if_neg (by decide), ch_next]
  have e3 : landP X Wt (nxP d c) d 7 k = outP (nxP d c) d (ch d c 7) k (G X Wt) := by
    unfold landP; rw [if_neg (by decide), ch_next]
  have h1 : accP c d (ch d c 7) k fullShare.left (AB X Wt c) ⊢ srcP X Wt c d 7 k := Entails.of_eq e1.symm
  have h2 : ∀ fd, outP (nxP d c) d (ch d c 7) k ((outB d (ch d c 7) k).view.write (Elt F) fd ((accB d (ch d c 7) k).view.read (Elt F) (AB X Wt c)) Finset.univ) ⊢ landP X Wt (nxP d c) d 7 k := fun fd => by
    rw [e3]
    exact Entails.of_eq (outP_congr _ _ _ _ _ _ fun i hi => (copy_acc_out d _ k fd (AB X Wt c) hi).trans (AB_last X Wt (blk_sub d _ k hi)))
  rw [e1, e2]
  unfold sendAG0
  generalize_proofs p1 p2 p3 p4
  revert p1 p2 p3 p4
  rw [agA_eq, agO_eq]
  intro p1 p2 p3 p4
  unfold accP outP at *
  iintro ⟨#Hctx, Hs, ⟨%fd, Hd⟩, Hh, HO, Ht, Hr1, Hr2⟩ HK
  iapply (wp_send_gen X Wt Kn c d k 7 (by decide) (accB d (ch d c 7) k) (outB d (ch d c 7) k) (sendS d 1 k) (recvS d 1 k) rfl rfl (credit_out d _ k)
    (fd := fd) (fs := AB X Wt c) (q := fullShare.left) l h1 (h2 fd)) $$ [Hs Hd Hh HO Ht Hr1 Hr2]
  · isplitr; · iexact Hctx
    isplitl [Hs]; · iexact Hs
    isplitl [Hd]; · iexact Hd
    isplitl [Hh]; · iexact Hh
    isplitl [HO]; · iexact HO
    isplitl [Ht]; · iexact Ht
    isplitl [Hr1]; · iexact Hr1
    iexact Hr2
  iexact HK

/-- A later send of the second phase. -/
theorem wp_send_ag (c : Dev nD) (d : Bool) (k : Fin 2) (n : ℕ) (h7 : 7 < n) (hn : n < 14) (hm : n - 7 < 7) (l : List Pay) {K : PR F} {Q : PUnit.{1} → sProp 𝕄} :
    iprop(ctx X Wt Kn ∗ srcP X Wt c d n k ∗ dstP (nxP d c) d n k ∗ handP c d n k ∗ due c (pSnd d k n :: l) ∗ tok c d k n
        ∗ reached ER (cell c (kSnd d k (sl n))) (n / 2) ∗ reached ER (cell (nxP d c) (kRcv d k (sl n))) (n / 2))
      ⊢ iprop(((sCr c d k n ∗ due c l) -∗ WPc c K Q) -∗ WPc c (sendAG d c ⟨n - 7, hm⟩ k K) Q) := by
  have e1 : srcP X Wt c d n k = outP c d (ch d c n) k (G X Wt) := by unfold srcP; rw [if_neg (by omega), if_neg (by omega)]
  have e2 : dstP (F := F) (nxP d c) d n k = iprop(∃ f, outP (nxP d c) d (ch d c n) k f) := by
    unfold dstP; rw [if_neg (by omega), ch_next]
  have e3 : landP X Wt (nxP d c) d n k = outP (nxP d c) d (ch d c n) k (G X Wt) := by
    unfold landP; rw [if_neg (by omega), ch_next]
  have e7 : 7 + (n - 7) = n := by omega
  have h1 : outP c d (ch d c n) k (G X Wt) ⊢ srcP X Wt c d n k := Entails.of_eq e1.symm
  have h2 : ∀ fd, outP (nxP d c) d (ch d c n) k ((outB d (ch d c n) k).view.write (Elt F) fd ((outB d (ch d c n) k).view.read (Elt F) (G X Wt)) Finset.univ) ⊢ landP X Wt (nxP d c) d n k := fun fd => by
    rw [e3]
    exact Entails.of_eq (outP_congr _ _ _ _ _ _ fun i hi => copy_out_out d _ k fd (G X Wt) hi)
  rw [e1, e2]
  unfold sendAG
  generalize_proofs p1 p2 p3 p4
  revert p1 p2 p3 p4
  rw [agO_eq]
  dsimp only
  rw [e7]
  intro p1 p2 p3 p4
  unfold outP at *
  iintro ⟨#Hctx, Hs, ⟨%fd, Hd⟩, Hh, HO, Ht, Hr1, Hr2⟩ HK
  iapply (wp_send_gen X Wt Kn c d k n hn (outB d (ch d c n) k) (outB d (ch d c n) k) (sendS d (sl (n - 7 + 1)) k) (recvS d (sl (n - 7 + 1)) k)
    (by rw [sl_sub n (by omega)]; rfl) (by rw [sl_sub n (by omega)]; rfl) (credit_out d _ k)
    (fd := fd) (fs := G X Wt) (q := fullShare) l h1 (h2 fd)) $$ [Hs Hd Hh HO Ht Hr1 Hr2]
  · isplitr; · iexact Hctx
    isplitl [Hs]; · iexact Hs
    isplitl [Hd]; · iexact Hd
    isplitl [Hh]; · iexact Hh
    isplitl [HO]; · iexact HO
    isplitl [Ht]; · iexact Ht
    isplitl [Hr1]; · iexact Hr1
    iexact Hr2
  iexact HK

/-- Send `n`, all phases: the source, the destination, the other way's next destination handed along, and the two rights. -/
theorem wp_sendN (c : Dev nD) (d : Bool) (k : Fin 2) (n : ℕ) (hn : n < 14) (l : List Pay) {K : PR F} {Q : PUnit.{1} → sProp 𝕄} :
    iprop(ctx X Wt Kn ∗ srcP X Wt c d n k ∗ dstP (nxP d c) d n k ∗ handP c d n k ∗ due c (pSnd d k n :: l) ∗ tok c d k n
        ∗ reached ER (cell c (kSnd d k (sl n))) (n / 2) ∗ reached ER (cell (nxP d c) (kRcv d k (sl n))) (n / 2))
      ⊢ iprop(((sCr c d k n ∗ due c l) -∗ WPc c K Q) -∗ WPc c (sendN d c n k K) Q) := by
  unfold sendN
  by_cases h : n < 7
  · rw [dif_pos h]; exact wp_send_rs X Wt Kn c d k n h l
  rw [dif_neg h]
  by_cases h7 : n = 7
  · rw [if_pos h7]; exact wp_send_ag0 X Wt Kn c d k n h7 l
  rw [if_neg h7, dif_pos hn]
  exact wp_send_ag X Wt Kn c d k n (by omega) hn _ l

end Rules

end Cert.RingProof

end
-- ==== Proof.Local.lean ====
/-
# Rules for the rest

The handshake, the grants, the copies of the own finished chunks, the products and the accumulations.
-/
module

public import proofs.«01_k».proof.Proof.Ops

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- How far a device is through the grants of a direction. -/
def rdySt (c : Dev nD) (d : Bool) (i : ℕ) : sProp 𝕄 := iprop(∃ T, atPos ER (cell c (kRdy d)) 0 T i)
/-- The right to the grants number `e`. -/
def gTok (c : Dev nD) (e : ℕ) : sProp 𝕄 :=
  iprop(dutyTok ER (cell (nxP true c) (kRdy false)) 0 e ∗ dutyTok ER (cell (nxP false c) (kRdy true)) 0 e)
/-- The credit of the grants awaited at index `b`. -/
def gCr (c : Dev nD) (b : ℕ) : sProp 𝕄 := iprop(cred (tallyAt (cell c (kRdy false)) b 1) ∗ cred (tallyAt (cell c (kRdy true)) b 1))

section Rules

variable (X : Dev nD → Vec F S4096x512 .f32) (Wt : Dev nD → Vec F S512x2048 .f32) (Kn : Dev nD × Kd → ℕ)

/-! ## Grants -/

theorem wp_ready1 (c : Dev nD) (d : Bool) (i b : ℕ) (hb : b < 64) (l : List Pay) (hl : Above b l)
    {K : PUnit.{1} → PR F} {Q : PUnit.{1} → sProp 𝕄} :
    iprop(ctx X Wt Kn ∗ cred (tallyAt (cell c (kRdy d)) b 1) ∗ due c l ∗ rdySt c d i)
      ⊢ iprop(((due c l ∗ rdySt c d (i + 1)) -∗ WPc c (K ⟨⟩) Q) -∗ WPc c (Prog.op (.semWait (readyS d) 1) K) Q) := by
  unfold due rdySt
  iintro ⟨#Hctx, Hcr, ⟨%W, HO⟩, ⟨%T, Hat⟩⟩ HK
  ihave #HI := (ctx_inv X Wt Kn c (kRdy d)) $$ Hctx
  ihave #Hl := (ctx_lev X Wt Kn) $$ Hctx
  iapply (Rounds.wp_wait 𝒱₀ ER (sched X Wt) (c : Thread nD τ) none (κ := Kn (c, kRdy d)) (sm := .reg (readyS d))
      (wpE_semWait_eq 𝒱₀ (c : Thread nD τ) none Set.univ) (Set.mem_univ _) (cr := Finsupp.single b 1) (O := owed c l) (W := W) {(.reg (readyS d), b)} (R := 0) (m := i) (T := T)
      (Util.total_single b 1) (image_single_subset (.reg (readyS d)) b 1)) $$ [Hcr HO Hat]
  · isplitr; · iexact HI
    isplitl [Hcr]; · iexact Hcr
    isplitl [HO]; · iexact HO
    isplitr; · iapply (mayWait_above c (.reg (readyS d)) b hb l hl); iexact Hl
    iexact Hat
  iintro %S ⟨-, HO, Hat, -⟩
  iapply HK
  isplitl [HO]; · iexists _; iexact HO
  iexists S; iexact Hat

theorem expect_rdy (c : Dev nD) (d : Bool) : (sched X Wt).expect (cell c (kRdy d)) 0 = 14 := by
  rw [expect_cell]; rfl

theorem wp_readyLast1 (c : Dev nD) (d : Bool) (b : ℕ) (hb : b < 64) (l : List Pay) (hl : Above b l)
    {K : PUnit.{1} → PR F} {Q : PUnit.{1} → sProp 𝕄} :
    iprop(ctx X Wt Kn ∗ cred (tallyAt (cell c (kRdy d)) b 1) ∗ due c l ∗ rdySt c d 13)
      ⊢ iprop(((due c l ∗ pos c (kRdy d) 1) -∗ WPc c (K ⟨⟩) Q) -∗ WPc c (Prog.op (.semWait (readyS d) 1) K) Q) := by
  have hE := expect_rdy X Wt c d
  unfold due rdySt pos
  iintro ⟨#Hctx, Hcr, ⟨%W, HO⟩, ⟨%T, Hat⟩⟩ HK
  ihave #HI := (ctx_inv X Wt Kn c (kRdy d)) $$ Hctx
  ihave #Hl := (ctx_lev X Wt Kn) $$ Hctx
  iapply (Rounds.wp_wait_rest_token 𝒱₀ ER (sched X Wt) (c : Thread nD τ) none (κ := Kn (c, kRdy d)) (sm := .reg (readyS d))
      (wpE_semWait_eq 𝒱₀ (c : Thread nD τ) none Set.univ) (Set.mem_univ _) b (O := owed c l) (W := W) (R := 0) (m := 13) (T := T)
      hE.symm) $$ [Hcr HO Hat]
  · isplitr; · iexact HI
    isplitl [Hcr]; · iexact Hcr
    isplitl [HO]; · iexact HO
    isplitr; · iapply (mayWait_above c (.reg (readyS d)) b hb l hl); iexact Hl
    iexact Hat
  iintro ⟨HO, Hat, Hr, -⟩
  iapply HK
  isplitl [HO]; · iexists _; iexact HO
  isplitl [Hat]; · iexact Hat
  iexact Hr

/-- Awaiting the grants of a step. -/
theorem wp_waitReady (c : Dev nD) (i b : ℕ) (hb : b < 64) (l : List Pay) (hl : Above b l) {K : PR F} {Q : PUnit.{1} → sProp 𝕄} :
    iprop(ctx X Wt Kn ∗ gCr c b ∗ due c l ∗ rdySt c false i ∗ rdySt c true i)
      ⊢ iprop(((due c l ∗ rdySt c false (i + 1) ∗ rdySt c true (i + 1)) -∗ WPc c K Q) -∗ WPc c (waitReady K) Q) := by
  unfold gCr waitReady
  iintro ⟨#Hctx, ⟨Hc1, Hc2⟩, HO, H1, H2⟩ HK
  iapply (wp_ready1 X Wt Kn c false i b hb l hl) $$ [Hc1 HO H1]
  · isplitr; · iexact Hctx
    isplitl [Hc1]; · iexact Hc1
    isplitl [HO]; · iexact HO
    iexact H1
  iintro ⟨HO, H1⟩
  iapply (wp_ready1 X Wt Kn c true i b hb l hl) $$ [Hc2 HO H2]
  · isplitr; · iexact Hctx
    isplitl [Hc2]; · iexact Hc2
    isplitl [HO]; · iexact HO
    iexact H2
  iintro ⟨HO, H2⟩
  iapply HK
  isplitl [HO]; · iexact HO
  isplitl [H1]; · iexact H1
  iexact H2
/-- Awaiting the last grants. -/
theorem wp_waitReadyLast (c : Dev nD) (b : ℕ) (hb : b < 64) (l : List Pay) (hl : Above b l) {K : PR F} {Q : PUnit.{1} → sProp 𝕄} :
    iprop(ctx X Wt Kn ∗ gCr c b ∗ due c l ∗ rdySt c false 13 ∗ rdySt c true 13)
      ⊢ iprop(((due c l ∗ pos c (kRdy false) 1 ∗ pos c (kRdy true) 1) -∗ WPc c K Q) -∗ WPc c (waitReady K) Q) := by
  unfold gCr waitReady
  iintro ⟨#Hctx, ⟨Hc1, Hc2⟩, HO, H1, H2⟩ HK
  iapply (wp_readyLast1 X Wt Kn c false b hb l hl) $$ [Hc1 HO H1]
  · isplitr; · iexact Hctx
    isplitl [Hc1]; · iexact Hc1
    isplitl [HO]; · iexact HO
    iexact H1
  iintro ⟨HO, H1⟩
  iapply (wp_readyLast1 X Wt Kn c true b hb l hl) $$ [Hc2 HO H2]
  · isplitr; · iexact Hctx
    isplitl [Hc2]; · iexact Hc2
    isplitl [HO]; · iexact HO
    iexact H2
  iintro ⟨HO, H2⟩
  iapply HK
  isplitl [HO]; · iexact HO
  isplitl [H1]; · iexact H1
  iexact H2

/-- A signal of a plain semaphore of device `t`, the first thing owed. -/
theorem wp_sig (c t : Dev nD) (κ : Kd) (q : Sem sig) (hq : csem κ = .reg q) (e : ℕ) (he : e ∈ dutK κ 0) (n : ℕ) (hn : amtK κ e = n) (ι : ℕ) (p : Pay)
    (hp : p.tally c = tallyAt (cell t κ) ι n) (l : List Pay) {K : PUnit.{1} → PR F} {Q : PUnit.{1} → sProp 𝕄} :
    iprop(ctx X Wt Kn ∗ due c (p :: l) ∗ dutyTok ER (cell t κ) 0 e ∗ payK X Wt t κ 0 e)
      ⊢ iprop((due c l -∗ WPc c (K ⟨⟩) Q) -∗ WPc c (Prog.op (.semSignal (t : Thread nD τ) q (n : ℕ)) K) Q) := by
  have hc : cell t κ = ((t : Thread nD τ), SemLoc.reg q) := by rw [← hq]
  have hd := duties_cell X Wt t κ 0
  have ha := amount_cell X Wt t κ 0 e
  have hpay := payload_cell X Wt t κ 0 e
  have hO : owed c (p :: l) = owed c l + tallyAt (cell t κ) ι n := congrArg (owed c l + ·) hp
  have hinv := ctx_inv X Wt Kn t κ
  have hrch := ctx_reached X Wt Kn t κ
  rw [← hpay]
  rw [hc] at hd ha hO hinv hrch ⊢
  unfold due
  iintro ⟨#Hctx, ⟨%W, HO⟩, Ht, Hp⟩ HK
  ihave #HI := hinv $$ Hctx
  ihave #Hr := hrch $$ Hctx
  iapply (Rounds.wp_signal 𝒱₀ ER (sched X Wt) (c : Thread nD τ) none (dst := (t : Thread nD τ)) (κ := Kn (t, κ)) (r := 0) (d := e)
    (by rw [hd]; exact he) (ha.trans hn) ι (owed c l) hO (W := W)) $$ [HO Ht Hp]
  · isplitr; · iexact HI
    isplitl [HO]; · iexact HO
    isplitl [Ht]; · iexact Ht
    isplitl [Hp]; · iexact Hp
    iexact Hr
  iintro HO
  iapply HK
  iexists W; iexact HO

/-- Granting both neighbours. -/
theorem wp_grant (c : Dev nD) (e : ℕ) (he : e < 13) (n : ℕ) (hn : ∀ d, amtK (kRdy d) e = n) (s : ℕ) (l : List Pay) {K : PR F} {Q : PUnit.{1} → sProp 𝕄} :
    iprop(ctx X Wt Kn ∗ due c (pGrant s n l) ∗ gTok c e)
      ⊢ iprop((due c l -∗ WPc c K Q) -∗ WPc c (grant c (n : ℕ) K) Q) := by
  unfold grant gTok pGrant
  have h0 : ∀ t : Dev nD, ∀ d, (emp : sProp 𝕄) ⊢ payK X Wt t (kRdy d) 0 e := fun t d => .refl
  iintro ⟨#Hctx, HO, ⟨H1, H2⟩⟩ HK
  iapply (wp_sig X Wt Kn c (nxP true c) (kRdy false) (readyS false) rfl e (Finset.mem_range.mpr he) n (hn _) (2 * s + 2) (pRdy false s n) rfl (pRdy true s n :: l)) $$ [HO H1]
  · isplitr; · iexact Hctx
    isplitl [HO]; · iexact HO
    isplitl [H1]; · iexact H1
    iapply (h0 _ _); iempintro
  iintro HO
  iapply (wp_sig X Wt Kn c (nxP false c) (kRdy true) (readyS true) rfl e (Finset.mem_range.mpr he) n (hn _) (2 * s + 2) (pRdy true s n) rfl l) $$ [HO H2]
  · isplitr; · iexact Hctx
    isplitl [HO]; · iexact HO
    isplitl [H2]; · iexact H2
    iapply (h0 _ _); iempintro
  iexact HK

/-! ## The handshake -/

theorem expect_bar (c : Dev nD) : (sched X Wt).expect (cell c kBar) 0 = 2 := by rw [expect_cell]; rfl

/-- The handshake: the first receive half-slots go to the neighbours, theirs come. -/
theorem wp_barrier (c : Dev nD) (l : List Pay) (hl : Above 1 l) {K : PR F} {Q : PUnit.{1} → sProp 𝕄} :
    iprop(ctx X Wt Kn ∗ due c (pBar false :: pBar true :: l) ∗ dutyTok ER (cell (nxP true c) kBar) 0 0 ∗ dutyTok ER (cell (nxP false c) kBar) 0 1
        ∗ (dstP c false 0 0 ∗ dstP c false 0 1) ∗ (dstP c true 0 0 ∗ dstP c true 0 1)
        ∗ cred (tallyAt (cell c kBar) 1 2) ∗ atPos ER (cell c kBar) 0 ∅ 0)
      ⊢ iprop(((due c l ∗ pos c kBar 1 ∗ barP c false ∗ barP c true) -∗ WPc c K Q) -∗ WPc c (barrier c K) Q) := by
  have hE := expect_bar X Wt c
  have hrest : bigSep ((sched X Wt).duties ((c : Thread nD τ), .reg barS) 0 \ ∅) (fun e => (sched X Wt).payload ((c : Thread nD τ), .reg barS) 0 e) = iprop(barP c false ∗ barP c true) := by
    refine (rest_cell X Wt c kBar 0).trans ?_
    show bigSep ({0, 1} : Finset ℕ) _ = _
    rw [bigSep_insert (by decide), bigSep_singleton]; rfl
  have e1 : payK X Wt (nxP true c) kBar 0 0 = iprop(dstP c false 0 0 ∗ dstP c false 0 1) := by
    show barP (nxP true c) false = _; unfold barP; rw [show nxP false (nxP true c) = c from nx_back' false c]
  have e2 : payK X Wt (nxP false c) kBar 0 1 = iprop(dstP c true 0 0 ∗ dstP c true 0 1) := by
    show barP (nxP false c) true = _; unfold barP; rw [show nxP true (nxP false c) = c from nx_back' true c]
  rw [← e1, ← e2]
  unfold barrier
  iintro ⟨#Hctx, HO, H1, H2, Hd1, Hd2, Hcr, Hat⟩ HK
  iapply (wp_sig X Wt Kn c (nxP true c) kBar barS rfl 0 (by decide) 1 rfl 1 (pBar false) rfl (pBar true :: l)) $$ [HO H1 Hd1]
  · isplitr; · iexact Hctx
    isplitl [HO]; · iexact HO
    isplitl [H1]; · iexact H1
    iexact Hd1
  iintro HO
  iapply (wp_sig X Wt Kn c (nxP false c) kBar barS rfl 1 (by decide) 1 rfl 1 (pBar true) rfl l) $$ [HO H2 Hd2]
  · isplitr; · iexact Hctx
    isplitl [HO]; · iexact HO
    isplitl [H2]; · iexact H2
    iexact Hd2
  unfold due pos
  iintro ⟨%W, HO⟩
  ihave #HI := (ctx_inv X Wt Kn c kBar) $$ Hctx
  ihave #Hl := (ctx_lev X Wt Kn) $$ Hctx
  iapply (Rounds.wp_wait_rest_token 𝒱₀ ER (sched X Wt) (c : Thread nD τ) none (κ := Kn (c, kBar)) (sm := .reg barS)
      (wpE_semWait_eq 𝒱₀ (c : Thread nD τ) none Set.univ) (Set.mem_univ _) 1 (O := owed c l) (W := W) (R := 0) (m := 0) (T := ∅)
      (by rw [Nat.zero_add]; exact hE.symm)) $$ [Hcr HO Hat]
  · isplitr; · iexact HI
    isplitl [Hcr]; · iexact Hcr
    isplitl [HO]; · iexact HO
    isplitr; · iapply (mayWait_above c (.reg barS) 1 (by decide) l hl); iexact Hl
    iexact Hat
  iintro ⟨HO, Hat, Hr, Hp⟩
  ihave Hp := (Entails.of_eq hrest) $$ Hp
  icases Hp with ⟨Hp1, Hp2⟩
  iapply HK
  isplitl [HO]; · iexists _; iexact HO
  isplitl [Hat Hr]
  · isplitl [Hat]; · iexact Hat
    iexact Hr
  isplitl [Hp1]; · iexact Hp1
  iexact Hp2

/-! ## The copies of the own finished chunks -/

/-- Starting the copy of a direction's own finished chunk. -/
theorem wp_flushOwn (c : Dev nD) (d : Bool) {K : PR F} {Q : PUnit.{1} → sProp 𝕄} :
    iprop(ctx X Wt Kn ∗ accC c d (ch d c 7) fullShare.right (AB X Wt c) ∗ (∃ f, outC c d (ch d c 7) f) ∗ dutyTok ER (cell c (kOwn d)) 0 0)
      ⊢ iprop((cred (tallyAt (cell c (kOwn d)) 0 NC) -∗ WPc c K Q) -∗ WPc c (flushOwn d c K) Q) := by
  have hd := duties_cell X Wt c (kOwn d) 0
  have ha : (sched X Wt).amount (cell c (kOwn d)) 0 0 = NC := amount_cell X Wt c (kOwn d) 0 0
  have hp : (sched X Wt).payload (cell c (kOwn d)) 0 0 = ownP X Wt c d := payload_cell X Wt c (kOwn d) 0 0
  have h2 : ∀ fd, iprop(outC c d (ch d c 7) ((oM.slice (chR d (ch d c 7)) (fun _ => rfl)).view.write (Elt F) fd ((aM.slice (chR d (ch d c 7)) (fun _ => rfl)).view.read (Elt F) (AB X Wt c)) Finset.univ)
      ∗ accC c d (ch d c 7) fullShare.right (AB X Wt c)) ⊢ (sched X Wt).payload (cell c (kOwn d)) 0 0 := fun fd => by
    rw [hp]; unfold ownP
    exact sep_mono_left (Entails.of_eq (outC_congr _ _ _ _ _ fun i hi => (copy_own d _ fd (AB X Wt c) hi).trans (AB_last X Wt hi)))
  unfold flushOwn
  generalize_proofs p1 p2 p3
  revert p1 p2 p3
  rw [ownA_eq, ownO_eq]
  intro p1 p2 p3
  unfold accC outC at *
  iintro ⟨#Hctx, Hs, ⟨%fd, Hd⟩, Ht⟩ HK
  ihave #HI := (ctx_inv X Wt Kn c (kOwn d)) $$ Hctx
  ihave #Hr := (ctx_reached X Wt Kn c (kOwn d)) $$ Hctx
  iapply (Rounds.wp_copy_pointsTo 𝒱₀ ER (sched X Wt) (c : Thread nD τ) none (src := aM.slice (chR d (ch d c 7)) (fun _ => rfl)) (dst := oM.slice (chR d (ch d c 7)) (fun _ => rfl))
      (sem := .dma (ownS d)) (q := fullShare.right) (fs := AB X Wt c) (fd := fd) (r := 0) (d := 0) (κ := Kn (c, kOwn d))
      (by have h := hd; show 0 ∈ (sched X Wt).duties (cell c (kOwn d)) 0; rw [h]; exact Finset.mem_singleton_self _) 0 NC rfl ha (h2 fd)) $$ [Hs Hd Ht]
  · isplitr; · iexact HI
    isplitl [Hs]; · iexact Hs
    isplitl [Hd]; · iexact Hd
    isplitl [Ht]; · iexact Ht
    iexact Hr
  iexact HK

/-- Awaiting it. -/
theorem wp_waitOwn (c : Dev nD) (d : Bool) (l : List Pay) (hl : Above 0 l) {K : PR F} {Q : PUnit.{1} → sProp 𝕄} :
    iprop(ctx X Wt Kn ∗ cred (tallyAt (cell c (kOwn d)) 0 NC) ∗ due c l ∗ atPos ER (cell c (kOwn d)) 0 ∅ 0)
      ⊢ iprop(((due c l ∗ pos c (kOwn d) 1 ∗ ownP X Wt c d) -∗ WPc c K Q) -∗ WPc c (waitOwn d c K) Q) := by
  have hE : (sched X Wt).expect (cell c (kOwn d)) 0 = NC := by rw [expect_cell]; exact Finset.sum_singleton _ _
  have hrest : bigSep ((sched X Wt).duties (cell c (kOwn d)) 0 \ ∅) (fun e => (sched X Wt).payload (cell c (kOwn d)) 0 e) = ownP X Wt c d := by
    rw [rest_cell]
    show bigSep ({0} : Finset ℕ) _ = _
    rw [bigSep_singleton]; rfl
  rw [← hrest]
  unfold waitOwn
  exact wp_wait_dma X Wt Kn c (kOwn d) (ownS d) rfl NC ((congrArg (fun M : Memref sig .tc .hbm S256x2048 .f32 => M.view.dmaCredit) (ownO_eq d c)).trans (by cases d <;> rfl)) 0 hE _ (by decide) l hl (K := fun _ => K)

end Rules

/-! ## The products and the accumulations -/

theorem off1_eq (c : Dev nD) (k : Fin 2) : k0_off1 c (w32 (128 * k.val)) = ![rb false (ch false c 0) k, 0] := by
  rw [k0_off1_eq]; exact vec_congr (by have := c.isLt; have h8 : nD = 8 := rfl; simp [rb, rc, ch]; omega)
theorem off2_eq (c : Dev nD) (k : Fin 2) : k0_off2 c (w32 (128 * k.val)) = ![rb false (ch false c 0) k, 0] := by
  rw [k0_off2_eq]; exact vec_congr (by have := c.isLt; have h8 : nD = 8 := rfl; simp [rb, rc, ch]; omega)
theorem off3_eq (c : Dev nD) (k : Fin 2) : k0_off3 c (w32 (128 * k.val)) = ![rb true (ch true c 0) k, 0] := by
  rw [k0_off3_eq]; exact vec_congr (by have := c.isLt; have h8 : nD = 8 := rfl; simp [rb, rc, ch]; omega)
theorem off4_eq (c : Dev nD) (k : Fin 2) : k0_off4 c (w32 (128 * k.val)) = ![rb true (ch true c 0) k, 0] := by
  rw [k0_off4_eq]; exact vec_congr (by have := c.isLt; have h8 : nD = 8 := rfl; simp [rb, rc, ch]; omega)
theorem off7_eq (c : Dev nD) (s : Fin 7) : k0_off7 c (w32 s.val) = ![rc false (ch false c (s.val + 1)), 0] := by
  rw [k0_off7_eq]; exact vec_congr (by have := s.isLt; have := c.isLt; simp [rc, ch]; omega)
theorem off8_eq (c : Dev nD) (s : Fin 7) : k0_off8 c (w32 s.val) = ![rc false (ch false c (s.val + 1)), 0] := by
  rw [k0_off8_eq]; exact vec_congr (by have := s.isLt; have := c.isLt; simp [rc, ch]; omega)
theorem off9_eq (c : Dev nD) (s : Fin 7) : k0_off9 c (w32 s.val) = ![rc true (ch true c (s.val + 1)), 0] := by
  rw [k0_off9_eq]; exact vec_congr (by have := s.isLt; have := c.isLt; simp [rc, ch]; omega)
theorem off10_eq (c : Dev nD) (s : Fin 7) : k0_off10 c (w32 s.val) = ![rc true (ch true c (s.val + 1)), 0] := by
  rw [k0_off10_eq]; exact vec_congr (by have := s.isLt; have := c.isLt; simp [rc, ch]; omega)

section Compute

variable (X : Dev nD → Vec F S4096x512 .f32) (Wt : Dev nD → Vec F S512x2048 .f32)

/-- The two operands, staged. -/
def xPt (c : Dev nD) : sProp 𝕄 := (xM.view.loc (c : Thread nD τ)) ↦[Finset.univ]{fullShare} X c
def wPt (c : Dev nD) : sProp 𝕄 := (wM.view.loc (c : Thread nD τ)) ↦[Finset.univ]{fullShare} Wt c
def inP (c : Dev nD) : sProp 𝕄 := iprop(xPt X c ∗ wPt Wt c)

theorem acc_load_sub (r : Rect S4096x2048) (h : ∀ a, r.stride a = 1) : aM.view.setOn r.toLoadRect.set ⊆ (aM.slice r h).view.set := by
  intro i hi
  have e : (aM.slice r h).view.set = r.set := View.set_slice_whole _ _
  rw [e]
  obtain ⟨j, hj, rfl⟩ := Finset.mem_map.mp hi
  exact hj
theorem acc_store_sub (r : Rect S4096x2048) (h : ∀ a, r.stride a = 1) : (aM.access r).setOn Finset.univ ⊆ (aM.slice r h).view.set := subset_of_eq rfl

/-- A product of 128 rows. -/
theorem wp_gemm128 (c : Dev nD) (d : Bool) (h : Fin 8) (k : Fin 2) (ox oa : Fin 2 → Nat) (hx : ∀ a, ox a + S128x512.size a ≤ S4096x512.size a)
    (ha : ∀ a, oa a + S128x2048.size a ≤ S4096x2048.size a) (ex : ox = ![rb d h k, 0]) (ea : oa = ![rb d h k, 0]) {K : PR F} {Q : PUnit.{1} → sProp 𝕄} :
    iprop(inP X Wt c ∗ ∃ f, accP c d h k fullShare f)
      ⊢ iprop((∀ f, (inP X Wt c ∗ accP c d h k fullShare ((aM.access (blkR d h k)).write (Elt F) f (p128 X Wt c d h k) Finset.univ)) -∗ WPc c K Q)
          -∗ WPc c (gemm128 ox oa hx ha K) Q) := by
  subst ex ea
  unfold gemm128 inP xPt wPt accP
  iintro ⟨⟨Hx, Hw⟩, ⟨%f, Ha⟩⟩ HK
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := aM) (acc_load_sub (blkR d h k) (fun _ => rfl))) $$ Ha; iintro Ha
  iapply (wp_store 𝒱₀ (c : Thread nD τ) none Set.univ (m := aM) (r := blkR d h k) (Mk := Finset.univ) (acc_store_sub (blkR d h k) (fun _ => rfl))) $$ Ha; iintro Ha
  iapply HK $$ %f
  isplitl [Hx Hw]
  · isplitl [Hx]; · iexact Hx
    iexact Hw
  iexact Ha
/-- A product of 256 rows. -/
theorem wp_gemm256 (c : Dev nD) (d : Bool) (h : Fin 8) (ox oa : Fin 2 → Nat) (hx : ∀ a, ox a + S256x512.size a ≤ S4096x512.size a)
    (ha : ∀ a, oa a + S256x2048.size a ≤ S4096x2048.size a) (ex : ox = ![rc d h, 0]) (ea : oa = ![rc d h, 0]) {K : PR F} {Q : PUnit.{1} → sProp 𝕄} :
    iprop(inP X Wt c ∗ ∃ f, accC c d h fullShare f)
      ⊢ iprop((∀ f, (inP X Wt c ∗ accC c d h fullShare ((aM.access (chR d h)).write (Elt F) f (p256 X Wt c d h) Finset.univ)) -∗ WPc c K Q)
          -∗ WPc c (gemm256 ox oa hx ha K) Q) := by
  subst ex ea
  unfold gemm256 inP xPt wPt accC
  iintro ⟨⟨Hx, Hw⟩, ⟨%f, Ha⟩⟩ HK
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := aM) (acc_load_sub (chR d h) (fun _ => rfl))) $$ Ha; iintro Ha
  iapply (wp_store 𝒱₀ (c : Thread nD τ) none Set.univ (m := aM) (r := chR d h) (Mk := Finset.univ) (acc_store_sub (chR d h) (fun _ => rfl))) $$ Ha; iintro Ha
  iapply HK $$ %f
  isplitl [Hx Hw]
  · isplitl [Hx]; · iexact Hx
    iexact Hw
  iexact Ha

/-- The own product of a half: the block of the first send, ready. -/
theorem wp_gemmOwn (c : Dev nD) (d : Bool) (k : Fin 2) {K : PR F} {Q : PUnit.{1} → sProp 𝕄} :
    iprop(inP X Wt c ∗ ∃ f, accP c d (ch d c 0) k fullShare f)
      ⊢ iprop(((inP X Wt c ∗ srcP X Wt c d 0 k) -∗ WPc c K Q) -∗ WPc c (gemmOwn d c k K) Q) := by
  have e : ∀ f, accP c d (ch d c 0) k fullShare ((aM.access (blkR d (ch d c 0) k)).write (Elt F) f (p128 X Wt c d (ch d c 0) k) Finset.univ) ⊢ srcP X Wt c d 0 k := fun f => by
    unfold srcP; rw [if_pos (by decide)]
    exact Entails.of_eq (accP_congr _ _ _ _ _ _ _ fun i hi => (store_p128 X Wt d c k f hi).trans (AB_zero X Wt (blk_sub d _ k hi)).symm)
  have hg : iprop(inP X Wt c ∗ ∃ f, accP c d (ch d c 0) k fullShare f)
      ⊢ iprop((∀ f, (inP X Wt c ∗ accP c d (ch d c 0) k fullShare ((aM.access (blkR d (ch d c 0) k)).write (Elt F) f (p128 X Wt c d (ch d c 0) k) Finset.univ)) -∗ WPc c K Q)
          -∗ WPc c (gemmOwn d c k K) Q) := by
    cases d
    · exact wp_gemm128 X Wt c false (ch false c 0) k _ _ _ _ (off1_eq c k) (off2_eq c k)
    · exact wp_gemm128 X Wt c true (ch true c 0) k _ _ _ _ (off3_eq c k) (off4_eq c k)
  iintro H HK
  iapply hg $$ H
  iintro %f ⟨Hi, Ha⟩
  iapply HK
  isplitl [Hi]; · iexact Hi
  iapply (e f) $$ Ha

/-- The product of the chunk step `s` receives into. -/
theorem wp_gemmNext (c : Dev nD) (d : Bool) (s : Fin 7) {K : PR F} {Q : PUnit.{1} → sProp 𝕄} :
    iprop(inP X Wt c ∗ ∃ f, accC c d (ch d c (s.val + 1)) fullShare f)
      ⊢ iprop(((inP X Wt c ∗ accP c d (ch d c (s.val + 1)) 0 fullShare (PB X Wt c) ∗ accP c d (ch d c (s.val + 1)) 1 fullShare (PB X Wt c)) -∗ WPc c K Q)
          -∗ WPc c (gemmNext d c s K) Q) := by
  have e : ∀ f, accC c d (ch d c (s.val + 1)) fullShare ((aM.access (chR d (ch d c (s.val + 1)))).write (Elt F) f (p256 X Wt c d (ch d c (s.val + 1))) Finset.univ)
      ⊢ iprop(accP c d (ch d c (s.val + 1)) 0 fullShare (PB X Wt c) ∗ accP c d (ch d c (s.val + 1)) 1 fullShare (PB X Wt c)) := fun f =>
    (Entails.of_eq (accC_congr _ _ _ _ _ _ fun i hi => store_p256 X Wt d c s.val s.isLt f hi)).trans (accC_halves c d _ fullShare _).1
  have hg : iprop(inP X Wt c ∗ ∃ f, accC c d (ch d c (s.val + 1)) fullShare f)
      ⊢ iprop((∀ f, (inP X Wt c ∗ accC c d (ch d c (s.val + 1)) fullShare ((aM.access (chR d (ch d c (s.val + 1)))).write (Elt F) f (p256 X Wt c d (ch d c (s.val + 1))) Finset.univ)) -∗ WPc c K Q)
          -∗ WPc c (gemmNext d c s K) Q) := by
    cases d
    · exact wp_gemm256 X Wt c false (ch false c (s.val + 1)) _ _ _ _ (off7_eq c s) (off8_eq c s)
    · exact wp_gemm256 X Wt c true (ch true c (s.val + 1)) _ _ _ _ (off9_eq c s) (off10_eq c s)
  iintro H HK
  iapply hg $$ H
  iintro %f ⟨Hi, Ha⟩
  iapply HK
  isplitl [Hi]; · iexact Hi
  iapply (e f) $$ Ha

theorem recv_load_sub (d : Bool) (j k : Fin 2) : (rM d).view.setOn (recvR j k).toLoadRect.set ⊆ (recvB d j k).view.set := by
  cases d
  · intro i hi
    have e : (recvB false j k).view.set = (recvR j k).set := (View.set_reshape _ _).trans (View.set_slice_whole _ _)
    rw [e]
    obtain ⟨j', hj, rfl⟩ := Finset.mem_map.mp hi
    exact hj
  · intro i hi
    have e : (recvB true j k).view.set = (recvR j k).set := (View.set_reshape _ _).trans (View.set_slice_whole _ _)
    rw [e]
    obtain ⟨j', hj, rfl⟩ := Finset.mem_map.mp hi
    exact hj

/-- The program text of an accumulation, over any way of naming its rectangle. -/
def addG (d : Bool) (off : Fin 2 → Nat) (hi : ∀ a, off a + S128x2048.size a ≤ S4096x2048.size a) (j k : Fin 2) (K : PR F) : PR F :=
  Prog.op (.load aM (Rect.unit (s := S4096x2048) off S128x2048.size hi).toLoadRect (View.loadsAt_vmem h_S128x2048)) fun (x : Vec F S128x2048 .f32) =>
  Prog.op (.load (rM d) (recvR j k).toLoadRect (View.loadsAt_vmem h_S1x1x128x2048)) fun (y : Vec F S1x1x128x2048 .f32) =>
  Prog.op (.load aM (Rect.unit (s := S4096x2048) off S128x2048.size hi).toLoadRect (View.loadsAt_vmem h_S128x2048)) fun _ =>
  Prog.op (.store aM (Rect.unit (s := S4096x2048) off S128x2048.size hi) (k0_pay9 x y) Finset.univ (View.stores_vmem_bits_univ h_S128x2048 rfl) (.inl rfl)) fun _ => K

/-- What an accumulation leaves of its block. -/
theorem add_block (c : Dev nD) (d : Bool) (n : ℕ) (hn : n < 7) (k : Fin 2) (v : Vec F S1x1x128x2048 .f32)
    (hv : shapeCast (α := Elt F .f32) S128x2048 v shapeCasts_S1x1x128x2048_S128x2048 = (accB d (ch d c (n + 1)) k).view.read (Elt F) (AB X Wt (nxP (!d) c))) :
    accP c d (ch d c (n + 1)) k fullShare ((aM.access (blkR d (ch d c (n + 1)) k)).write (Elt F) (PB X Wt c)
        (k0_pay9 (aM.view.readAt (Elt F) (blkR d (ch d c (n + 1)) k).toLoadRect (PB X Wt c)) v) Finset.univ)
      ⊢ accP c d (ch d c (n + 1)) k fullShare (AB X Wt c) :=
  Entails.of_eq (accP_congr _ _ _ _ _ _ _ fun i hi => store_add X Wt d c n hn k (PB X Wt c) (PB X Wt c) _ (fun _ _ => rfl) hv hi)
theorem land_eq (c : Dev nD) (d : Bool) (n : ℕ) (hn : n < 7) (k : Fin 2) :
    landP X Wt c d n k = iprop(∃ f, recvP c d (sl n) k f ∗ ⌜(recvB d (sl n) k).view.read (Elt F) f = (accB d (ch d c (n + 1)) k).view.read (Elt F) (AB X Wt (nxP (!d) c))⌝) := by
  unfold landP; rw [if_pos hn]

/-- An accumulation's run. -/
theorem wp_addRun (c : Dev nD) (d : Bool) (h : Fin 8) (j k : Fin 2) (f : (rM d).view.ty.Contents (Elt F)) (g : OV F) {K : PR F} {Q : PUnit.{1} → sProp 𝕄} :
    iprop(accP c d h k fullShare g ∗ recvP c d j k f)
      ⊢ iprop(((accP c d h k fullShare ((aM.access (blkR d h k)).write (Elt F) g
              (k0_pay9 (aM.view.readAt (Elt F) (blkR d h k).toLoadRect g) ((rM d).view.readAt (Elt F) (recvR j k).toLoadRect f)) Finset.univ) ∗ recvP c d j k f) -∗ WPc c K Q)
          -∗ WPc c (addG d ![rb d h k, 0] (inbB _ (rb_le d h k)) j k K) Q) := by
  unfold addG accP recvP
  iintro ⟨Ha, Hr⟩ HK
  iapply (wp_load 𝒱₀ (c : Thread nD τ) none Set.univ (m := aM) (acc_load_sub (blkR d h k) (fun _ => rfl))) $$ Ha; iintro Ha
  iapply (wp_load 𝒱₀ (c : Thread nD τ) none Set.univ (m := rM d) (recv_load_sub d j k)) $$ Hr; iintro Hr
  iapply (wp_load 𝒱₀ (c : Thread nD τ) none Set.univ (m := aM) (acc_load_sub (blkR d h k) (fun _ => rfl))) $$ Ha; iintro Ha
  iapply (wp_store 𝒱₀ (c : Thread nD τ) none Set.univ (m := aM) (r := blkR d h k) (Mk := Finset.univ) (acc_store_sub (blkR d h k) (fun _ => rfl))) $$ Ha; iintro Ha
  iapply HK
  isplitl [Ha]; · iexact Ha
  iexact Hr

/-- The accumulation of an arrived block: the next partial sum; the half-slot is free again. -/
theorem wp_addG (c : Dev nD) (d : Bool) (n : ℕ) (hn : n < 7) (k : Fin 2) (off : Fin 2 → Nat) (hi : ∀ a, off a + S128x2048.size a ≤ S4096x2048.size a)
    (ho : off = ![rb d (ch d c (n + 1)) k, 0]) {K : PR F} {Q : PUnit.{1} → sProp 𝕄} :
    iprop(accP c d (ch d c (n + 1)) k fullShare (PB X Wt c) ∗ landP X Wt c d n k)
      ⊢ iprop(((accP c d (ch d c (n + 1)) k fullShare (AB X Wt c) ∗ ∃ f, recvP c d (sl n) k f) -∗ WPc c K Q)
          -∗ WPc c (addG d off hi (sl n) k K) Q) := by
  subst ho
  rw [land_eq X Wt c d n hn k]
  iintro ⟨Ha, ⟨%f, Hr, %hf⟩⟩ HK
  iapply (wp_addRun c d (ch d c (n + 1)) (sl n) k f (PB X Wt c)) $$ [Ha Hr]
  · isplitl [Ha]; · iexact Ha
    iexact Hr
  iintro ⟨Ha, Hr⟩
  iapply HK
  isplitl [Ha]
  · iapply (add_block X Wt c d n hn k _ ((recv_cast d (sl n) k f).trans hf)) $$ Ha
  iexists f; iexact Hr

theorem wp_addRS (c : Dev nD) (d : Bool) (s : Fin 7) (k : Fin 2) {K : PR F} {Q : PUnit.{1} → sProp 𝕄} :
    iprop(accP c d (ch d c (s.val + 1)) k fullShare (PB X Wt c) ∗ landP X Wt c d s.val k)
      ⊢ iprop(((accP c d (ch d c (s.val + 1)) k fullShare (AB X Wt c) ∗ ∃ f, recvP c d (sl s.val) k f) -∗ WPc c K Q)
          -∗ WPc c (addRS d c s k K) Q) := by
  cases d
  · exact wp_addG X Wt c false s.val s.isLt k _ (k0_off11_inb c s k) (off11_eq c s k)
  · exact wp_addG X Wt c true s.val s.isLt k _ (k0_off12_inb c s k) (off12_eq c s k)

end Compute

end Cert.RingProof

end
-- ==== Proof.Lane.lean ====
/-
# A lane

A lane of a device is a direction and a half-chunk: at each step it receives one block, makes the next one and sends it. What
a lane holds at the start of step `s` is a function of `s`; the rules here take it from step to step.
-/
module

public import proofs.«01_k».proof.Proof.Local
public import Idealize.SL.BI.BigOpNat

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem sl_add2 (n : ℕ) : sl (n + 2) = sl n := Fin.ext (by show (n + 2) % 2 = n % 2; omega)

/-- A run over no numbers. -/
theorem run_none {a b : ℕ} (h : b ≤ a) (A : ℕ → sProp 𝕄) : bigSep (Finset.Ico a b) A = iprop(emp) := by
  rw [Finset.Ico_eq_empty_of_le h, bigSep_empty]; rfl

/-! ## The receiving side -/

/-- Receipts `s` and later are still to come. -/
def rcvS (c : Dev nD) (d : Bool) (k : Fin 2) (s : ℕ) : sProp 𝕄 :=
  iprop(bigSep (Finset.Ico s 14) (rCr c d k) ∗ pos c (kRcv d k (sl s)) (s / 2) ∗ pos c (kRcv d k (sl (s + 1))) ((s + 1) / 2))

/-! ## The sending side -/

/-- Sends up to `s` have been started, those up to `s - 2` have left. -/
def sndS (X : Dev nD → Vec F S4096x512 .f32) (Wt : Dev nD → Vec F S512x2048 .f32) (c : Dev nD) (d : Bool) (k : Fin 2) (s : ℕ) : sProp 𝕄 :=
  iprop(bigSep (Finset.Ico (s + 1) 14) (tok c d k) ∗ sCr c d k s ∗ (if 0 < s then sCr c d k (s - 1) else iprop(emp))
    ∗ pos c (kSnd d k (sl s)) (s / 2) ∗ pos c (kSnd d k (sl (s + 1))) ((s + 1) / 2 - 1) ∗ bigSep (Finset.Ico 0 (s - 1)) fun n => srcP X Wt c d n k)
/-- Sends up to `s` have been started, those up to `s - 1` have left. -/
def sndL (X : Dev nD → Vec F S4096x512 .f32) (Wt : Dev nD → Vec F S512x2048 .f32) (c : Dev nD) (d : Bool) (k : Fin 2) (s : ℕ) : sProp 𝕄 :=
  iprop(bigSep (Finset.Ico (s + 1) 14) (tok c d k) ∗ sCr c d k s
    ∗ pos c (kSnd d k (sl s)) (s / 2) ∗ pos c (kSnd d k (sl (s + 1))) ((s + 1) / 2) ∗ bigSep (Finset.Ico 0 s) fun n => srcP X Wt c d n k)

/-! ## The destinations -/

/-- A receive half-slot, whatever it holds. -/
def slotP (c : Dev nD) (d : Bool) (j k : Fin 2) : sProp 𝕄 := iprop(∃ f, recvP c d j k f)

/-- The device's own destinations not handed over yet, and the receive half-slots it keeps once they are of no more use. -/
def bufS (c : Dev nD) (d : Bool) (k : Fin 2) (s : ℕ) : sProp 𝕄 :=
  iprop(bigSep (Finset.Ico (max 7 (s + 2)) 14) (fun n => dstP c d n k)
    ∗ (if 6 ≤ s then slotP c d 1 k else iprop(emp)) ∗ (if 7 ≤ s then slotP c d 0 k else iprop(emp)))
/-- The half-slot that step `s` frees. -/
def freeP (c : Dev nD) (d : Bool) (k : Fin 2) (s : ℕ) : sProp 𝕄 := if s < 7 then slotP c d (sl s) k else iprop(emp)
/-- The destination handed over at step `s`. -/
def giveP (c : Dev nD) (d : Bool) (k : Fin 2) (s : ℕ) : sProp 𝕄 := if s ≤ 11 then dstP c d (s + 2) k else iprop(emp)

theorem dstP_lo (c : Dev nD) (d : Bool) (n : ℕ) (k : Fin 2) (h : n < 7) : dstP (F := F) c d n k = slotP c d (sl n) k := by
  unfold dstP slotP; rw [if_pos h]

/-- What a step frees or still has is what it hands over and what remains. -/
theorem give (c : Dev nD) (d : Bool) (k : Fin 2) (s : ℕ) : (iprop(freeP c d k s ∗ bufS c d k s) : sProp 𝕄) ⊢ iprop(giveP c d k s ∗ bufS c d k (s + 1)) := by
  unfold freeP bufS giveP
  by_cases h4 : s ≤ 4
  · rw [if_pos (by omega : s < 7), if_pos (by omega : s ≤ 11), dstP_lo c d (s + 2) k (by omega), sl_add2, if_neg (by omega : ¬6 ≤ s), if_neg (by omega : ¬7 ≤ s),
      if_neg (by omega : ¬6 ≤ s + 1), if_neg (by omega : ¬7 ≤ s + 1), max_eq_left (by omega : s + 2 ≤ 7), max_eq_left (by omega : s + 1 + 2 ≤ 7)]
  by_cases h5 : s = 5
  · subst h5
    rw [if_pos (by decide : 5 < 7), if_pos (by decide : 5 ≤ 11), if_neg (by decide : ¬6 ≤ 5), if_neg (by decide : ¬7 ≤ 5), if_pos (by decide : 6 ≤ 5 + 1), if_neg (by decide : ¬7 ≤ 5 + 1)]
    show iprop(slotP c d 1 k ∗ bigSep (Finset.Ico 7 14) (fun n => dstP c d n k) ∗ emp ∗ emp) ⊢ iprop(dstP c d 7 k ∗ bigSep (Finset.Ico 8 14) (fun n => dstP c d n k) ∗ slotP c d 1 k ∗ emp)
    rw [bigSep_Ico_succ_bot (by decide : 7 < 14)]
    iintro ⟨H1, ⟨H2, H3⟩, -, -⟩
    isplitl [H2]; · iexact H2
    isplitl [H3]; · iexact H3
    isplitl [H1]; · iexact H1
    iempintro
  by_cases h6 : s = 6
  · subst h6
    rw [if_pos (by decide : 6 < 7), if_pos (by decide : 6 ≤ 11), if_pos (by decide : 6 ≤ 6), if_neg (by decide : ¬7 ≤ 6), if_pos (by decide : 6 ≤ 6 + 1), if_pos (by decide : 7 ≤ 6 + 1)]
    show iprop(slotP c d 0 k ∗ bigSep (Finset.Ico 8 14) (fun n => dstP c d n k) ∗ slotP c d 1 k ∗ emp) ⊢ iprop(dstP c d 8 k ∗ bigSep (Finset.Ico 9 14) (fun n => dstP c d n k) ∗ slotP c d 1 k ∗ slotP c d 0 k)
    rw [bigSep_Ico_succ_bot (by decide : 8 < 14)]
    iintro ⟨H1, ⟨H2, H3⟩, H4, -⟩
    isplitl [H2]; · iexact H2
    isplitl [H3]; · iexact H3
    isplitl [H4]; · iexact H4
    iexact H1
  rw [if_neg (by omega : ¬s < 7), if_pos (by omega : 6 ≤ s), if_pos (by omega : 7 ≤ s), if_pos (by omega : 6 ≤ s + 1), if_pos (by omega : 7 ≤ s + 1),
    max_eq_right (by omega : 7 ≤ s + 2), max_eq_right (by omega : 7 ≤ s + 1 + 2)]
  by_cases h11 : s ≤ 11
  · rw [if_pos h11, bigSep_Ico_succ_bot (by omega : s + 2 < 14)]
    iintro ⟨-, ⟨H2, H3⟩, H4, H5⟩
    isplitl [H2]; · iexact H2
    isplitl [H3]; · iexact H3
    isplitl [H4]; · iexact H4
    iexact H5
  · rw [if_neg h11, run_none (by omega : 14 ≤ s + 2), run_none (by omega : 14 ≤ s + 1 + 2)]

/-- With the round of the receipt open, it is what a send hands over. -/
theorem hand_make (c : Dev nD) (d : Bool) (k : Fin 2) (s : ℕ) :
    (iprop(giveP c d k s ∗ rcvS c d k (s + 1)) : sProp 𝕄) ⊢ iprop(handP c (!d) (s + 1) k ∗ rcvS c d k (s + 1)) := by
  unfold giveP rcvS handP pos
  by_cases h : s ≤ 11
  · rw [if_pos h, if_pos (by omega : s + 1 ≤ 12), Bool.not_not]
    iintro ⟨Hg, Hc, Hp, Hat, #Hr⟩
    isplitl [Hg]
    · isplitl [Hg]; · iexact Hg
      iexact Hr
    isplitl [Hc]; · iexact Hc
    isplitl [Hp]; · iexact Hp
    isplitl [Hat]; · iexact Hat
    iexact Hr
  · rw [if_neg (by omega : ¬s + 1 ≤ 12)]
    iintro ⟨-, H⟩
    isplitr; · iempintro
    iexact H

section Rules

variable (X : Dev nD → Vec F S4096x512 .f32) (Wt : Dev nD → Vec F S512x2048 .f32) (Kn : Dev nD × Kd → ℕ)

theorem wp_rcvS (c : Dev nD) (d : Bool) (k : Fin 2) (s : ℕ) (hs : s < 14) (l : List Pay) (hl : Above (2 * s + 3) l) {K : PR F} {Q : PUnit.{1} → sProp 𝕄} :
    iprop(ctx X Wt Kn ∗ rcvS c d k s ∗ due c l)
      ⊢ iprop(((due c l ∗ rcvS c d k (s + 1) ∗ landP X Wt c d s k ∗ handP (nxP (!d) c) d s k) -∗ WPc c K Q) -∗ WPc c (recvN d c s k K) Q) := by
  unfold rcvS
  rw [bigSep_Ico_succ_bot hs, show s + 1 + 1 = s + 2 from rfl, sl_add2, show (s + 2) / 2 = s / 2 + 1 by omega]
  iintro ⟨#Hctx, ⟨⟨Hc, Hcs⟩, Hp, Hp'⟩, HO⟩ HK
  unfold pos
  icases Hp with ⟨Hp, -⟩
  iapply (wp_recvN X Wt Kn c d k s hs l hl) $$ [Hc HO Hp]
  · isplitr; · iexact Hctx
    isplitl [Hc]; · iexact Hc
    isplitl [HO]; · iexact HO
    iexact Hp
  iintro ⟨HO, Hp, Hl, Hh⟩
  unfold pos
  iapply HK
  iframe HO Hcs Hp' Hp Hl Hh

theorem wp_sndLeft (c : Dev nD) (d : Bool) (k : Fin 2) (s : ℕ) (h0 : 0 < s) (hs : s < 14) (l : List Pay) (hl : Above 0 l) {K : PR F} {Q : PUnit.{1} → sProp 𝕄} :
    iprop(ctx X Wt Kn ∗ sndS X Wt c d k s ∗ due c l)
      ⊢ iprop(((due c l ∗ sndL X Wt c d k s) -∗ WPc c K Q) -∗ WPc c (leftN d c (s - 1) k K) Q) := by
  obtain ⟨s, rfl⟩ : ∃ t, s = t + 1 := ⟨s - 1, by omega⟩
  unfold sndS sndL
  rw [if_pos h0, bigSep_Ico_succ_top (Nat.zero_le s), show s + 1 - 1 = s from rfl, show s + 1 + 1 = s + 2 from rfl, sl_add2,
    show (s + 2) / 2 - 1 = s / 2 by omega, show (s + 2) / 2 = s / 2 + 1 by omega]
  iintro ⟨#Hctx, ⟨Ht, Hc, Hc', Hp, Hp', Hb⟩, HO⟩ HK
  ihave Hp' := (show pos c (kSnd d k (sl s)) (s / 2) ⊢ (atPos ER (cell c (kSnd d k (sl s))) (s / 2) ∅ 0 : sProp 𝕄) by unfold pos; iintro ⟨H, -⟩; iexact H) $$ Hp'
  iapply (wp_leftN X Wt Kn c d k s (by omega) l hl) $$ [Hc' HO Hp']
  · isplitr; · iexact Hctx
    isplitl [Hc']; · iexact Hc'
    isplitl [HO]; · iexact HO
    iexact Hp'
  iintro ⟨HO, Hp', Hl⟩
  iapply HK
  iframe HO Ht Hc Hp Hp' Hl Hb

theorem sndLeft_zero (c : Dev nD) (d : Bool) (k : Fin 2) : sndS X Wt c d k 0 ⊢ sndL X Wt c d k 0 := by
  unfold sndS sndL
  rw [if_neg (Nat.lt_irrefl 0)]
  iintro ⟨Ht, Hc, -, Hp, Hp', Hb⟩
  iframe Ht Hc Hp Hp' Hb

theorem wp_sndSend (c : Dev nD) (d : Bool) (k : Fin 2) (s : ℕ) (hs : s + 1 < 14) (l : List Pay) {K : PR F} {Q : PUnit.{1} → sProp 𝕄} :
    iprop(ctx X Wt Kn ∗ sndL X Wt c d k s ∗ srcP X Wt c d (s + 1) k ∗ handP (nxP d c) (!d) s k ∗ handP c d (s + 1) k ∗ due c (pSnd d k (s + 1) :: l))
      ⊢ iprop(((due c l ∗ sndS X Wt c d k (s + 1)) -∗ WPc c K Q) -∗ WPc c (sendN d c (s + 1) k K) Q) := by
  have eh : handP (F := F) (nxP d c) (!d) s k = iprop(dstP (nxP d c) d (s + 1) k ∗ reached ER (cell (nxP d c) (kRcv d k (sl (s + 1)))) ((s + 1) / 2)) := by
    unfold handP; rw [if_pos (by omega), Bool.not_not]
  rw [eh]
  unfold sndL sndS
  rw [if_pos (Nat.succ_pos s), bigSep_Ico_succ_bot hs, show s + 1 - 1 = s from rfl, show s + 1 + 1 = s + 2 from rfl, sl_add2, show (s + 2) / 2 - 1 = s / 2 by omega]
  iintro ⟨#Hctx, ⟨⟨Ht, Hts⟩, Hc, Hp, Hp', Hb⟩, Hsrc, ⟨Hd, Hrd⟩, Hh, HO⟩ HK
  ihave ⟨Hp', #Hrs⟩ := (show pos c (kSnd d k (sl (s + 1))) ((s + 1) / 2) ⊢ (iprop(pos c (kSnd d k (sl (s + 1))) ((s + 1) / 2) ∗ reached ER (cell c (kSnd d k (sl (s + 1)))) ((s + 1) / 2)) : sProp 𝕄) by
    unfold pos; iintro ⟨H, #H2⟩; isplitl [H]; · (isplitl [H]; · iexact H); iexact H2
    iexact H2) $$ Hp'
  iapply (wp_sendN X Wt Kn c d k (s + 1) hs l) $$ [Hsrc Hd Hrd Hh HO Ht]
  · isplitr; · iexact Hctx
    isplitl [Hsrc]; · iexact Hsrc
    isplitl [Hd]; · iexact Hd
    isplitl [Hh]; · iexact Hh
    isplitl [HO]; · iexact HO
    isplitl [Ht]; · iexact Ht
    isplitr; · iexact Hrs
    iexact Hrd
  iintro ⟨Hc', HO⟩
  iapply HK
  iframe HO Hts Hc' Hc Hp' Hp Hb

/-! ## A whole lane -/

/-- A lane at the start of step `s`; and once the block of step `s` has come and the next one is made. -/
def laneS (c : Dev nD) (d : Bool) (k : Fin 2) (s : ℕ) : sProp 𝕄 := iprop(rcvS c d k s ∗ sndS X Wt c d k s ∗ bufS c d k s)
def midS (c : Dev nD) (d : Bool) (k : Fin 2) (s : ℕ) : sProp 𝕄 :=
  iprop(rcvS c d k (s + 1) ∗ sndS X Wt c d k s ∗ bufS c d k s ∗ srcP X Wt c d (s + 1) k ∗ freeP c d k s ∗ handP (nxP (!d) c) d s k)

/-- The two sends of step `s + 1` on a half. -/
theorem wp_sends2 (c : Dev nD) (k : Fin 2) (s : ℕ) (hs : s + 1 < 14) (l : List Pay) {K : PR F} {Q : PUnit.{1} → sProp 𝕄} :
    iprop(ctx X Wt Kn ∗ sndL X Wt c false k s ∗ sndL X Wt c true k s
        ∗ (rcvS c false k (s + 1) ∗ bufS c false k s ∗ srcP X Wt c false (s + 1) k ∗ freeP c false k s ∗ handP (nxP true c) false s k)
        ∗ (rcvS c true k (s + 1) ∗ bufS c true k s ∗ srcP X Wt c true (s + 1) k ∗ freeP c true k s ∗ handP (nxP false c) true s k)
        ∗ due c (pSnds (s + 1) k l))
      ⊢ iprop(((due c l ∗ laneS X Wt c false k (s + 1) ∗ laneS X Wt c true k (s + 1)) -∗ WPc c K Q)
          -∗ WPc c (sendN false c (s + 1) k <| sendN true c (s + 1) k K) Q) := by
  unfold pSnds laneS
  iintro ⟨#Hctx, Hs, Hs', ⟨Hr, Hb, Hsrc, Hf, Hh⟩, ⟨Hr', Hb', Hsrc', Hf', Hh'⟩, HO⟩ HK
  ihave ⟨Hg, Hb⟩ := (give c false k s) $$ [Hf Hb]
  · iframe Hf Hb
  ihave ⟨Hg', Hb'⟩ := (give c true k s) $$ [Hf' Hb']
  · iframe Hf' Hb'
  ihave ⟨Hg, Hr⟩ := (hand_make c false k s) $$ [Hg Hr]
  · iframe Hg Hr
  ihave ⟨Hg', Hr'⟩ := (hand_make c true k s) $$ [Hg' Hr']
  · iframe Hg' Hr'
  iapply (wp_sndSend X Wt Kn c false k s hs (pSnd true k (s + 1) :: l)) $$ [Hs Hsrc Hh' Hg' HO]
  · isplitr; · iexact Hctx
    isplitl [Hs]; · iexact Hs
    isplitl [Hsrc]; · iexact Hsrc
    isplitl [Hh']; · iexact Hh'
    isplitl [Hg']; · iexact Hg'
    iexact HO
  iintro ⟨HO, Hs⟩
  iapply (wp_sndSend X Wt Kn c true k s hs l) $$ [Hs' Hsrc' Hh Hg HO]
  · isplitr; · iexact Hctx
    isplitl [Hs']; · iexact Hs'
    isplitl [Hsrc']; · iexact Hsrc'
    isplitl [Hh]; · iexact Hh
    isplitl [Hg]; · iexact Hg
    iexact HO
  iintro ⟨HO, Hs'⟩
  iapply HK
  iframe HO Hr Hs Hb Hr' Hs' Hb'

/-- The sends of a half-step, those before having left. -/
theorem wp_sendsN (c : Dev nD) (k : Fin 2) (s : ℕ) (hs : s + 1 < 14) (l : List Pay) (hl : Above 0 l) {K : PR F} {Q : PUnit.{1} → sProp 𝕄} :
    iprop(ctx X Wt Kn ∗ midS X Wt c false k s ∗ midS X Wt c true k s ∗ due c (pSnds (s + 1) k l))
      ⊢ iprop(((due c l ∗ laneS X Wt c false k (s + 1) ∗ laneS X Wt c true k (s + 1)) -∗ WPc c K Q) -∗ WPc c (sendsN c s k K) Q) := by
  have hl' : Above 0 (pSnds (s + 1) k l) := .snds (by omega) (by omega) hl
  unfold midS sendsN
  by_cases h0 : 0 < s
  · rw [if_pos h0]
    iintro ⟨#Hctx, ⟨Hr, Hs, Hb, Hsrc, Hf, Hh⟩, ⟨Hr', Hs', Hb', Hsrc', Hf', Hh'⟩, HO⟩ HK
    iapply (wp_sndLeft X Wt Kn c false k s h0 (by omega) _ hl') $$ [Hs HO]
    · isplitr; · iexact Hctx
      iframe Hs HO
    iintro ⟨HO, Hs⟩
    iapply (wp_sndLeft X Wt Kn c true k s h0 (by omega) _ hl') $$ [Hs' HO]
    · isplitr; · iexact Hctx
      iframe Hs' HO
    iintro ⟨HO, Hs'⟩
    iapply (wp_sends2 X Wt Kn c k s hs l) $$ [Hs Hs' Hr Hb Hsrc Hf Hh Hr' Hb' Hsrc' Hf' Hh' HO]
    · isplitr; · iexact Hctx
      iframe Hs Hs' Hr Hb Hsrc Hf Hh Hr' Hb' Hsrc' Hf' Hh' HO
    iexact HK
  · rw [if_neg h0]
    obtain rfl : s = 0 := by omega
    iintro ⟨#Hctx, ⟨Hr, Hs, Hb, Hsrc, Hf, Hh⟩, ⟨Hr', Hs', Hb', Hsrc', Hf', Hh'⟩, HO⟩ HK
    ihave Hs := (sndLeft_zero X Wt c false k) $$ Hs
    ihave Hs' := (sndLeft_zero X Wt c true k) $$ Hs'
    iapply (wp_sends2 X Wt Kn c k 0 hs l) $$ [Hs Hs' Hr Hb Hsrc Hf Hh Hr' Hb' Hsrc' Hf' Hh' HO]
    · isplitr; · iexact Hctx
      iframe Hs Hs' Hr Hb Hsrc Hf Hh Hr' Hb' Hsrc' Hf' Hh' HO
    iexact HK

end Rules

end Cert.RingProof

end
-- ==== Proof.Steps.lean ====
/-
# The steps

What a device holds at the start of step `s`, and the rules that take it from step to step, through both phases to the end.
-/
module

public import proofs.«01_k».proof.Proof.Lane

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem Above.drop2 {b : ℕ} {p q : Pay} {l : List Pay} (h : Above b (p :: q :: l)) : Above b l :=
  fun r hr => h r (List.mem_cons_of_mem _ (List.mem_cons_of_mem _ hr))

/-- The chunks of the accumulator not yet written at step `s`. -/
def accR (c : Dev nD) (s : ℕ) : sProp 𝕄 :=
  bigSep (Finset.Ico (s + 1) 8) fun n => iprop((∃ f, accC c false (ch false c n) fullShare f) ∗ (∃ f, accC c true (ch true c n) fullShare f))
/-- How far the device is through its neighbours' grants. -/
def rdyR (c : Dev nD) (s : ℕ) : sProp 𝕄 :=
  if s < 13 then iprop(rdySt c false (s + 1) ∗ rdySt c true (s + 1)) else iprop(pos c (kRdy false) 1 ∗ pos c (kRdy true) 1)
/-- The credits of the grants to come, and the rights to those to give. -/
def gCrs (c : Dev nD) (s : ℕ) : sProp 𝕄 := bigSep (Finset.Ico s 13) fun s => gCr c (2 * s + 2)
def gToks (c : Dev nD) (s : ℕ) : sProp 𝕄 := bigSep (Finset.Ico (s + 1) 13) (gTok c)
/-- A direction's own copy, before it starts and while it runs. -/
def ownA0 (c : Dev nD) (d : Bool) : sProp 𝕄 := iprop((∃ f, outC c d (ch d c 7) f) ∗ dutyTok ER (cell c (kOwn d)) 0 0)
def ownB0 (c : Dev nD) (d : Bool) : sProp 𝕄 := cred (tallyAt (cell c (kOwn d)) 0 NC)
def ownR (c : Dev nD) (s : ℕ) : sProp 𝕄 := if s < 7 then iprop(ownA0 c false ∗ ownA0 c true) else iprop(ownB0 c false ∗ ownB0 c true)

section Rules

variable (X : Dev nD → Vec F S4096x512 .f32) (Wt : Dev nD → Vec F S512x2048 .f32) (Kn : Dev nD × Kd → ℕ)

/-- What step 6 leaves over of a finished block: a share of it, for the device's own copy. -/
def extra (c : Dev nD) (d : Bool) (k : Fin 2) (s : ℕ) : sProp 𝕄 := if s = 6 then accP c d (ch d c 7) k fullShare.right (AB X Wt c) else iprop(emp)

/-- What a device holds at the start of step `s`. -/
def stepS (c : Dev nD) (s : ℕ) : sProp 𝕄 :=
  iprop(inP X Wt c ∗ (laneS X Wt c false 0 s ∗ laneS X Wt c true 0 s) ∗ (laneS X Wt c false 1 s ∗ laneS X Wt c true 1 s)
    ∗ accR c s ∗ rdyR c s ∗ gCrs c s ∗ gToks c s ∗ ownR c s ∗ due c (payFrom s))

theorem src_make (c : Dev nD) (d : Bool) (k : Fin 2) (s : ℕ) (hs : s < 7) :
    accP c d (ch d c (s + 1)) k fullShare (AB X Wt c) ⊢ iprop(srcP X Wt c d (s + 1) k ∗ extra X Wt c d k s) := by
  unfold srcP extra
  by_cases h : s = 6
  · subst h
    rw [if_neg (by decide : ¬6 + 1 < 7), if_pos (by rfl : 6 + 1 = 7), if_pos rfl]
    exact (accP_share c d (ch d c 7) k (AB X Wt c)).1
  · rw [if_pos (by omega : s + 1 < 7), if_neg h]
    iintro H
    isplitl [H]; · iexact H
    iempintro

/-- A receipt of the first phase and the accumulation. -/
theorem wp_recvAdd (c : Dev nD) (d : Bool) (k : Fin 2) (s : Fin 7) (l : List Pay) (hl : Above (2 * s.val + 3) l) {K : PR F} {Q : PUnit.{1} → sProp 𝕄} :
    iprop(ctx X Wt Kn ∗ laneS X Wt c d k s.val ∗ accP c d (ch d c (s.val + 1)) k fullShare (PB X Wt c) ∗ due c l)
      ⊢ iprop(((due c l ∗ midS X Wt c d k s.val ∗ extra X Wt c d k s.val) -∗ WPc c K Q) -∗ WPc c (waitRS d c s k <| addRS d c s k K) Q) := by
  have hs := s.isLt
  have hf : (iprop(∃ f, recvP c d (sl s.val) k f) : sProp 𝕄) ⊢ freeP c d k s.val := by unfold freeP; rw [if_pos hs]; exact .refl
  unfold laneS midS
  rw [waitRS_eq]
  iintro ⟨#Hctx, ⟨Hr, Hs, Hb⟩, Ha, HO⟩ HK
  iapply (wp_rcvS X Wt Kn c d k s.val (by omega) l hl) $$ [Hr HO]
  · isplitr; · iexact Hctx
    iframe Hr HO
  iintro ⟨HO, Hr, Hl, Hh⟩
  iapply (wp_addRS X Wt c d s k) $$ [Ha Hl]
  · iframe Ha Hl
  iintro ⟨Ha, Hf⟩
  ihave Hf := hf $$ Hf
  ihave ⟨Hsrc, Hx⟩ := (src_make X Wt c d k s.val hs) $$ Ha
  iapply HK
  iframe HO Hr Hs Hb Hsrc Hf Hh Hx

/-- A receipt of the second phase: what came is what goes on. -/
theorem wp_recvKeep (c : Dev nD) (d : Bool) (k : Fin 2) (s : ℕ) (h7 : 7 ≤ s) (hs : s < 13) (l : List Pay) (hl : Above (2 * s + 3) l) {K : PR F} {Q : PUnit.{1} → sProp 𝕄} :
    iprop(ctx X Wt Kn ∗ laneS X Wt c d k s ∗ due c l)
      ⊢ iprop(((due c l ∗ midS X Wt c d k s) -∗ WPc c K Q) -∗ WPc c (recvN d c s k K) Q) := by
  have hf : (emp : sProp 𝕄) ⊢ freeP c d k s := by unfold freeP; rw [if_neg (by omega)]
  have hl' : landP X Wt c d s k ⊢ srcP X Wt c d (s + 1) k := by
    unfold landP srcP; rw [if_neg (by omega), if_neg (by omega), if_neg (by omega)]
  unfold laneS midS
  iintro ⟨#Hctx, ⟨Hr, Hs, Hb⟩, HO⟩ HK
  iapply (wp_rcvS X Wt Kn c d k s (by omega) l hl) $$ [Hr HO]
  · isplitr; · iexact Hctx
    iframe Hr HO
  iintro ⟨HO, Hr, Hl, Hh⟩
  ihave Hl := hl' $$ Hl
  iapply HK
  iframe HO Hr Hs Hb Hl Hh
  iapply hf; iempintro

theorem wp_adds (c : Dev nD) (k : Fin 2) (s : Fin 7) (l : List Pay) (hl : Above (2 * s.val + 3) l) {K : PR F} {Q : PUnit.{1} → sProp 𝕄} :
    iprop(ctx X Wt Kn ∗ (laneS X Wt c false k s.val ∗ laneS X Wt c true k s.val)
        ∗ (accP c false (ch false c (s.val + 1)) k fullShare (PB X Wt c) ∗ accP c true (ch true c (s.val + 1)) k fullShare (PB X Wt c)) ∗ due c l)
      ⊢ iprop(((due c l ∗ (midS X Wt c false k s.val ∗ midS X Wt c true k s.val) ∗ (extra X Wt c false k s.val ∗ extra X Wt c true k s.val)) -∗ WPc c K Q)
          -∗ WPc c (waitRS false c s k <| addRS false c s k <| waitRS true c s k <| addRS true c s k K) Q) := by
  iintro ⟨#Hctx, ⟨H1, H2⟩, ⟨A1, A2⟩, HO⟩ HK
  iapply (wp_recvAdd X Wt Kn c false k s l hl) $$ [H1 A1 HO]
  · isplitr; · iexact Hctx
    iframe H1 A1 HO
  iintro ⟨HO, H1, X1⟩
  iapply (wp_recvAdd X Wt Kn c true k s l hl) $$ [H2 A2 HO]
  · isplitr; · iexact Hctx
    iframe H2 A2 HO
  iintro ⟨HO, H2, X2⟩
  iapply HK
  iframe HO H1 H2 X1 X2

/-- The own copies, started at the end of the first phase. -/
theorem wp_flushes (c : Dev nD) (s : Fin 7) {K : PR F} {Q : PUnit.{1} → sProp 𝕄} :
    iprop(ctx X Wt Kn ∗ (extra X Wt c false 0 s.val ∗ extra X Wt c true 0 s.val) ∗ (extra X Wt c false 1 s.val ∗ extra X Wt c true 1 s.val) ∗ ownR c s.val)
      ⊢ iprop((ownR c (s.val + 1) -∗ WPc c K Q) -∗ WPc c (if s.val = 6 ∧ (1 : Fin 2).val = 1 then flushOwn false c <| flushOwn true c K else K) Q) := by
  unfold extra ownR
  by_cases h : s.val = 6
  · have hj : ∀ d, iprop(accP c d (ch d c 7) 0 fullShare.right (AB X Wt c) ∗ accP c d (ch d c 7) 1 fullShare.right (AB X Wt c)) ⊢ accC c d (ch d c 7) fullShare.right (AB X Wt c) :=
      fun d => (accC_halves c d (ch d c 7) fullShare.right (AB X Wt c)).2
    rw [h, if_pos (by decide : 6 < 7), if_neg (by decide : ¬6 + 1 < 7), if_pos rfl, if_pos rfl, if_pos rfl, if_pos rfl, if_pos (by decide)]
    unfold ownA0 ownB0
    iintro ⟨#Hctx, ⟨X1, X2⟩, ⟨Y1, Y2⟩, ⟨O1, T1⟩, ⟨O2, T2⟩⟩ HK
    ihave X1 := (hj false) $$ [X1 Y1]
    · iframe X1 Y1
    ihave X2 := (hj true) $$ [X2 Y2]
    · iframe X2 Y2
    iapply (wp_flushOwn X Wt Kn c false) $$ [X1 O1 T1]
    · isplitr; · iexact Hctx
      iframe X1 O1 T1
    iintro C1
    iapply (wp_flushOwn X Wt Kn c true) $$ [X2 O2 T2]
    · isplitr; · iexact Hctx
      iframe X2 O2 T2
    iintro C2
    iapply HK
    iframe C1 C2
  · have hs := s.isLt
    rw [if_pos (by omega : s.val < 7), if_pos (by omega : s.val + 1 < 7), if_neg (by omega : ¬(s.val = 6 ∧ (1 : Fin 2).val = 1))]
    iintro ⟨-, -, -, H⟩ HK
    iapply HK; iexact H

/-- The grants at the end of a step before the twelfth. -/
theorem wp_grantS (c : Dev nD) (s : ℕ) (hs : s < 12) (l : List Pay) {K : PR F} {Q : PUnit.{1} → sProp 𝕄} :
    iprop(ctx X Wt Kn ∗ due c (pGrant (s + 1) 1 l) ∗ gToks c s)
      ⊢ iprop(((due c l ∗ gToks c (s + 1)) -∗ WPc c K Q) -∗ WPc c (grant c 1 K) Q) := by
  unfold gToks
  rw [bigSep_Ico_succ_bot (by omega : s + 1 < 13)]
  iintro ⟨#Hctx, HO, Ht, Hts⟩ HK
  iapply (wp_grant X Wt Kn c (s + 1) (by omega) 1 (fun _ => rfl) (s + 1) l) $$ [HO Ht]
  · isplitr; · iexact Hctx
    iframe HO Ht
  iintro HO
  iapply HK
  iframe HO Hts

/-- The wait for the grants of a step before the twelfth. -/
theorem wp_readyS (c : Dev nD) (s : ℕ) (hs : s < 12) (l : List Pay) (hl : Above (2 * s + 2) l) {K : PR F} {Q : PUnit.{1} → sProp 𝕄} :
    iprop(ctx X Wt Kn ∗ gCrs c s ∗ rdyR c s ∗ due c l)
      ⊢ iprop(((due c l ∗ gCrs c (s + 1) ∗ rdyR c (s + 1)) -∗ WPc c K Q) -∗ WPc c (waitReady K) Q) := by
  unfold gCrs rdyR
  rw [bigSep_Ico_succ_bot (by omega : s < 13), if_pos (by omega : s < 13), if_pos (by omega : s + 1 < 13)]
  iintro ⟨#Hctx, ⟨Hc, Hcs⟩, ⟨H1, H2⟩, HO⟩ HK
  iapply (wp_waitReady X Wt Kn c (s + 1) (2 * s + 2) (by omega) l hl) $$ [Hc H1 H2 HO]
  · isplitr; · iexact Hctx
    iframe Hc HO H1 H2
  iintro ⟨HO, H1, H2⟩
  iapply HK
  iframe HO Hcs H1 H2
theorem wp_readyS12 (c : Dev nD) (l : List Pay) (hl : Above 26 l) {K : PR F} {Q : PUnit.{1} → sProp 𝕄} :
    iprop(ctx X Wt Kn ∗ gCrs c 12 ∗ rdyR c 12 ∗ due c l)
      ⊢ iprop(((due c l ∗ gCrs c 13 ∗ rdyR c 13) -∗ WPc c K Q) -∗ WPc c (waitReady K) Q) := by
  unfold gCrs rdyR
  rw [bigSep_Ico_succ_bot (by decide : 12 < 13), if_pos (by decide : 12 < 13), if_neg (by decide : ¬13 < 13)]
  iintro ⟨#Hctx, ⟨Hc, Hcs⟩, ⟨H1, H2⟩, HO⟩ HK
  iapply (wp_waitReadyLast X Wt Kn c 26 (by decide) l hl) $$ [Hc H1 H2 HO]
  · isplitr; · iexact Hctx
    iframe Hc HO H1 H2
  iintro ⟨HO, H1, H2⟩
  iapply HK
  iframe HO Hcs H1 H2

/-- A step of the first phase. -/
theorem wp_stepRS (c : Dev nD) (s : Fin 7) {K : PR F} {Q : PUnit.{1} → sProp 𝕄} :
    iprop(ctx X Wt Kn ∗ stepS X Wt c s.val)
      ⊢ iprop((stepS X Wt c (s.val + 1) -∗ WPc c K Q) -∗ WPc c (stepRS c s K) Q) := by
  have hs := s.isLt
  have hA := above_payFrom s.val (by omega)
  have hpf := payFrom_lt s.val (by omega)
  rw [hpf] at hA
  have hA1 : Above (2 * s.val + 3) (pSnds (s.val + 1) 1 (pGrant (s.val + 1) 1 (payFrom (s.val + 1)))) := hA.drop2
  have hA2 : Above (2 * s.val + 3) (pGrant (s.val + 1) 1 (payFrom (s.val + 1))) := hA1.drop2
  unfold stepS stepRS halfRS accR
  rw [hpf, bigSep_Ico_succ_bot (by omega : s.val + 1 < 8), if_neg (by simp : ¬(s.val = 6 ∧ (0 : Fin 2).val = 1)), halfSends_eq, halfSends_eq]
  iintro ⟨#Hctx, Hin, L0, L1, ⟨⟨A1, A2⟩, HA⟩, Hrdy, Hcr, Ht, Hown, HO⟩ HK
  iapply (wp_gemmNext X Wt c false s) $$ [Hin A1]
  · iframe Hin A1
  iintro ⟨Hin, P10, P11⟩
  iapply (wp_gemmNext X Wt c true s) $$ [Hin A2]
  · iframe Hin A2
  iintro ⟨Hin, P20, P21⟩
  iapply (wp_readyS X Wt Kn c s.val (by omega) _ (hA.mono (by omega))) $$ [Hcr Hrdy HO]
  · isplitr; · iexact Hctx
    iframe Hcr Hrdy HO
  iintro ⟨HO, Hcr, Hrdy⟩
  iapply (wp_adds X Wt Kn c 0 s _ hA) $$ [L0 P10 P20 HO]
  · isplitr; · iexact Hctx
    iframe L0 P10 P20 HO
  iintro ⟨HO, ⟨M1, M2⟩, E0⟩
  iapply (wp_sendsN X Wt Kn c 0 s.val (by omega) _ (hA1.mono (Nat.zero_le _))) $$ [M1 M2 HO]
  · isplitr; · iexact Hctx
    iframe M1 M2 HO
  iintro ⟨HO, L01, L02⟩
  iapply (wp_adds X Wt Kn c 1 s _ hA1) $$ [L1 P11 P21 HO]
  · isplitr; · iexact Hctx
    iframe L1 P11 P21 HO
  iintro ⟨HO, ⟨M1, M2⟩, E1⟩
  iapply (wp_flushes X Wt Kn c s) $$ [E0 E1 Hown]
  · isplitr; · iexact Hctx
    iframe E0 E1 Hown
  iintro Hown
  iapply (wp_sendsN X Wt Kn c 1 s.val (by omega) _ (hA2.mono (Nat.zero_le _))) $$ [M1 M2 HO]
  · isplitr; · iexact Hctx
    iframe M1 M2 HO
  iintro ⟨HO, L11, L12⟩
  iapply (wp_grantS X Wt Kn c s.val (by omega) _) $$ [HO Ht]
  · isplitr; · iexact Hctx
    iframe HO Ht
  iintro ⟨HO, Ht⟩
  iapply HK
  iframe Hin L01 L02 L11 L12 HA Hrdy Hcr Ht Hown HO

/-- The two halves of a step of the second phase. -/
theorem wp_halfAG (c : Dev nD) (t : Fin 6) (k : Fin 2) (l : List Pay) (hl : Above (2 * (7 + t.val) + 3) (pSnds (7 + t.val + 1) k l)) {K : PR F} {Q : PUnit.{1} → sProp 𝕄} :
    iprop(ctx X Wt Kn ∗ (laneS X Wt c false k (7 + t.val) ∗ laneS X Wt c true k (7 + t.val)) ∗ due c (pSnds (7 + t.val + 1) k l))
      ⊢ iprop(((due c l ∗ laneS X Wt c false k (7 + t.val + 1) ∗ laneS X Wt c true k (7 + t.val + 1)) -∗ WPc c K Q) -∗ WPc c (halfAG c t k K) Q) := by
  have ht := t.isLt
  rw [halfAG_eq]
  iintro ⟨#Hctx, ⟨L1, L2⟩, HO⟩ HK
  iapply (wp_recvKeep X Wt Kn c false k (7 + t.val) (by omega) (by omega) _ hl) $$ [L1 HO]
  · isplitr; · iexact Hctx
    iframe L1 HO
  iintro ⟨HO, M1⟩
  iapply (wp_recvKeep X Wt Kn c true k (7 + t.val) (by omega) (by omega) _ hl) $$ [L2 HO]
  · isplitr; · iexact Hctx
    iframe L2 HO
  iintro ⟨HO, M2⟩
  iapply (wp_sendsN X Wt Kn c k (7 + t.val) (by omega) _ (hl.drop2.mono (Nat.zero_le _))) $$ [M1 M2 HO]
  · isplitr; · iexact Hctx
    iframe M1 M2 HO
  iexact HK

theorem accR_late (c : Dev nD) (s : ℕ) (hs : 7 ≤ s) : accR (F := F) c s = iprop(emp) := run_none (by omega) _
theorem ownR_late (c : Dev nD) (s : ℕ) (hs : 7 ≤ s) : ownR (F := F) c s = iprop(ownB0 c false ∗ ownB0 c true) := if_neg (by omega)

/-- A step of the second phase, except the last two. -/
theorem wp_stepAG (c : Dev nD) (t : Fin 6) (h5 : t.val < 5) {K : PR F} {Q : PUnit.{1} → sProp 𝕄} :
    iprop(ctx X Wt Kn ∗ stepS X Wt c (7 + t.val))
      ⊢ iprop((stepS X Wt c (7 + t.val + 1) -∗ WPc c K Q) -∗ WPc c (stepAG c t K) Q) := by
  have hA := above_payFrom (7 + t.val) (by omega)
  have hpf := payFrom_lt (7 + t.val) (by omega)
  rw [hpf] at hA
  unfold stepS stepAG
  rw [hpf, if_pos h5, accR_late c _ (by omega), accR_late c _ (by omega), ownR_late c _ (by omega), ownR_late c _ (by omega)]
  iintro ⟨#Hctx, Hin, L0, L1, -, Hrdy, Hcr, Ht, Hown, HO⟩ HK
  iapply (wp_readyS X Wt Kn c (7 + t.val) (by omega) _ (hA.mono (by omega))) $$ [Hcr Hrdy HO]
  · isplitr; · iexact Hctx
    iframe Hcr Hrdy HO
  iintro ⟨HO, Hcr, Hrdy⟩
  iapply (wp_halfAG X Wt Kn c t 0 _ hA) $$ [L0 HO]
  · isplitr; · iexact Hctx
    iframe L0 HO
  iintro ⟨HO, L0⟩
  iapply (wp_halfAG X Wt Kn c t 1 _ hA.drop2) $$ [L1 HO]
  · isplitr; · iexact Hctx
    iframe L1 HO
  iintro ⟨HO, L1⟩
  iapply (wp_grantS X Wt Kn c (7 + t.val) (by omega) _) $$ [HO Ht]
  · isplitr; · iexact Hctx
    iframe HO Ht
  iintro ⟨HO, Ht⟩
  iapply HK
  iframe Hin L0 L1 Hrdy Hcr Ht Hown HO

/-- Step 12: nothing is granted at its end. -/
theorem wp_stepAG5 (c : Dev nD) {K : PR F} {Q : PUnit.{1} → sProp 𝕄} :
    iprop(ctx X Wt Kn ∗ stepS X Wt c 12)
      ⊢ iprop((stepS X Wt c 13 -∗ WPc c K Q) -∗ WPc c (stepAG c 5 K) Q) := by
  have hA := above_payFrom 12 (by decide)
  rw [payFrom_12] at hA
  have e : gToks (F := F) c 13 = iprop(emp) := run_none (by decide) _
  have e' : gToks (F := F) c 12 = iprop(emp) := run_none (by decide) _
  unfold stepS stepAG
  rw [payFrom_12, payFrom_13, if_neg (by decide), accR_late c _ (by decide), accR_late c _ (by decide), ownR_late c _ (by decide), ownR_late c _ (by decide), e, e']
  iintro ⟨#Hctx, Hin, L0, L1, -, Hrdy, Hcr, -, Hown, HO⟩ HK
  iapply (wp_readyS12 X Wt Kn c _ (hA.mono (by decide))) $$ [Hcr Hrdy HO]
  · isplitr; · iexact Hctx
    iframe Hcr Hrdy HO
  iintro ⟨HO, Hcr, Hrdy⟩
  iapply (wp_halfAG X Wt Kn c 5 0 _ hA) $$ [L0 HO]
  · isplitr; · iexact Hctx
    iframe L0 HO
  iintro ⟨HO, L0⟩
  iapply (wp_halfAG X Wt Kn c 5 1 _ hA.drop2) $$ [L1 HO]
  · isplitr; · iexact Hctx
    iframe L1 HO
  iintro ⟨HO, L1⟩
  iapply HK
  iframe Hin L0 L1 Hrdy Hcr Hown HO

end Rules

end Cert.RingProof

end
-- ==== Proof.Whole.lean ====
/-
# The whole program

The opening of the program, its closing waits, and the program from end to end.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- What a lane holds before its first product. -/
def lane0 (c : Dev nD) (d : Bool) (k : Fin 2) : sProp 𝕄 :=
  iprop(rcvS c d k 0 ∗ bigSep (Finset.Ico 7 14) (fun n => dstP c d n k) ∗ bigSep (Finset.Ico 0 14) (tok c d k)
    ∗ pos c (kSnd d k 0) 0 ∗ pos c (kSnd d k 1) 0 ∗ slotP c d 1 k)
/-- The receiving and the sending side of a lane at the end. -/
def rcvE (X : Dev nD → Vec F S4096x512 .f32) (Wt : Dev nD → Vec F S512x2048 .f32) (c : Dev nD) (d : Bool) (k : Fin 2) : sProp 𝕄 :=
  iprop(pos c (kRcv d k 0) 7 ∗ pos c (kRcv d k 1) 7 ∗ landP X Wt c d 13 k ∗ slotP c d 0 k ∗ slotP c d 1 k)
def sndE (X : Dev nD → Vec F S4096x512 .f32) (Wt : Dev nD → Vec F S512x2048 .f32) (c : Dev nD) (d : Bool) (k : Fin 2) : sProp 𝕄 :=
  iprop(pos c (kSnd d k 0) 7 ∗ pos c (kSnd d k 1) 7 ∗ bigSep (Finset.Ico 0 14) fun n => srcP X Wt c d n k)
def ownAt (c : Dev nD) (d : Bool) : sProp 𝕄 := atPos ER (cell c (kOwn d)) 0 ∅ 0

section Rules

variable (X : Dev nD → Vec F S4096x512 .f32) (Wt : Dev nD → Vec F S512x2048 .f32) (Kn : Dev nD × Kd → ℕ)

/-! ## The opening -/

theorem pos_zero (c : Dev nD) (κ : Kd) : iprop(ctx X Wt Kn ∗ atPos ER (cell c κ) 0 ∅ 0) ⊢ pos c κ 0 := by
  unfold pos
  iintro ⟨#Hctx, H⟩
  ihave #Hr := (ctx_reached X Wt Kn c κ) $$ Hctx
  isplitl [H]; · iexact H
  iexact Hr

/-- The first send of a direction on a half; the destination of the other direction's next one goes with it. -/
theorem wp_send0 (c : Dev nD) (d : Bool) (k : Fin 2) (l : List Pay) {K : PR F} {Q : PUnit.{1} → sProp 𝕄} :
    iprop(ctx X Wt Kn ∗ srcP X Wt c d 0 k ∗ dstP (nxP d c) d 0 k ∗ slotP c (!d) 1 k ∗ due c (pSnd d k 0 :: l) ∗ tok c d k 0)
      ⊢ iprop(((sCr c d k 0 ∗ due c l) -∗ WPc c K Q) -∗ WPc c (sendN d c 0 k K) Q) := by
  have eh : handP (F := F) c d 0 k = iprop(slotP c (!d) 1 k ∗ reached ER (cell c (kRcv (!d) k (sl 1))) 0) := by
    unfold handP; rw [if_pos (by decide), dstP_lo c (!d) (0 + 1) k (by decide)]; rfl
  iintro ⟨#Hctx, Hs, Hd, Hh, HO, Ht⟩ HK
  ihave #H1 := (ctx_reached X Wt Kn c (kRcv (!d) k (sl 1))) $$ Hctx
  ihave #H2 := (ctx_reached X Wt Kn c (kSnd d k (sl 0))) $$ Hctx
  ihave #H3 := (ctx_reached X Wt Kn (nxP d c) (kRcv d k (sl 0))) $$ Hctx
  ihave Hh := (show iprop(slotP c (!d) 1 k ∗ reached ER (cell c (kRcv (!d) k (sl 1))) 0) ⊢ handP (F := F) c d 0 k from Entails.of_eq eh.symm) $$ [Hh]
  · isplitl [Hh]; · iexact Hh
    iexact H1
  iapply (wp_sendN X Wt Kn c d k 0 (by decide) l) $$ [Hs Hd Hh HO Ht]
  · isplitr; · iexact Hctx
    isplitl [Hs]; · iexact Hs
    isplitl [Hd]; · iexact Hd
    isplitl [Hh]; · iexact Hh
    isplitl [HO]; · iexact HO
    isplitl [Ht]; · iexact Ht
    isplitr; · iexact H2
    iexact H3
  iexact HK

theorem lane_make (c : Dev nD) (d : Bool) (k : Fin 2) :
    iprop(rcvS c d k 0 ∗ bigSep (Finset.Ico 7 14) (fun n => dstP c d n k) ∗ bigSep (Finset.Ico 1 14) (tok c d k)
      ∗ pos c (kSnd d k 0) 0 ∗ pos c (kSnd d k 1) 0 ∗ sCr c d k 0) ⊢ laneS X Wt c d k 0 := by
  unfold laneS sndS bufS
  rw [if_neg (Nat.lt_irrefl 0), if_neg (by decide), if_neg (by decide), run_none (by decide : 0 - 1 ≤ 0)]
  iintro ⟨Hr, Hb, Ht, Hp, Hp', Hc⟩
  isplitl [Hr]; · iexact Hr
  isplitl [Ht Hp Hp' Hc]
  · isplitl [Ht]; · iexact Ht
    isplitl [Hc]; · iexact Hc
    isplitr; · iempintro
    isplitl [Hp]; · iexact Hp
    isplitl [Hp']; · iexact Hp'
    iempintro
  isplitl [Hb]; · iexact Hb
  isplitr <;> iempintro

/-- The first products of a half and their sends. -/
theorem wp_pre (c : Dev nD) (k : Fin 2) (l : List Pay) {K : PR F} {Q : PUnit.{1} → sProp 𝕄} :
    iprop(ctx X Wt Kn ∗ inP X Wt c ∗ lane0 c false k ∗ lane0 c true k ∗ (∃ f, accP c false (ch false c 0) k fullShare f) ∗ (∃ f, accP c true (ch true c 0) k fullShare f)
        ∗ dstP (nxP false c) false 0 k ∗ dstP (nxP true c) true 0 k ∗ due c (pSnds 0 k l))
      ⊢ iprop(((due c l ∗ inP X Wt c ∗ laneS X Wt c false k 0 ∗ laneS X Wt c true k 0) -∗ WPc c K Q) -∗ WPc c (pre c k K) Q) := by
  rw [pre_eq]
  unfold lane0 pSnds
  rw [bigSep_Ico_succ_bot (by decide : 0 < 14), bigSep_Ico_succ_bot (by decide : 0 < 14)]
  iintro ⟨#Hctx, Hin, ⟨R1, B1, ⟨T1, TS1⟩, P1, P1', S1⟩, ⟨R2, B2, ⟨T2, TS2⟩, P2, P2', S2⟩, A1, A2, D1, D2, HO⟩ HK
  iapply (wp_gemmOwn X Wt c false k) $$ [Hin A1]
  · iframe Hin A1
  iintro ⟨Hin, A1⟩
  iapply (wp_gemmOwn X Wt c true k) $$ [Hin A2]
  · iframe Hin A2
  iintro ⟨Hin, A2⟩
  iapply (wp_send0 X Wt Kn c false k (pSnd true k 0 :: l)) $$ [A1 D1 S2 HO T1]
  · isplitr; · iexact Hctx
    isplitl [A1]; · iexact A1
    isplitl [D1]; · iexact D1
    isplitl [S2]; · iexact S2
    isplitl [HO]; · iexact HO
    iexact T1
  iintro ⟨C1, HO⟩
  iapply (wp_send0 X Wt Kn c true k l) $$ [A2 D2 S1 HO T2]
  · isplitr; · iexact Hctx
    isplitl [A2]; · iexact A2
    isplitl [D2]; · iexact D2
    isplitl [S1]; · iexact S1
    isplitl [HO]; · iexact HO
    iexact T2
  iintro ⟨C2, HO⟩
  iapply HK
  isplitl [HO]; · iexact HO
  isplitl [Hin]; · iexact Hin
  isplitl [R1 B1 TS1 P1 P1' C1]
  · iapply (lane_make X Wt c false k)
    iframe R1 B1 TS1 P1 P1' C1
  · iapply (lane_make X Wt c true k)
    iframe R2 B2 TS2 P2 P2' C2

/-! ## The closing waits -/

theorem wp_rcvEnd (c : Dev nD) (d : Bool) (k : Fin 2) {K : PR F} {Q : PUnit.{1} → sProp 𝕄} :
    iprop(ctx X Wt Kn ∗ laneS X Wt c d k 13 ∗ due c [])
      ⊢ iprop(((due c [] ∗ sndS X Wt c d k 13 ∗ rcvE X Wt c d k) -∗ WPc c K Q) -∗ WPc c (recvN d c 13 k K) Q) := by
  have e : iprop(rcvS c d k 14 ∗ landP X Wt c d 13 k ∗ bufS c d k 13) ⊢ rcvE X Wt c d k := by
    unfold rcvS rcvE bufS
    rw [if_pos (by decide), if_pos (by decide)]
    iintro ⟨⟨-, H1, H2⟩, Hl, -, H3, H4⟩
    isplitl [H1]; · iexact H1
    isplitl [H2]; · iexact H2
    isplitl [Hl]; · iexact Hl
    isplitl [H4]; · iexact H4
    iexact H3
  unfold laneS
  iintro ⟨#Hctx, ⟨Hr, Hs, Hb⟩, HO⟩ HK
  iapply (wp_rcvS X Wt Kn c d k 13 (by decide) [] (Above.nil _)) $$ [Hr HO]
  · isplitr; · iexact Hctx
    iframe Hr HO
  iintro ⟨HO, Hr, Hl, -⟩
  iapply HK
  isplitl [HO]; · iexact HO
  isplitl [Hs]; · iexact Hs
  iapply e
  iframe Hr Hl Hb

theorem wp_sndEnd (c : Dev nD) (d : Bool) (k : Fin 2) {K : PR F} {Q : PUnit.{1} → sProp 𝕄} :
    iprop(ctx X Wt Kn ∗ sndL X Wt c d k 13 ∗ due c [])
      ⊢ iprop(((due c [] ∗ sndE X Wt c d k) -∗ WPc c K Q) -∗ WPc c (leftN d c 13 k K) Q) := by
  unfold sndL sndE
  rw [bigSep_Ico_succ_top (by decide : 0 ≤ 13)]
  iintro ⟨#Hctx, ⟨-, Hc, Hp, Hp', Hb⟩, HO⟩ HK
  ihave Hp := (show pos c (kSnd d k (sl 13)) (13 / 2) ⊢ (atPos ER (cell c (kSnd d k (sl 13))) (13 / 2) ∅ 0 : sProp 𝕄) by unfold pos; iintro ⟨H, -⟩; iexact H) $$ Hp
  iapply (wp_leftN X Wt Kn c d k 13 (by decide) [] (Above.nil _)) $$ [Hc HO Hp]
  · isplitr; · iexact Hctx
    isplitl [Hc]; · iexact Hc
    isplitl [HO]; · iexact HO
    iexact Hp
  iintro ⟨HO, Hp, Hl⟩
  iapply HK
  isplitl [HO]; · iexact HO
  isplitl [Hp']; · iexact Hp'
  isplitl [Hp]; · iexact Hp
  isplitl [Hl]; · iexact Hl
  iexact Hb

/-- What a device has at the end. -/
def finS (c : Dev nD) : sProp 𝕄 :=
  iprop(due c [] ∗ inP X Wt c
    ∗ ((rcvE X Wt c false 0 ∗ sndE X Wt c false 0) ∗ (rcvE X Wt c false 1 ∗ sndE X Wt c false 1))
    ∗ ((rcvE X Wt c true 0 ∗ sndE X Wt c true 0) ∗ (rcvE X Wt c true 1 ∗ sndE X Wt c true 1))
    ∗ (pos c (kRdy false) 1 ∗ pos c (kRdy true) 1) ∗ (pos c (kOwn false) 1 ∗ pos c (kOwn true) 1) ∗ (ownP X Wt c false ∗ ownP X Wt c true))

/-- The last four receipts. -/
theorem wp_fini1 (c : Dev nD) {K : PR F} {Q : PUnit.{1} → sProp 𝕄} :
    iprop(ctx X Wt Kn ∗ (laneS X Wt c false 0 13 ∗ laneS X Wt c true 0 13) ∗ (laneS X Wt c false 1 13 ∗ laneS X Wt c true 1 13) ∗ due c [])
      ⊢ iprop(((due c [] ∗ (sndS X Wt c false 0 13 ∗ sndS X Wt c true 0 13) ∗ (sndS X Wt c false 1 13 ∗ sndS X Wt c true 1 13)
            ∗ (rcvE X Wt c false 0 ∗ rcvE X Wt c true 0) ∗ (rcvE X Wt c false 1 ∗ rcvE X Wt c true 1)) -∗ WPc c K Q)
          -∗ WPc c (recvN false c 13 0 <| recvN true c 13 0 <| recvN false c 13 1 <| recvN true c 13 1 K) Q) := by
  iintro ⟨#Hctx, ⟨L1, L2⟩, ⟨L3, L4⟩, HO⟩ HK
  iapply (wp_rcvEnd X Wt Kn c false 0) $$ [L1 HO]
  · isplitr; · iexact Hctx
    iframe L1 HO
  iintro ⟨HO, L1, R1⟩
  iapply (wp_rcvEnd X Wt Kn c true 0) $$ [L2 HO]
  · isplitr; · iexact Hctx
    iframe L2 HO
  iintro ⟨HO, L2, R2⟩
  iapply (wp_rcvEnd X Wt Kn c false 1) $$ [L3 HO]
  · isplitr; · iexact Hctx
    iframe L3 HO
  iintro ⟨HO, L3, R3⟩
  iapply (wp_rcvEnd X Wt Kn c true 1) $$ [L4 HO]
  · isplitr; · iexact Hctx
    iframe L4 HO
  iintro ⟨HO, L4, R4⟩
  iapply HK
  iframe HO L1 L2 L3 L4 R1 R2 R3 R4

/-- The last eight waits on sends. -/
theorem wp_fini2 (c : Dev nD) {K : PR F} {Q : PUnit.{1} → sProp 𝕄} :
    iprop(ctx X Wt Kn ∗ (sndS X Wt c false 0 13 ∗ sndS X Wt c true 0 13) ∗ (sndS X Wt c false 1 13 ∗ sndS X Wt c true 1 13) ∗ due c [])
      ⊢ iprop(((due c [] ∗ (sndE X Wt c false 0 ∗ sndE X Wt c true 0) ∗ (sndE X Wt c false 1 ∗ sndE X Wt c true 1)) -∗ WPc c K Q)
          -∗ WPc c (leftN false c 12 0 <| leftN true c 12 0 <| leftN false c 12 1 <| leftN true c 12 1 <|
            leftN false c 13 0 <| leftN true c 13 0 <| leftN false c 13 1 <| leftN true c 13 1 K) Q) := by
  iintro ⟨#Hctx, ⟨L1, L2⟩, ⟨L3, L4⟩, HO⟩ HK
  iapply (wp_sndLeft X Wt Kn c false 0 13 (by decide) (by decide) [] (Above.nil _)) $$ [L1 HO]
  · isplitr; · iexact Hctx
    iframe L1 HO
  iintro ⟨HO, L1⟩
  iapply (wp_sndLeft X Wt Kn c true 0 13 (by decide) (by decide) [] (Above.nil _)) $$ [L2 HO]
  · isplitr; · iexact Hctx
    iframe L2 HO
  iintro ⟨HO, L2⟩
  iapply (wp_sndLeft X Wt Kn c false 1 13 (by decide) (by decide) [] (Above.nil _)) $$ [L3 HO]
  · isplitr; · iexact Hctx
    iframe L3 HO
  iintro ⟨HO, L3⟩
  iapply (wp_sndLeft X Wt Kn c true 1 13 (by decide) (by decide) [] (Above.nil _)) $$ [L4 HO]
  · isplitr; · iexact Hctx
    iframe L4 HO
  iintro ⟨HO, L4⟩
  iapply (wp_sndEnd X Wt Kn c false 0) $$ [L1 HO]
  · isplitr; · iexact Hctx
    iframe L1 HO
  iintro ⟨HO, L1⟩
  iapply (wp_sndEnd X Wt Kn c true 0) $$ [L2 HO]
  · isplitr; · iexact Hctx
    iframe L2 HO
  iintro ⟨HO, L2⟩
  iapply (wp_sndEnd X Wt Kn c false 1) $$ [L3 HO]
  · isplitr; · iexact Hctx
    iframe L3 HO
  iintro ⟨HO, L3⟩
  iapply (wp_sndEnd X Wt Kn c true 1) $$ [L4 HO]
  · isplitr; · iexact Hctx
    iframe L4 HO
  iintro ⟨HO, L4⟩
  iapply HK
  iframe HO L1 L2 L3 L4

theorem wp_done (c : Dev nD) {Q : PUnit.{1} → sProp 𝕄} : Q ⟨⟩ ⊢ WPc c (Prog.ret ⟨⟩ : PR F) Q := by
  unfold WPc
  iintro H
  rw [wp_ret]
  imodintro
  iexact H

theorem wp_fini (c : Dev nD) {Q : PUnit.{1} → sProp 𝕄} :
    iprop(ctx X Wt Kn ∗ stepS X Wt c 13 ∗ ownAt c false ∗ ownAt c true) ⊢ iprop((finS X Wt c -∗ Q ⟨⟩) -∗ WPc c (fini c) Q) := by
  unfold stepS ownAt
  rw [payFrom_13, ownR_late c 13 (by decide), fini_eq]
  unfold ownB0 rdyR
  rw [if_neg (by decide : ¬13 < 13)]
  iintro ⟨#Hctx, ⟨Hin, L0, L1, -, Hrdy, -, -, ⟨C1, C2⟩, HO⟩, A1, A2⟩ HK
  iapply (wp_fini1 X Wt Kn c) $$ [L0 L1 HO]
  · isplitr; · iexact Hctx
    iframe L0 L1 HO
  iintro ⟨HO, S0, S1, ⟨R01, R02⟩, ⟨R11, R12⟩⟩
  iapply (wp_fini2 X Wt Kn c) $$ [S0 S1 HO]
  · isplitr; · iexact Hctx
    iframe S0 S1 HO
  iintro ⟨HO, ⟨S01, S02⟩, ⟨S11, S12⟩⟩
  iapply (wp_waitOwn X Wt Kn c false [] (Above.nil _)) $$ [C1 HO A1]
  · isplitr; · iexact Hctx
    iframe C1 HO A1
  iintro ⟨HO, A1, O1⟩
  iapply (wp_waitOwn X Wt Kn c true [] (Above.nil _)) $$ [C2 HO A2]
  · isplitr; · iexact Hctx
    iframe C2 HO A2
  iintro ⟨HO, A2, O2⟩
  iapply (wp_done c)
  iapply HK
  unfold finS
  iframe HO Hin R01 R02 R11 R12 S01 S02 S11 S12 Hrdy A1 A2 O1 O2

/-! ## From end to end -/

theorem wp_loopAG (c : Dev nD) {Q : PUnit.{1} → sProp 𝕄} :
    iprop(ctx X Wt Kn ∗ stepS X Wt c 7 ∗ ownAt c false ∗ ownAt c true) ⊢ iprop((finS X Wt c -∗ Q ⟨⟩) -∗ WPc c (loopAG c) Q) := by
  unfold loopAG
  iintro ⟨#Hctx, H, HA⟩ HK
  iapply (wp_stepAG X Wt Kn c 0 (by decide)) $$ [H]
  · isplitr; · iexact Hctx
    iexact H
  iintro H
  iapply (wp_stepAG X Wt Kn c 1 (by decide)) $$ [H]
  · isplitr; · iexact Hctx
    iexact H
  iintro H
  iapply (wp_stepAG X Wt Kn c 2 (by decide)) $$ [H]
  · isplitr; · iexact Hctx
    iexact H
  iintro H
  iapply (wp_stepAG X Wt Kn c 3 (by decide)) $$ [H]
  · isplitr; · iexact Hctx
    iexact H
  iintro H
  iapply (wp_stepAG X Wt Kn c 4 (by decide)) $$ [H]
  · isplitr; · iexact Hctx
    iexact H
  iintro H
  iapply (wp_stepAG5 X Wt Kn c) $$ [H]
  · isplitr; · iexact Hctx
    iexact H
  iintro H
  iapply (wp_fini X Wt Kn c) $$ [H HA]
  · isplitr; · iexact Hctx
    iframe H HA
  iexact HK

theorem wp_loopRS (c : Dev nD) {Q : PUnit.{1} → sProp 𝕄} :
    iprop(ctx X Wt Kn ∗ stepS X Wt c 0 ∗ ownAt c false ∗ ownAt c true) ⊢ iprop((finS X Wt c -∗ Q ⟨⟩) -∗ WPc c (loopRS c) Q) := by
  unfold loopRS
  iintro ⟨#Hctx, H, HA⟩ HK
  iapply (wp_stepRS X Wt Kn c 0) $$ [H]
  · isplitr; · iexact Hctx
    iexact H
  iintro H
  iapply (wp_stepRS X Wt Kn c 1) $$ [H]
  · isplitr; · iexact Hctx
    iexact H
  iintro H
  iapply (wp_stepRS X Wt Kn c 2) $$ [H]
  · isplitr; · iexact Hctx
    iexact H
  iintro H
  iapply (wp_stepRS X Wt Kn c 3) $$ [H]
  · isplitr; · iexact Hctx
    iexact H
  iintro H
  iapply (wp_stepRS X Wt Kn c 4) $$ [H]
  · isplitr; · iexact Hctx
    iexact H
  iintro H
  iapply (wp_stepRS X Wt Kn c 5) $$ [H]
  · isplitr; · iexact Hctx
    iexact H
  iintro H
  iapply (wp_stepRS X Wt Kn c 6) $$ [H]
  · isplitr; · iexact Hctx
    iexact H
  iintro H
  iapply (wp_loopAG X Wt Kn c) $$ [H HA]
  · isplitr; · iexact Hctx
    iframe H HA
  iexact HK

/-- What a device starts the program with: its place at the handshake, -/
def barS0 (c : Dev nD) : sProp 𝕄 :=
  iprop(dutyTok ER (cell (nxP true c) kBar) 0 0 ∗ dutyTok ER (cell (nxP false c) kBar) 0 1 ∗ cred (tallyAt (cell c kBar) 1 2) ∗ atPos ER (cell c kBar) 0 ∅ 0)
/-- at its neighbours' grants, -/
def rdyS0 (c : Dev nD) : sProp 𝕄 :=
  iprop((rdySt c false 0 ∗ rdySt c true 0) ∗ gCr c 2 ∗ bigSep (Finset.Ico 0 13) (fun s => gCr c (2 * s + 2)) ∗ bigSep (Finset.Ico 0 13) (gTok c))
/-- and its buffers. -/
def bufS0 (c : Dev nD) : sProp 𝕄 :=
  iprop(((slotP c false 0 0 ∗ slotP c false 0 1) ∗ (slotP c true 0 0 ∗ slotP c true 0 1))
    ∗ bigSep (Finset.Ico 0 8) (fun n => iprop((∃ f, accC c false (ch false c n) fullShare f) ∗ (∃ f, accC c true (ch true c n) fullShare f)))
    ∗ ownA0 c false ∗ ownA0 c true)

theorem acc_halves (c : Dev nD) (d : Bool) (h : Fin 8) :
    (iprop(∃ f, accC c d h fullShare f) : sProp 𝕄) ⊢ iprop((∃ f, accP c d h 0 fullShare f) ∗ (∃ f, accP c d h 1 fullShare f)) := by
  iintro ⟨%f, H⟩
  ihave ⟨H1, H2⟩ := (accC_halves c d h fullShare f).1 $$ H
  isplitl [H1]
  · iexists f; iexact H1
  · iexists f; iexact H2

theorem wp_prog (c : Dev nD) {Q : PUnit.{1} → sProp 𝕄} :
    iprop(ctx X Wt Kn ∗ due c payAll ∗ inP X Wt c ∗ barS0 c ∗ rdyS0 c ∗ bufS0 c ∗ ((lane0 c false 0 ∗ lane0 c true 0) ∗ (lane0 c false 1 ∗ lane0 c true 1)) ∗ ownAt c false ∗ ownAt c true)
      ⊢ iprop(((finS X Wt c ∗ pos c kBar 1) -∗ Q ⟨⟩) -∗ WPc c (prog c) Q) := by
  have h0 : Above 3 (payFrom 0) := above_payFrom 0 (by decide)
  have h2 : Above 2 (pSnds 0 0 (pSnds 0 1 (payFrom 0))) := .snds (by decide) (by decide) (.snds (by decide) (by decide) (h0.mono (by decide)))
  have h1 : Above 1 (pGrant 0 2 (pSnds 0 0 (pSnds 0 1 (payFrom 0)))) := .grant (by decide) (by decide) (h2.mono (by decide))
  have eA : (bigSep (Finset.Ico 0 8) (fun n => iprop((∃ f, accC c false (ch false c n) fullShare f) ∗ (∃ f, accC c true (ch true c n) fullShare f))) : sProp 𝕄)
      = iprop(((∃ f, accC c false (ch false c 0) fullShare f) ∗ (∃ f, accC c true (ch true c 0) fullShare f)) ∗ accR c 0) := bigSep_Ico_succ_bot (by decide) _
  have eT : (bigSep (Finset.Ico 0 13) (gTok c) : sProp 𝕄) = iprop(gTok c 0 ∗ gToks c 0) := bigSep_Ico_succ_bot (by decide) _
  have eR : (iprop(rdySt c false (0 + 1) ∗ rdySt c true (0 + 1)) : sProp 𝕄) ⊢ rdyR c 0 := .refl
  have eO : (iprop(ownA0 c false ∗ ownA0 c true) : sProp 𝕄) ⊢ ownR c 0 := .refl
  have eG : (bigSep (Finset.Ico 0 13) (fun s => gCr c (2 * s + 2)) : sProp 𝕄) ⊢ gCrs c 0 := .refl
  unfold prog payAll barS0 rdyS0 bufS0
  rw [eA, eT]
  have hslot : ∀ d k, dstP (F := F) c d 0 k = slotP c d 0 k := fun d k => dstP_lo c d 0 k (by decide)
  simp only [← hslot]
  iintro ⟨#Hctx, HO, Hin, ⟨T0, T1, Hc, Hat⟩, ⟨⟨Y1, Y2⟩, G1, GS, Gt, Gts⟩, ⟨⟨S1, S2⟩, ⟨⟨A1, A2⟩, HA⟩, Hown⟩, ⟨⟨L01, L02⟩, ⟨L11, L12⟩⟩, HoA⟩ HK
  iapply (wp_barrier X Wt Kn c _ h1) $$ [HO T0 T1 S1 S2 Hc Hat]
  · isplitr; · iexact Hctx
    iframe HO T0 T1 S1 S2 Hc Hat
  iintro ⟨HO, Hpos, B1, B2⟩
  iapply (wp_grant X Wt Kn c 0 (by decide) 2 (fun _ => rfl) 0 _) $$ [HO Gt]
  · isplitr; · iexact Hctx
    iframe HO Gt
  iintro HO
  iapply (wp_waitReady X Wt Kn c 0 2 (by decide) _ h2) $$ [G1 HO Y1 Y2]
  · isplitr; · iexact Hctx
    iframe G1 HO Y1 Y2
  iintro ⟨HO, Y1, Y2⟩
  ihave ⟨A10, A11⟩ := (acc_halves c false (ch false c 0)) $$ A1
  ihave ⟨A20, A21⟩ := (acc_halves c true (ch true c 0)) $$ A2
  unfold barP
  icases B1 with ⟨B10, B11⟩
  icases B2 with ⟨B20, B21⟩
  iapply (wp_pre X Wt Kn c 0 _) $$ [HO Hin L01 L02 A10 A20 B10 B20]
  · isplitr; · iexact Hctx
    iframe Hin L01 L02 A10 A20 B10 B20 HO
  iintro ⟨HO, Hin, L01, L02⟩
  iapply (wp_pre X Wt Kn c 1 _) $$ [HO Hin L11 L12 A11 A21 B11 B21]
  · isplitr; · iexact Hctx
    iframe Hin L11 L12 A11 A21 B11 B21 HO
  iintro ⟨HO, Hin, L11, L12⟩
  iapply (wp_loopRS X Wt Kn c) $$ [HO Hin L01 L02 L11 L12 HA Y1 Y2 GS Gts Hown HoA]
  · isplitr; · iexact Hctx
    isplitr [HoA]
    · unfold stepS
      ihave Y := eR $$ [Y1 Y2]
      · iframe Y1 Y2
      ihave Hown := eO $$ Hown
      ihave GS := eG $$ GS
      iframe Hin L01 L02 L11 L12 HA Y GS Gts Hown HO
    · iexact HoA
  iintro Hfin
  iapply HK
  iframe Hfin Hpos

end Rules

end Cert.RingProof

end
-- ==== Proof.Buffers.lean ====
/-
# The buffers at the ends

How the buffers a device starts with divide into the pieces its program runs on, and how the pieces it ends with make up the
buffers again.
-/
module

public import proofs.«01_k».proof.Proof.Whole
public import Idealize.ShloMosaic.Lib.Ring

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)

variable {F : FTy → Type} [FloatOps F]

local notation "𝕄" => MT nD τ sig ℕ (Elt F) ℕ UU ℕ

/-! ## Families -/

theorem big_bool (Φ : Bool → sProp 𝕄) : bigSep Finset.univ Φ = iprop(Φ false ∗ Φ true) := bigSep_univ_eq_bigSepL [false, true] (by decide) (by decide) Φ
theorem big_fin2 (Φ : Fin 2 → sProp 𝕄) : bigSep Finset.univ Φ = iprop(Φ 0 ∗ Φ 1) := bigSep_univ_eq_bigSepL [0, 1] (by decide) (by decide) Φ
/-- A family over `Fin n` is one over the numbers below `n`. -/
theorem big_fin (n : ℕ) (Φ : ℕ → sProp 𝕄) : (bigSep Finset.univ fun i : Fin n => Φ i.val) = bigSep (Finset.Ico 0 n) Φ := by
  refine (bigSep_map (s := (Finset.univ : Finset (Fin n))) Fin.valEmbedding (Φ := Φ)).symm.trans ?_
  congr 1
  ext x
  simp only [Finset.mem_map, Finset.mem_univ, true_and, Fin.valEmbedding_apply, Finset.mem_Ico, Nat.zero_le]
  exact ⟨fun ⟨a, h⟩ => h ▸ a.isLt, fun h => ⟨⟨x, h⟩, rfl⟩⟩
/-- A run of numbers moved along. -/
theorem big_shift (a b m : ℕ) (Φ : ℕ → sProp 𝕄) : bigSep (Finset.Ico (a + m) (b + m)) Φ = bigSep (Finset.Ico a b) fun n => Φ (n + m) := by
  rw [← Finset.map_add_right_Ico, bigSep_map]; rfl

theorem ch_inj (d : Bool) (c : Dev nD) : Function.Injective fun n : Fin 8 => ch d c n.val := fun a b h => by
  have h1 : (ch d c a.val).val = (ch d c b.val).val := congrArg Fin.val h
  have ha := a.isLt
  have hb := b.isLt
  have hc := c.isLt
  have h8 : nD = 8 := rfl
  apply Fin.ext
  cases d <;> simp only [ch] at h1 <;> simp at h1 <;> omega
/-- The order in which a device meets the chunks, as a bijection. -/
def chE (d : Bool) (c : Dev nD) : Fin 8 ≃ Fin 8 := Equiv.ofBijective _ (Finite.injective_iff_bijective.mp (ch_inj d c))
theorem big_ch (d : Bool) (c : Dev nD) (Φ : Fin 8 → sProp 𝕄) : bigSep Finset.univ Φ = bigSep (Finset.Ico 0 8) fun n => Φ (ch d c n) := by
  rw [bigSep_univ_equiv (chE d c), ← big_fin]; rfl

/-! ## The chunks -/

theorem ch_disjoint (b b' : Bool × Fin 8) (h : b ≠ b') : Disjoint (chR b.1 b.2).set (chR b'.1 b'.2).set :=
  Finset.disjoint_left.mpr fun i hi hi' => h (by
    obtain ⟨a1, a2⟩ := ch_dR hi
    obtain ⟨b1, b2⟩ := ch_dR hi'
    exact Prod.ext (a1.symm.trans b1) (a2.symm.trans b2))
theorem ch_cover : (Finset.univ : Finset (Bool × Fin 8)).biUnion (fun b => (chR b.1 b.2).set) = Finset.univ := by
  ext i
  simp only [Finset.mem_biUnion, Finset.mem_univ, true_and, iff_true]
  exact ⟨(dR (i 0).val, hR (i 0).val), blk_sub _ _ _ (blk_cover i)⟩

theorem acc_chunks (c : Dev nD) (q : PosShare TreeShare) (f : OV F) :
    ((aM.view.loc (c : Thread nD τ)) ↦{q} f : sProp 𝕄)
      = iprop(bigSep (Finset.Ico 0 8) (fun n => accC c false (ch false c n) q f) ∗ bigSep (Finset.Ico 0 8) (fun n => accC c true (ch true c n) q f)) := by
  have e : ∀ b : Bool × Fin 8, ((aM.view.loc (c : Thread nD τ)) ↦[(chR b.1 b.2).set]{q} f : sProp 𝕄) = accC c b.1 b.2 q f := fun b => by
    unfold accC; rw [accC_set]
  have h : ((aM.view.loc (c : Thread nD τ)) ↦{q} f : sProp 𝕄) = bigSep Finset.univ fun b : Bool × Fin 8 => (aM.view.loc (c : Thread nD τ)) ↦[(chR b.1 b.2).set]{q} f :=
    pointsTo_blocks (ℓ := aM.view.loc (c : Thread nD τ)) (fun b : Bool × Fin 8 => (chR b.1 b.2).set) ch_disjoint ch_cover f
  rw [h, bigSep_congr (fun b _ => e b), bigSep_univ_prod, big_bool,
    big_ch false c, big_ch true c]
theorem out_chunks (c : Dev nD) (f : OV F) :
    ((oM.view.loc (c : Thread nD τ)) ↦{fullShare} f : sProp 𝕄)
      = iprop(bigSep (Finset.Ico 0 8) (fun n => outC c false (ch false c n) f) ∗ bigSep (Finset.Ico 0 8) (fun n => outC c true (ch true c n) f)) := by
  have e : ∀ b : Bool × Fin 8, ((oM.view.loc (c : Thread nD τ)) ↦[(chR b.1 b.2).set]{fullShare} f : sProp 𝕄) = outC c b.1 b.2 f := fun b => by
    unfold outC; rw [outC_set]
  have h : ((oM.view.loc (c : Thread nD τ)) ↦{fullShare} f : sProp 𝕄) = bigSep Finset.univ fun b : Bool × Fin 8 => (oM.view.loc (c : Thread nD τ)) ↦[(chR b.1 b.2).set]{fullShare} f :=
    pointsTo_blocks (ℓ := oM.view.loc (c : Thread nD τ)) (fun b : Bool × Fin 8 => (chR b.1 b.2).set) ch_disjoint ch_cover f
  rw [h, bigSep_congr (fun b _ => e b), bigSep_univ_prod, big_bool,
    big_ch false c, big_ch true c]
/-- A chunk of the result splits into its halves, and back. -/
theorem outC_halves (c : Dev nD) (d : Bool) (h : Fin 8) (f : OV F) : outC c d h f ⊣⊢ iprop(outP c d h 0 f ∗ outP c d h 1 f) := by
  have e : outC c d h f = ((oM.view.loc (c : Thread nD τ)) ↦[(blkR d h 0).set ∪ (blkR d h 1).set]{fullShare} f : sProp 𝕄) := by
    unfold outC; rw [outC_set, ch_union]
  have e0 : ∀ k, outP c d h k f = ((oM.view.loc (c : Thread nD τ)) ↦[(blkR d h k).set]{fullShare} f : sProp 𝕄) := fun k => by
    unfold outP; rw [out_set]
  rw [e, e0, e0]
  exact pointsTo_union (blk_disjoint (by simp))

/-! ## The receive buffers -/

theorem slot_set (d : Bool) (j k : Fin 2) : (recvB d j k).view.set = (match d with | false => (recvR j k).set | true => (recvR j k).set) := by
  cases d
  · exact (View.set_reshape _ _).trans (View.set_slice_whole _ _)
  · exact (View.set_reshape _ _).trans (View.set_slice_whole _ _)
theorem mem_recvR {j k : Fin 2} {i : S2x2x128x2048.Idx} : i ∈ (recvR j k).set ↔ (i 0).val = j.val ∧ (i 1).val = k.val := by
  rw [Rect.mem_set_unit]
  constructor
  · intro H
    have h0 := H 0
    have h1 := H 1
    simp at h0 h1
    omega
  · intro ⟨h0, h1⟩ a
    fin_cases a
    · simp; omega
    · simp; omega
    · have := (i 2).isLt; simpa using this
    · have := (i 3).isLt; simpa using this
theorem recvR_disjoint (b b' : Fin 2 × Fin 2) (h : b ≠ b') : Disjoint (recvR b.1 b.2).set (recvR b'.1 b'.2).set :=
  Finset.disjoint_left.mpr fun i hi hi' => h (by
    obtain ⟨a1, a2⟩ := mem_recvR.mp hi
    obtain ⟨b1, b2⟩ := mem_recvR.mp hi'
    exact Prod.ext (Fin.ext (a1.symm.trans b1)) (Fin.ext (a2.symm.trans b2)))
theorem recvR_cover : (Finset.univ : Finset (Fin 2 × Fin 2)).biUnion (fun b => (recvR b.1 b.2).set) = Finset.univ := by
  ext i
  simp only [Finset.mem_biUnion, Finset.mem_univ, true_and, iff_true]
  exact ⟨((i 0), (i 1)), mem_recvR.mpr ⟨rfl, rfl⟩⟩

/-- The half-slots of a receive buffer, one after the other. -/
def slots (c : Dev nD) (d : Bool) : sProp 𝕄 := iprop((slotP c d 0 0 ∗ slotP c d 0 1) ∗ (slotP c d 1 0 ∗ slotP c d 1 1))
theorem slots_eq (c : Dev nD) (d : Bool) : (bigSep Finset.univ fun b : Fin 2 × Fin 2 => slotP c d b.1 b.2 : sProp 𝕄) = slots c d := by
  rw [bigSep_univ_prod, big_fin2, big_fin2, big_fin2]; rfl
theorem slots_split1 (c : Dev nD) (f : Buf (Elt F) ((c : Thread nD τ).loc cc0_scratch1)) : (((c : Thread nD τ).loc cc0_scratch1) ↦{fullShare} f : sProp 𝕄) ⊢ slots c false := by
  have h : ∀ b : Fin 2 × Fin 2, (((c : Thread nD τ).loc cc0_scratch1) ↦[(recvR b.1 b.2).set]{fullShare} f : sProp 𝕄) ⊢ slotP c false b.1 b.2 := fun b => by
    unfold slotP recvP
    rw [slot_set]
    iintro H; iexists f; iexact H
  rw [← slots_eq, pointsTo_blocks (fun b : Fin 2 × Fin 2 => (recvR b.1 b.2).set) recvR_disjoint recvR_cover f]
  exact bigSep_mono fun b _ => h b
theorem slots_split2 (c : Dev nD) (f : Buf (Elt F) ((c : Thread nD τ).loc cc0_scratch2)) : (((c : Thread nD τ).loc cc0_scratch2) ↦{fullShare} f : sProp 𝕄) ⊢ slots c true := by
  have h : ∀ b : Fin 2 × Fin 2, (((c : Thread nD τ).loc cc0_scratch2) ↦[(recvR b.1 b.2).set]{fullShare} f : sProp 𝕄) ⊢ slotP c true b.1 b.2 := fun b => by
    unfold slotP recvP
    rw [slot_set]
    iintro H; iexists f; iexact H
  rw [← slots_eq, pointsTo_blocks (fun b : Fin 2 × Fin 2 => (recvR b.1 b.2).set) recvR_disjoint recvR_cover f]
  exact bigSep_mono fun b _ => h b
theorem slots_join1 (c : Dev nD) (f₀ : Buf (Elt F) ((c : Thread nD τ).loc cc0_scratch1)) :
    slots c false ⊢ (iprop(∃ f : Buf (Elt F) ((c : Thread nD τ).loc cc0_scratch1), ((c : Thread nD τ).loc cc0_scratch1) ↦{fullShare} f) : sProp 𝕄) := by
  have h : ∀ b : Fin 2 × Fin 2, slotP c false b.1 b.2 = (iprop(∃ f, ((c : Thread nD τ).loc cc0_scratch1) ↦[(recvR b.1 b.2).set]{fullShare} f) : sProp 𝕄) := fun b => by
    unfold slotP recvP
    rw [slot_set]
  rw [← slots_eq, bigSep_congr fun b _ => h b]
  exact pointsTo_blocks_join_exists (ℓ := (c : Thread nD τ).loc cc0_scratch1) (fun b : Fin 2 × Fin 2 => (recvR b.1 b.2).set) recvR_disjoint recvR_cover f₀
theorem slots_join2 (c : Dev nD) (f₀ : Buf (Elt F) ((c : Thread nD τ).loc cc0_scratch2)) :
    slots c true ⊢ (iprop(∃ f : Buf (Elt F) ((c : Thread nD τ).loc cc0_scratch2), ((c : Thread nD τ).loc cc0_scratch2) ↦{fullShare} f) : sProp 𝕄) := by
  have h : ∀ b : Fin 2 × Fin 2, slotP c true b.1 b.2 = (iprop(∃ f, ((c : Thread nD τ).loc cc0_scratch2) ↦[(recvR b.1 b.2).set]{fullShare} f) : sProp 𝕄) := fun b => by
    unfold slotP recvP
    rw [slot_set]
  rw [← slots_eq, bigSep_congr fun b _ => h b]
  exact pointsTo_blocks_join_exists (ℓ := (c : Thread nD τ).loc cc0_scratch2) (fun b : Fin 2 × Fin 2 => (recvR b.1 b.2).set) recvR_disjoint recvR_cover f₀

/-! ## At the start -/

/-- The accumulator's chunks. -/
theorem acc_start (c : Dev nD) (f : OV F) : ((aM.view.loc (c : Thread nD τ)) ↦{fullShare} f : sProp 𝕄)
    ⊢ bigSep (Finset.Ico 0 8) (fun n => iprop((∃ f, accC c false (ch false c n) fullShare f) ∗ (∃ f, accC c true (ch true c n) fullShare f))) := by
  have h : ∀ n, (iprop(accC c false (ch false c n) fullShare f ∗ accC c true (ch true c n) fullShare f) : sProp 𝕄)
      ⊢ iprop((∃ f, accC c false (ch false c n) fullShare f) ∗ (∃ f, accC c true (ch true c n) fullShare f)) := fun n => by
    iintro ⟨H1, H2⟩
    isplitl [H1]
    · iexists f; iexact H1
    · iexists f; iexact H2
  rw [acc_chunks, ← bigSep_sep']
  exact bigSep_mono fun n _ => h n

/-- The destinations in the result, of one direction. -/
theorem out_dst (c : Dev nD) (d : Bool) (f : OV F) : (bigSep (Finset.Ico 0 8) (fun n => outC c d (ch d c n) f) : sProp 𝕄)
    ⊢ iprop((∃ f, outC c d (ch d c 7) f) ∗ bigSep (Finset.Ico 7 14) (fun n => dstP c d n 0) ∗ bigSep (Finset.Ico 7 14) (fun n => dstP c d n 1)) := by
  have hd : ∀ n k, outP c d (ch d c n) k f ⊢ dstP c d (n + 7) k := fun n k => by
    unfold dstP; rw [if_neg (by omega), show n + 7 + 1 = n + 8 from rfl, ch_add8]
    iintro H; iexists f; iexact H
  have h : ∀ n, outC c d (ch d c n) f ⊢ iprop(dstP c d (n + 7) 0 ∗ dstP c d (n + 7) 1) := fun n => by
    iintro H
    ihave ⟨H0, H1⟩ := (outC_halves c d (ch d c n) f).1 $$ H
    isplitl [H0]
    · iapply (hd n 0) $$ H0
    · iapply (hd n 1) $$ H1
  have hs : (bigSep (Finset.Ico 0 7) (fun n => outC c d (ch d c n) f) : sProp 𝕄) ⊢ bigSep (Finset.Ico 0 7) (fun n => iprop(dstP c d (n + 7) 0 ∗ dstP c d (n + 7) 1)) :=
    bigSep_mono fun n _ => h n
  rw [bigSep_Ico_succ_top (by decide : 0 ≤ 7), show Finset.Ico 7 14 = Finset.Ico (0 + 7) (7 + 7) from rfl, big_shift 0 7 7 (fun n => dstP c d n 0), big_shift 0 7 7 (fun n => dstP c d n 1), ← bigSep_sep']
  iintro ⟨H, Hs⟩
  ihave Hs := hs $$ Hs
  isplitl [H]; · iexists f; iexact H
  iexact Hs

/-! ## At the end -/

section End

variable (X : Dev nD → Vec F S4096x512 .f32) (Wt : Dev nD → Vec F S512x2048 .f32)

/-- What the sends read of one direction: the accumulator's chunks, and the result's but two. -/
def srcs (c : Dev nD) (d : Bool) (k : Fin 2) : sProp 𝕄 := bigSep (Finset.Ico 0 14) fun n => srcP X Wt c d n k

theorem srcs_parts (c : Dev nD) (d : Bool) (k : Fin 2) :
    srcs X Wt c d k ⊢ iprop(bigSep (Finset.Ico 0 7) (fun n => accP c d (ch d c n) k fullShare (AB X Wt c)) ∗ accP c d (ch d c 7) k fullShare.left (AB X Wt c)
      ∗ bigSep (Finset.Ico 0 6) (fun n => outP c d (ch d c n) k (G X Wt))) := by
  unfold srcs
  rw [show Finset.Ico 0 14 = (Finset.Ico 0 7) ∪ (Finset.Ico 7 14) from (Finset.Ico_union_Ico_eq_Ico (by decide) (by decide)).symm,
    bigSep_union (Finset.Ico_disjoint_Ico_consecutive 0 7 14), bigSep_Ico_succ_bot (by decide : 7 < 14),
    show Finset.Ico (7 + 1) 14 = Finset.Ico (0 + 8) (6 + 8) from rfl, big_shift 0 6 8 (fun n => srcP X Wt c d n k)]
  refine Entails.of_eq (congrArg₂ _ (bigSep_congr fun n hn => ?_) (congrArg₂ _ ?_ (bigSep_congr fun n hn => ?_)))
  · unfold srcP; rw [if_pos (Finset.mem_Ico.mp hn).2]
  · unfold srcP; rw [if_neg (by decide), if_pos rfl]
  · unfold srcP; rw [if_neg (by omega), if_neg (by omega), ch_add8]
theorem land_part (c : Dev nD) (d : Bool) (k : Fin 2) : landP X Wt c d 13 k ⊢ outP c d (ch d c 6) k (G X Wt) := by
  unfold landP; rw [if_neg (by decide), show 13 + 1 = 6 + 8 from rfl, ch_add8]

/-- A run of blocks and its other halves are a run of chunks. -/
theorem accs_join (c : Dev nD) (d : Bool) :
    iprop(bigSep (Finset.Ico 0 7) (fun n => accP c d (ch d c n) 0 fullShare (AB X Wt c)) ∗ bigSep (Finset.Ico 0 7) (fun n => accP c d (ch d c n) 1 fullShare (AB X Wt c))
        ∗ accP c d (ch d c 7) 0 fullShare.left (AB X Wt c) ∗ accP c d (ch d c 7) 1 fullShare.left (AB X Wt c) ∗ accC c d (ch d c 7) fullShare.right (AB X Wt c))
      ⊢ bigSep (Finset.Ico 0 8) (fun n => accC c d (ch d c n) fullShare (AB X Wt c)) := by
  have h1 : iprop(bigSep (Finset.Ico 0 7) (fun n => accP c d (ch d c n) 0 fullShare (AB X Wt c)) ∗ bigSep (Finset.Ico 0 7) (fun n => accP c d (ch d c n) 1 fullShare (AB X Wt c)))
      ⊢ bigSep (Finset.Ico 0 7) (fun n => accC c d (ch d c n) fullShare (AB X Wt c)) := by
    rw [← bigSep_sep']
    exact bigSep_mono fun n _ => (accC_halves c d (ch d c n) fullShare (AB X Wt c)).2
  have h2 : iprop(accP c d (ch d c 7) 0 fullShare.left (AB X Wt c) ∗ accP c d (ch d c 7) 1 fullShare.left (AB X Wt c))
      ⊢ accC c d (ch d c 7) fullShare.left (AB X Wt c) := (accC_halves c d (ch d c 7) fullShare.left (AB X Wt c)).2
  have h3 : iprop(accC c d (ch d c 7) fullShare.left (AB X Wt c) ∗ accC c d (ch d c 7) fullShare.right (AB X Wt c)) ⊢ accC c d (ch d c 7) fullShare (AB X Wt c) :=
    (pointsTo_share (by rw [PosShare.left_op_right]; exact Part.mem_some _)).2
  rw [bigSep_Ico_succ_top (by decide : 0 ≤ 7)]
  iintro ⟨A0, A1, L0, L1, R⟩
  ihave A := h1 $$ [A0 A1]
  · iframe A0 A1
  ihave L := h2 $$ [L0 L1]
  · iframe L0 L1
  ihave L := h3 $$ [L R]
  · iframe L R
  iframe L A
theorem outs_join (c : Dev nD) (d : Bool) :
    iprop(bigSep (Finset.Ico 0 6) (fun n => outP c d (ch d c n) 0 (G X Wt)) ∗ bigSep (Finset.Ico 0 6) (fun n => outP c d (ch d c n) 1 (G X Wt))
        ∗ outP c d (ch d c 6) 0 (G X Wt) ∗ outP c d (ch d c 6) 1 (G X Wt) ∗ outC c d (ch d c 7) (G X Wt))
      ⊢ bigSep (Finset.Ico 0 8) (fun n => outC c d (ch d c n) (G X Wt)) := by
  have h1 : iprop(bigSep (Finset.Ico 0 6) (fun n => outP c d (ch d c n) 0 (G X Wt)) ∗ bigSep (Finset.Ico 0 6) (fun n => outP c d (ch d c n) 1 (G X Wt)))
      ⊢ bigSep (Finset.Ico 0 6) (fun n => outC c d (ch d c n) (G X Wt)) := by
    rw [← bigSep_sep']
    exact bigSep_mono fun n _ => (outC_halves c d (ch d c n) (G X Wt)).2
  have h2 : iprop(outP c d (ch d c 6) 0 (G X Wt) ∗ outP c d (ch d c 6) 1 (G X Wt)) ⊢ outC c d (ch d c 6) (G X Wt) := (outC_halves c d (ch d c 6) (G X Wt)).2
  rw [bigSep_Ico_succ_top (by decide : 0 ≤ 7), bigSep_Ico_succ_top (by decide : 0 ≤ 6)]
  iintro ⟨A0, A1, L0, L1, R⟩
  ihave A := h1 $$ [A0 A1]
  · iframe A0 A1
  ihave L := h2 $$ [L0 L1]
  · iframe L0 L1
  iframe R L A

/-- One direction's pieces at the end. -/
theorem dir_end (c : Dev nD) (d : Bool) :
    iprop((landP X Wt c d 13 0 ∗ srcs X Wt c d 0) ∗ (landP X Wt c d 13 1 ∗ srcs X Wt c d 1) ∗ ownP X Wt c d)
      ⊢ iprop(bigSep (Finset.Ico 0 8) (fun n => accC c d (ch d c n) fullShare (AB X Wt c)) ∗ bigSep (Finset.Ico 0 8) (fun n => outC c d (ch d c n) (G X Wt))) := by
  unfold ownP
  iintro ⟨⟨L0, S0⟩, ⟨L1, S1⟩, O, A⟩
  ihave ⟨S0, T0, U0⟩ := (srcs_parts X Wt c d 0) $$ S0
  ihave ⟨S1, T1, U1⟩ := (srcs_parts X Wt c d 1) $$ S1
  ihave L0 := (land_part X Wt c d 0) $$ L0
  ihave L1 := (land_part X Wt c d 1) $$ L1
  isplitl [S0 S1 T0 T1 A]
  · iapply (accs_join X Wt c d)
    iframe S0 S1 T0 T1 A
  · iapply (outs_join X Wt c d)
    iframe U0 U1 L0 L1 O

/-- Both directions' pieces make up the accumulator and the result. -/
theorem both_end (c : Dev nD) :
    iprop((bigSep (Finset.Ico 0 8) (fun n => accC c false (ch false c n) fullShare (AB X Wt c)) ∗ bigSep (Finset.Ico 0 8) (fun n => outC c false (ch false c n) (G X Wt)))
        ∗ (bigSep (Finset.Ico 0 8) (fun n => accC c true (ch true c n) fullShare (AB X Wt c)) ∗ bigSep (Finset.Ico 0 8) (fun n => outC c true (ch true c n) (G X Wt))))
      ⊢ iprop(((aM.view.loc (c : Thread nD τ)) ↦{fullShare} (AB X Wt c)) ∗ ((oM.view.loc (c : Thread nD τ)) ↦{fullShare} (G X Wt)) : sProp 𝕄) := by
  rw [acc_chunks, out_chunks]
  iintro ⟨⟨A1, O1⟩, A2, O2⟩
  iframe A1 O1 A2 O2

end End

end Cert.RingProof

end
-- ==== Proof.Ends.lean ====
/-
# What a device starts with and what it ends with

The positions, rights and credits a device is dealt at the launch, gathered into what its program starts from; and what the
program ends with, gathered into whole buffers and into the positions of its cells, which then close.
-/
module

public import proofs.«01_k».proof.Proof.Buffers

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families over the cells of a device -/

/-- A family over the lanes. -/
theorem big_lanes (Φ : Bool × Fin 2 → sProp 𝕄) :
    bigSep Finset.univ Φ = iprop((Φ (false, 0) ∗ Φ (false, 1)) ∗ (Φ (true, 0) ∗ Φ (true, 1))) := by
  rw [bigSep_univ_prod, big_bool, big_fin2, big_fin2]
/-- A family over the slots of the lanes. -/
theorem big_LK (Φ : LK → sProp 𝕄) :
    bigSep Finset.univ Φ = bigSep Finset.univ fun dk : Bool × Fin 2 => iprop(Φ (dk.1, dk.2, 0) ∗ Φ (dk.1, dk.2, 1)) := by
  rw [bigSep_univ_prod, bigSep_univ_prod]
  refine bigSep_congr fun d _ => ?_
  rw [bigSep_univ_prod]
  exact bigSep_congr fun k _ => big_fin2 _
/-- A family over the cells of a device. -/
theorem big_Kd (Φ : Kd → sProp 𝕄) :
    bigSep Finset.univ Φ = iprop(Φ kBar ∗ (Φ (kRdy false) ∗ Φ (kRdy true)) ∗ (Φ (kOwn false) ∗ Φ (kOwn true))
      ∗ (bigSep Finset.univ fun dk : Bool × Fin 2 => iprop(Φ (kSnd dk.1 dk.2 0) ∗ Φ (kSnd dk.1 dk.2 1)))
      ∗ (bigSep Finset.univ fun dk : Bool × Fin 2 => iprop(Φ (kRcv dk.1 dk.2 0) ∗ Φ (kRcv dk.1 dk.2 1)))) := by
  rw [bigSep_univ_sum, bigSep_univ_sum, bigSep_univ_sum, bigSep_univ_sum, big_bool, big_bool, big_LK, big_LK,
    Finset.univ_unique, bigSep_singleton]
  rfl

/-! ## The start -/

/-- The positions of a device's cells. -/
def atsL (c : Dev nD) : sProp 𝕄 := bigSep Finset.univ fun κ : Kd => atPos ER (cell c κ) 0 ∅ 0
/-- The rights a device pays with. -/
def toksL (c : Dev nD) : sProp 𝕄 :=
  iprop((dutyTok ER (cell (nxP true c) kBar) 0 0 ∗ dutyTok ER (cell (nxP false c) kBar) 0 1) ∗ bigSep (Finset.Ico 0 13) (gTok c)
    ∗ (dutyTok ER (cell c (kOwn false)) 0 0 ∗ dutyTok ER (cell c (kOwn true)) 0 0)
    ∗ bigSep Finset.univ fun dk : Bool × Fin 2 => bigSep (Finset.Ico 0 14) (tok c dk.1 dk.2))
/-- The credits a device waits with. -/
def crsL (c : Dev nD) : sProp 𝕄 :=
  iprop(cred (tallyAt (cell c kBar) 1 2) ∗ gCr c 2 ∗ bigSep (Finset.Ico 0 13) (fun s => gCr c (2 * s + 2))
    ∗ bigSep Finset.univ fun dk : Bool × Fin 2 => bigSep (Finset.Ico 0 14) (rCr c dk.1 dk.2))

section Rules

variable (X : Dev nD → Vec F S4096x512 .f32) (Wt : Dev nD → Vec F S512x2048 .f32) (Kn : Dev nD × Kd → ℕ)

/-- A lane at the start. -/
theorem lane_of (c : Dev nD) (d : Bool) (k : Fin 2) :
    iprop(ctx X Wt Kn ∗ (atPos ER (cell c (kSnd d k 0)) 0 ∅ 0 ∗ atPos ER (cell c (kSnd d k 1)) 0 ∅ 0)
        ∗ (atPos ER (cell c (kRcv d k 0)) 0 ∅ 0 ∗ atPos ER (cell c (kRcv d k 1)) 0 ∅ 0)
        ∗ bigSep (Finset.Ico 0 14) (tok c d k) ∗ bigSep (Finset.Ico 0 14) (rCr c d k) ∗ bigSep (Finset.Ico 7 14) (fun n => dstP c d n k) ∗ slotP c d 1 k)
      ⊢ lane0 c d k := by
  have e0 : (iprop(pos c (kRcv d k 0) 0 ∗ pos c (kRcv d k 1) 0) : sProp 𝕄) ⊢ iprop(pos c (kRcv d k (sl 0)) (0 / 2) ∗ pos c (kRcv d k (sl (0 + 1))) ((0 + 1) / 2)) := .refl
  unfold lane0 rcvS
  iintro ⟨#Hctx, ⟨S0, S1⟩, ⟨R0, R1⟩, Ht, Hc, Hd, Hs⟩
  ihave S0 := (pos_zero X Wt Kn c (kSnd d k 0)) $$ [S0]
  · isplitr; · iexact Hctx
    iexact S0
  ihave S1 := (pos_zero X Wt Kn c (kSnd d k 1)) $$ [S1]
  · isplitr; · iexact Hctx
    iexact S1
  ihave R0 := (pos_zero X Wt Kn c (kRcv d k 0)) $$ [R0]
  · isplitr; · iexact Hctx
    iexact R0
  ihave R1 := (pos_zero X Wt Kn c (kRcv d k 1)) $$ [R1]
  · isplitr; · iexact Hctx
    iexact R1
  ihave R := e0 $$ [R0 R1]
  · iframe R0 R1
  iframe R S0 S1 Ht Hc Hd Hs

/-- Everything the program starts from. -/
theorem start_of (c : Dev nD) :
    iprop(ctx X Wt Kn ∗ atsL c ∗ toksL c ∗ crsL c ∗ (slots c false ∗ slots c true) ∗ (∃ f : OV F, (aM.view.loc (c : Thread nD τ)) ↦{fullShare} f)
        ∗ (∃ f : OV F, (oM.view.loc (c : Thread nD τ)) ↦{fullShare} f))
      ⊢ iprop(barS0 c ∗ rdyS0 c ∗ bufS0 c ∗ ((lane0 c false 0 ∗ lane0 c true 0) ∗ (lane0 c false 1 ∗ lane0 c true 1)) ∗ ownAt c false ∗ ownAt c true) := by
  have eo : (iprop(∃ f : OV F, (oM.view.loc (c : Thread nD τ)) ↦{fullShare} f) : sProp 𝕄)
      ⊢ iprop(∃ f, bigSep (Finset.Ico 0 8) (fun n => outC c false (ch false c n) f) ∗ bigSep (Finset.Ico 0 8) (fun n => outC c true (ch true c n) f)) :=
    exists_mono fun f => Entails.of_eq (out_chunks c f)
  unfold atsL toksL crsL slots
  rw [big_Kd, big_lanes, big_lanes, big_lanes, big_lanes]
  unfold barS0 rdyS0 bufS0 ownA0 ownAt
  iintro ⟨#Hctx, ⟨AB, ⟨AY1, AY2⟩, ⟨AO1, AO2⟩, ⟨⟨S1, S2⟩, ⟨S3, S4⟩⟩, ⟨⟨R1, R2⟩, ⟨R3, R4⟩⟩⟩, ⟨⟨TB0, TB1⟩, TG, ⟨TO1, TO2⟩, ⟨⟨T1, T2⟩, ⟨T3, T4⟩⟩⟩,
    ⟨CB, CG, CGs, ⟨⟨C1, C2⟩, ⟨C3, C4⟩⟩⟩, ⟨⟨⟨L1, L2⟩, ⟨L3, L4⟩⟩, ⟨⟨M1, M2⟩, ⟨M3, M4⟩⟩⟩, ⟨%fa, Ha⟩, Ho⟩
  ihave ⟨%fo, O1, O2⟩ := eo $$ Ho
  ihave Ha := (acc_start c fa) $$ Ha
  ihave ⟨O1, D1, D2⟩ := (out_dst c false fo) $$ O1
  ihave ⟨O2, D3, D4⟩ := (out_dst c true fo) $$ O2
  isplitl [TB0 TB1 CB AB]; · iframe TB0 TB1 CB AB
  isplitl [AY1 AY2 CG CGs TG]
  · unfold rdySt
    isplitl [AY1 AY2]
    · isplitl [AY1]; · iexists ∅; iexact AY1
      iexists ∅; iexact AY2
    iframe CG CGs TG
  isplitl [L1 L2 M1 M2 Ha O1 O2 TO1 TO2]; · iframe L1 L2 M1 M2 Ha O1 O2 TO1 TO2
  isplitr [AO1 AO2]
  · isplitl [S1 R1 T1 C1 D1 L3 S3 R3 T3 C3 D3 M3]
    · isplitl [S1 R1 T1 C1 D1 L3]
      · iapply (lane_of X Wt Kn c false 0)
        isplitr; · iexact Hctx
        iframe S1 R1 T1 C1 D1 L3
      · iapply (lane_of X Wt Kn c true 0)
        isplitr; · iexact Hctx
        iframe S3 R3 T3 C3 D3 M3
    · isplitl [S2 R2 T2 C2 D2 L4]
      · iapply (lane_of X Wt Kn c false 1)
        isplitr; · iexact Hctx
        iframe S2 R2 T2 C2 D2 L4
      · iapply (lane_of X Wt Kn c true 1)
        isplitr; · iexact Hctx
        iframe S4 R4 T4 C4 D4 M4
  · iframe AO1 AO2

/-! ## The end -/

/-- The round a cell's position ends at. -/
def endAt : Kd → ℕ
  | .inr (.inr (.inr _)) => 7
  | _ => 1

/-- Every cell of a device closes at its last position, and its counter at zero is the device's again. -/
theorem close_all (c : Dev nD) :
    iprop(ctx X Wt Kn ∗ bigSep Finset.univ fun κ : Kd => pos c κ (endAt κ)) ⊢ (|={Set.univ}=> bigSep Finset.univ fun κ : Kd => semVal (cell c κ) 0 : sProp 𝕄) := by
  have h : ∀ κ ∈ (Finset.univ : Finset Kd), iprop(ctx X Wt Kn ∗ pos c κ (endAt κ)) ⊢ (|={Set.univ}=> semVal (cell c κ) 0 : sProp 𝕄) := fun κ _ => by
    unfold pos
    iintro ⟨#Hctx, H, -⟩
    ihave #Hi := (ctx_inv X Wt Kn c κ) $$ Hctx
    iapply (Rounds.cell_close ER (sched X Wt) (Set.mem_univ (Kn (c, κ))) (fun h => h) (R := endAt κ)
      (duties_late X Wt c κ (endAt κ) (by rcases κ with _ | d | d | ⟨d, k, j⟩ | ⟨d, k, j⟩ <;> exact le_refl _)))
    isplitr; · iexact Hi
    iexact H
  exact (bigSep_with_persistent h).trans (bigSep_fupd _ _)

/-- What the program ends with, gathered. -/
theorem end_of (c : Dev nD) :
    iprop(finS X Wt c ∗ pos c kBar 1)
      ⊢ iprop(due c [] ∗ inP X Wt c ∗ (bigSep Finset.univ fun κ : Kd => pos c κ (endAt κ)) ∗ (slots c false ∗ slots c true)
        ∗ ((aM.view.loc (c : Thread nD τ)) ↦{fullShare} (AB X Wt c)) ∗ ((oM.view.loc (c : Thread nD τ)) ↦{fullShare} (G X Wt))) := by
  rw [big_Kd, big_lanes, big_lanes]
  have e1 : ∀ κ, (pos c κ (endAt κ) : sProp 𝕄) = pos c κ (match κ with | .inr (.inr (.inr _)) => 7 | _ => 1) := fun κ => by
    rcases κ with _ | d | d | ⟨d, k, j⟩ | ⟨d, k, j⟩ <;> rfl
  simp only [e1]
  unfold finS rcvE sndE slots
  iintro ⟨⟨HO, Hin, ⟨⟨⟨R10, R11, L1, P1, Q1⟩, S10, S11, U1⟩, ⟨⟨R20, R21, L2, P2, Q2⟩, S20, S21, U2⟩⟩,
    ⟨⟨⟨R30, R31, L3, P3, Q3⟩, S30, S31, U3⟩, ⟨⟨R40, R41, L4, P4, Q4⟩, S40, S41, U4⟩⟩, ⟨Y1, Y2⟩, ⟨O1, O2⟩, ⟨W1, W2⟩⟩, HB⟩
  ihave E1 := (dir_end X Wt c false) $$ [L1 U1 L2 U2 W1]
  · unfold srcs; iframe L1 U1 L2 U2 W1
  ihave E2 := (dir_end X Wt c true) $$ [L3 U3 L4 U4 W2]
  · unfold srcs; iframe L3 U3 L4 U4 W2
  ihave ⟨Ha, Ho⟩ := (both_end X Wt c) $$ [E1 E2]
  · iframe E1 E2
  iframe HO Hin HB Y1 Y2 O1 O2 S10 S11 S20 S21 S30 S31 S40 S41 R10 R11 R20 R21 R30 R31 R40 R41 P1 Q1 P2 Q2 P3 Q3 P4 Q4 Ha Ho

end Rules

end Cert.RingProof

end
-- ==== Proof.Body.lean ====
/-
# The body of the region

The data of the region's pipeline — its two windows are the operands, staged whole — and its one point: from what the launch
deals a device to its buffers, its counters at zero and the product in its result.
-/
module

public import proofs.«01_k».proof.Proof.Ends
public import proofs.«01_k».proof.Proof.Gen.KernelIdeal.Launch
public import Idealize.ShloMosaic.Lib.Pipeline.Launch
public import Idealize.ShloMosaic.Lib.Pipeline.Kit

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-- The operands as staged. -/
def Xs (c : Dev nD) : Vec F S4096x512 .f32 := (win0_0.blk (0 : Fin 1)).view.read (Elt F) (m ((c : Thread nD τ).loc main_arg0))
def Ws (c : Dev nD) : Vec F S512x2048 .f32 := (win0_1.blk (0 : Fin 1)).view.read (Elt F) (m ((c : Thread nD τ).loc main_arg1))

/-- What the launch deals a device, its result array at some contents among it. -/
def start (c : Dev nD) : sProp 𝕄 :=
  iprop((∃ Kn, records (Xs m) (Ws m) Kn) ∗ levAts L lv ∗ atsL c ∗ toksL c ∗ crsL c ∗ (∃ f : OV F, (oM.view.loc (c : Thread nD τ)) ↦{fullShare} f))
/-- The kernel's own buffers, at any contents. -/
def scrs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
def Φ₀ (c : Dev nD) : sProp 𝕄 := iprop(start m c ∗ scrs c)
/-- After the point: the buffers, every counter at zero, and the product in the result array. -/
def Φ₁ (c : Dev nD) : sProp 𝕄 :=
  iprop(scrs c ∗ (bigSep Finset.univ fun κ : Kd => semVal (cell c κ) 0) ∗ ((oM.view.loc (c : Thread nD τ)) ↦{fullShare} (G (Xs m) (Ws m) : OV F)))

/-- The first point, the only one. -/
def t₀ : Fin cfg0.N := t0_0

def dats (_ : Fin 1) (c : Dev nD) : Dat τ (Elt F) ℕ ℕ UU ℕ cfg0 c where
  A w := m ((cfg0.win w).arr.view.loc (c : Thread nD τ))
  after w _ := match w with
    | ⟨0, _⟩ => Xs m c
    | ⟨1, _⟩ => Ws m c
  Φ t := match t with
    | ⟨0, _⟩ => Φ₀ m c
    | ⟨_ + 1, _⟩ => Φ₁ m c
  q _ := fullShare
  owed t := match t with
    | ⟨0, _⟩ => owed c payAll
    | ⟨_ + 1, _⟩ => 0

theorem fetch_all (w : Fin cfg0.W) : (cfg0.win w).fetch t₀ = true := by fin_cases w <;> rfl

/-- A whole buffer owned through its memory reference is the buffer held. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer holding `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt 0 t₀.castSucc
    ∗ (∃ d, stg c cc0_stg0_0 ((dats m 0 c).before (0 : Fin 2) t₀ d)) ∗ (∃ d, stg c cc0_stg1_0 ((dats m 0 c).before (1 : Fin 2) t₀ d)))
def bodyPost (c : Dev nD) : sProp 𝕄 :=
  iprop(Φ₁ m c ∗ (dats m 0 c).owesAt 0 t₀.succ ∗ stg c cc0_stg0_0 (Xs m c) ∗ stg c cc0_stg1_0 (Ws m c))

theorem before_0 (c : Dev nD) (d) : (dats m 0 c).before (0 : Fin 2) t₀ d = Xs m c := by
  unfold Dat.before; rw [if_pos (fetch_all 0)]; rfl
theorem before_1 (c : Dev nD) (d) : (dats m 0 c).before (1 : Fin 2) t₀ d = Ws m c := by
  unfold Dat.before; rw [if_pos (fetch_all 1)]; rfl

/-- The operands as the windows hold them are the operands the program reads. -/
theorem stg_in (c : Dev nD) : iprop((∃ d, stg c cc0_stg0_0 ((dats m 0 c).before (0 : Fin 2) t₀ d)) ∗ (∃ d, stg c cc0_stg1_0 ((dats m 0 c).before (1 : Fin 2) t₀ d)))
    ⊢ (inP (Xs m) (Ws m) c : sProp 𝕄) := by
  simp only [before_0, before_1]
  unfold stg inP xPt wPt
  iintro ⟨⟨%d, %f, %hf, H⟩, ⟨%d', %g, %hg, H'⟩⟩
  subst hf hg
  iframe H H'
theorem stg_out (c : Dev nD) : (inP (Xs m) (Ws m) c : sProp 𝕄) ⊢ iprop(stg c cc0_stg0_0 (Xs m c) ∗ stg c cc0_stg1_0 (Ws m c)) := by
  unfold stg inP xPt wPt
  iintro ⟨H, H'⟩
  isplitl [H]
  · iexists (Xs m c); isplitr; · (ipureintro; rfl)
    iexact H
  · iexists (Ws m c); isplitr; · (ipureintro; rfl)
    iexact H'

/-- The kernel's own buffers divided, and made up again. -/
theorem scrs_in (c : Dev nD) : (scrs c : sProp 𝕄) ⊢ iprop((slots c false ∗ slots c true) ∗ (∃ f : OV F, (aM.view.loc (c : Thread nD τ)) ↦{fullShare} f)) := by
  unfold scrs
  iintro ⟨⟨%f, H0⟩, ⟨%g, H1⟩, ⟨%h, H2⟩⟩
  ihave H1 := (slots_split1 c g) $$ H1
  ihave H2 := (slots_split2 c h) $$ H2
  isplitl [H1 H2]; · iframe H1 H2
  iexists f; iexact H0
include m in
theorem scrs_out (c : Dev nD) (f : OV F) : iprop((slots c false ∗ slots c true) ∗ ((aM.view.loc (c : Thread nD τ)) ↦{fullShare} f)) ⊢ (scrs c : sProp 𝕄) := by
  unfold scrs
  iintro ⟨⟨H1, H2⟩, H0⟩
  ihave H1 := (slots_join1 c (m ((c : Thread nD τ).loc cc0_scratch1))) $$ H1
  ihave H2 := (slots_join2 c (m ((c : Thread nD τ).loc cc0_scratch2))) $$ H2
  isplitl [H0]; · iexists f; iexact H0
  iframe H1 H2

/-- A device's number is its own. -/
theorem wp_head (c : Dev nD) (p : Dev nD → PR F) (Q : PUnit.{1} → sProp 𝕄) : WPc c (Prog.op .deviceId p) Q = WPc c (p c) Q :=
  wp_deviceId 𝒱₀ (c : Thread nD τ) none Set.univ

/-- The body from end to end. -/
theorem sound_body (c : Dev nD) :
    bodyPre m c ⊢ WPc c (Prog.op .deviceId fun c => prog c) (fun _ => bodyPost m c) := by
  unfold bodyPre Φ₀ start Dat.owesAt Pipeline.owesWithin
  rw [show (dats m 0 c).owed t₀.castSucc = owed c payAll from rfl]
  rw [wp_head]
  iintro ⟨⟨⟨⟨%Kn, #Hrec⟩, #Hlev, Hat, Htok, Hcr, Ho⟩, Hscr⟩, ⟨%W, -, HO⟩, H0, H1⟩
  ihave Hin := (stg_in m c) $$ [H0 H1]
  · iframe H0 H1
  ihave ⟨Hsl, Ha⟩ := (scrs_in c) $$ Hscr
  ihave #Hctx := (show iprop(records (Xs m) (Ws m) Kn ∗ levAts L lv) ⊢ ctx (Xs m) (Ws m) Kn from .refl) $$ [Hrec Hlev]
  · isplitr; · iexact Hrec
    iexact Hlev
  ihave ⟨B, R, U, LL, O1, O2⟩ := (start_of (Xs m) (Ws m) Kn c) $$ [Hat Htok Hcr Hsl Ha Ho]
  · isplitr; · iexact Hctx
    iframe Hat Htok Hcr Hsl Ha Ho
  iapply (wp_fupd Idealize.ShloMosaic.frame (wpE (defs₀ (F := F)) 𝒱₀ (c : Thread nD τ) none) Set.univ (prog c : PR F) (fun _ => bodyPost m c))
  iapply (wp_prog (Xs m) (Ws m) Kn c) $$ [HO Hin B R U LL O1 O2]
  · isplitr; · iexact Hctx
    isplitl [HO]
    · unfold due; iexists W; iexact HO
    iframe Hin B R U LL O1 O2
  iintro Hfin
  ihave ⟨HO, Hin, Hpos, Hsl, Ha, Ho⟩ := (end_of (Xs m) (Ws m) c) $$ Hfin
  imod (close_all (Xs m) (Ws m) Kn c) $$ [Hpos] with Hz
  · isplitr; · iexact Hctx
    iexact Hpos
  ihave Hscr := (scrs_out m c _) $$ [Hsl Ha]
  · iframe Hsl Ha
  ihave Hin := (stg_out m c) $$ Hin
  unfold due
  icases HO with ⟨%W', HO⟩
  imodintro
  unfold bodyPost Φ₁ Dat.owesAt Pipeline.owesWithin
  rw [show (dats m 0 c).owed t₀.succ = owed c [] from rfl]
  iframe Hscr Hz Ho
  isplitl [HO]
  · iexists W'
    isplitr; · ipureintro; exact fun _ _ => Or.inl trivial
    iexact HO
  iexact Hin

set_option maxRecDepth 100000 in
/-- The library's body obligation on core `c`. -/
theorem body_obligation (c : Dev nD) : BodyObligation (dats m 0 c) (defs₀ (F := F)) 𝒱₀ 0 Set.univ := fun t => by
  rw [show t = t₀ from fin_N0 t]
  rw [bigSep_W0, bigSep_W0]
  simp only [owns_whole_eq]
  show bodyPre m c ⊢ WPc c
    (cc0_body (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 cc0_scratch7 cc0_scratch8 cc0_scratch9) (fun _ => bodyPost m c)
  rw [body_eq]
  exact sound_body m c

end Cert.RingProof

end
-- ==== Proof.Deal.lean ====
/-
# What the launch deals

The launch credits every device what the others owe it, and mints the rights to the contributions of every cell. Here the
credits are gathered by cell and index, and the rights are handed to the devices that pay with them.
-/
module

public import proofs.«01_k».proof.Proof.Ends
public import Idealize.ShloMosaic.Lib.Pipeline.Launch

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The credits -/

/-- What an entry owed by every device credits one. -/
theorem launch_pay (p : Pay) (c : Dev nD) :
    (Pipeline.launchCred (fun d => p.tally d) c : sProp 𝕄) = cred (tallyAt (cell c p.at_) p.ix p.n) :=
  Pipeline.launchCred_of_sum _ (fun d => tallyAt (cell d p.at_) p.ix p.n)
    (Equiv.sum_comp (ringE p.dir) fun d => (tallyAt (cell d p.at_) p.ix p.n : CellTallies nD τ sig ℕ))
    (fun d g h => by
      by_contra hn
      exact h (tallyAt_ne_cell (fun e : g = cell d p.at_ => hn (congrArg Prod.fst e)) _ _)) c

/-- The credit of a list of entries. -/
def credL (c : Dev nD) : List Pay → sProp 𝕄
  | [] => iprop(emp)
  | p :: l => iprop(credL c l ∗ cred (tallyAt (cell c p.at_) p.ix p.n))
theorem launch_owed (c : Dev nD) : ∀ l : List Pay, (Pipeline.launchCred (fun d => owed d l) c : sProp 𝕄) = credL c l
  | [] => Pipeline.launchCred_zero c
  | p :: l => by
    have h := Pipeline.launchCred_add (Val := Elt F) (Name := ℕ) (U := UU) (Lvl := ℕ) (fun d => owed d l) (fun d => p.tally d) c
    rw [launch_pay, launch_owed c l] at h
    exact h

theorem cred_snds (c : Dev nD) (n : ℕ) (k : Fin 2) (l : List Pay) :
    (credL c (pSnds n k l) : sProp 𝕄) ⊢ iprop(credL c l ∗ rCr c false k n ∗ rCr c true k n) := by
  show (iprop((credL c l ∗ cred (tallyAt (cell c (kRcv true k (sl n))) (2 * n + 3) NB)) ∗ cred (tallyAt (cell c (kRcv false k (sl n))) (2 * n + 3) NB)) : sProp 𝕄) ⊢ _
  unfold rCr
  iintro ⟨⟨H, A⟩, B⟩
  iframe H A B
theorem cred_grant (c : Dev nD) (s : ℕ) (l : List Pay) :
    (credL c (pGrant s 1 l) : sProp 𝕄) ⊢ iprop(credL c l ∗ gCr c (2 * s + 2)) := by
  show (iprop((credL c l ∗ cred (tallyAt (cell c (kRdy true)) (2 * s + 2) 1)) ∗ cred (tallyAt (cell c (kRdy false)) (2 * s + 2) 1)) : sProp 𝕄) ⊢ _
  unfold gCr
  iintro ⟨⟨H, A⟩, B⟩
  iframe H A B

/-- A credit of two is two credits of one. -/
theorem cred_two (g : GSem nD τ sig) (b : ℕ) : (cred (tallyAt g b 2) : sProp 𝕄) ⊣⊢ iprop(cred (tallyAt g b 1) ∗ cred (tallyAt g b 1)) := by
  have h : (tallyAt g b 2 : CellTallies nD τ sig ℕ) = tallyAt g b 1 + tallyAt g b 1 := (tallyAt_add g b 1 1).symm
  rw [h]
  exact cred_add _ _
theorem cred_grant2 (c : Dev nD) (l : List Pay) :
    (credL c (pGrant 0 2 l) : sProp 𝕄) ⊢ iprop(credL c l ∗ gCr c 2 ∗ gCr c 2) := by
  show (iprop((credL c l ∗ cred (tallyAt (cell c (kRdy true)) 2 2)) ∗ cred (tallyAt (cell c (kRdy false)) 2 2)) : sProp 𝕄) ⊢ _
  unfold gCr
  iintro ⟨⟨H, A⟩, B⟩
  ihave ⟨A, A'⟩ := (cred_two (cell c (kRdy true)) 2).1 $$ A
  ihave ⟨B, B'⟩ := (cred_two (cell c (kRdy false)) 2).1 $$ B
  iframe H A A' B B'
theorem cred_bar (c : Dev nD) (l : List Pay) :
    (credL c (pBar false :: pBar true :: l) : sProp 𝕄) ⊢ iprop(credL c l ∗ cred (tallyAt (cell c kBar) 1 2)) := by
  show (iprop((credL c l ∗ cred (tallyAt (cell c kBar) 1 1)) ∗ cred (tallyAt (cell c kBar) 1 1)) : sProp 𝕄) ⊢ _
  iintro ⟨⟨H, A⟩, B⟩
  isplitl [H]; · iexact H
  iapply (cred_two (cell c kBar) 1).2
  iframe A B

/-- The credits of the receipts from number `n` on, of every lane. -/
def lanesC (c : Dev nD) (n : ℕ) : sProp 𝕄 := bigSep Finset.univ fun dk : Bool × Fin 2 => bigSep (Finset.Ico n 14) (rCr c dk.1 dk.2)
theorem lanesC_succ (c : Dev nD) (n : ℕ) (hn : n < 14) :
    iprop(lanesC c (n + 1) ∗ (rCr c false 1 n ∗ rCr c true 1 n) ∗ (rCr c false 0 n ∗ rCr c true 0 n)) ⊢ (lanesC c n : sProp 𝕄) := by
  unfold lanesC
  rw [big_lanes, big_lanes]
  simp only [bigSep_Ico_succ_bot hn]
  iintro ⟨⟨⟨A, B⟩, C, D⟩, ⟨E, G⟩, H, I⟩
  iframe A B C D E G H I

/-- The credits of the steps still to come. -/
theorem cred_payR (c : Dev nD) : ∀ r, r ≤ 13 → (credL c (payR r) : sProp 𝕄) ⊢ iprop((bigSep (Finset.Ico (14 - r) 13) fun s => gCr c (2 * s + 2)) ∗ lanesC c (14 - r))
  | 0, _ => by
    show (iprop(emp) : sProp 𝕄) ⊢ iprop((bigSep (Finset.Ico 14 13) fun s => gCr c (2 * s + 2)) ∗ lanesC c 14)
    unfold lanesC
    rw [big_lanes, show Finset.Ico 14 13 = ∅ from rfl, show Finset.Ico 14 14 = ∅ from rfl]
    simp only [bigSep_empty]
    iintro H
    isplitl; · iempintro
    isplitl
    · isplitl <;> iempintro
    · isplitl <;> iempintro
  | r + 1, hr => by
    have ih := cred_payR c r (by omega)
    have h1 : (credL c (if r = 0 then payR r else pGrant (13 - r) 1 (payR r)) : sProp 𝕄)
        ⊢ iprop((bigSep (Finset.Ico (13 - r) 13) fun s => gCr c (2 * s + 2)) ∗ lanesC c (14 - r)) := by
      by_cases h0 : r = 0
      · subst h0; exact ih
      · rw [if_neg h0, bigSep_Ico_succ_bot (show 13 - r < 13 by omega), show 13 - r + 1 = 14 - r by omega]
        iintro H
        ihave ⟨H, B⟩ := (cred_grant c (13 - r) (payR r)) $$ H
        ihave ⟨H, A⟩ := ih $$ H
        iframe H A B
    have h2 := lanesC_succ (F := F) c (13 - r) (by omega)
    rw [show 13 - r + 1 = 14 - r by omega] at h2
    rw [payR, show 14 - (r + 1) = 13 - r by omega]
    iintro H
    ihave ⟨H, B⟩ := (cred_snds c (13 - r) 0 _) $$ H
    ihave ⟨H, A⟩ := (cred_snds c (13 - r) 1 _) $$ H
    ihave ⟨H, C⟩ := h1 $$ H
    isplitl [H]; · iexact H
    iapply h2
    iframe A B C

/-- The launch's credit is what a device waits with. -/
theorem creds (c : Dev nD) : (Pipeline.launchCred (fun d => owed d payAll) c : sProp 𝕄) ⊢ crsL c := by
  have h0 := lanesC_succ (F := F) c 0 (by decide)
  have h1 : (credL c (payFrom 0) : sProp 𝕄) ⊢ iprop((bigSep (Finset.Ico (0 + 1) 13) fun s => gCr c (2 * s + 2)) ∗ lanesC c (0 + 1)) := cred_payR c 13 (le_refl _)
  rw [launch_owed]
  unfold payAll crsL
  iintro H
  ihave ⟨H, B⟩ := (cred_bar c _) $$ H
  ihave ⟨H, A, A'⟩ := (cred_grant2 c _) $$ H
  ihave ⟨H, C0⟩ := (cred_snds c 0 0 _) $$ H
  ihave ⟨H, C1⟩ := (cred_snds c 0 1 _) $$ H
  ihave ⟨H, C⟩ := h1 $$ H
  ihave C := h0 $$ [C C0 C1]
  · iframe C C0 C1
  rw [bigSep_Ico_succ_bot (show 0 < 13 by decide)]
  unfold lanesC
  iframe A A' B C H

/-! ## The rights -/

/-- The contributions to a device's cells: the barrier's two, the grants, the own copies, the sends, the receipts. -/
abbrev Tk : Type := Fin 2 ⊕ (Bool × Fin 13) ⊕ Bool ⊕ ((Bool × Fin 2) × Fin 14) ⊕ ((Bool × Fin 2) × Fin 14)
/-- The cell, the round and the number of a contribution. -/
def tkK : Tk → Kd × ℕ × ℕ
  | .inl e => (kBar, 0, e.val)
  | .inr (.inl (d, e)) => (kRdy d, 0, e.val)
  | .inr (.inr (.inl d)) => (kOwn d, 0, 0)
  | .inr (.inr (.inr (.inl ((d, k), n)))) => (kSnd d k (sl n), n / 2, 0)
  | .inr (.inr (.inr (.inr ((d, k), n)))) => (kRcv d k (sl n), n / 2, 0)
/-- The contribution that has a cell, a round and a number. -/
def tkI : Kd × ℕ × ℕ → Tk
  | (.inl _, _, e) => .inl ⟨e % 2, Nat.mod_lt _ (by decide)⟩
  | (.inr (.inl d), _, e) => .inr (.inl (d, ⟨e % 13, Nat.mod_lt _ (by decide)⟩))
  | (.inr (.inr (.inl d)), _, _) => .inr (.inr (.inl d))
  | (.inr (.inr (.inr (.inl (d, k, j)))), r, _) => .inr (.inr (.inr (.inl ((d, k), ⟨(2 * r + j.val) % 14, Nat.mod_lt _ (by decide)⟩))))
  | (.inr (.inr (.inr (.inr (d, k, j)))), r, _) => .inr (.inr (.inr (.inr ((d, k), ⟨(2 * r + j.val) % 14, Nat.mod_lt _ (by decide)⟩))))
theorem tk_slot (n : Fin 14) : (⟨(2 * (n.val / 2) + (sl n.val).val) % 14, Nat.mod_lt _ (by decide)⟩ : Fin 14) = n :=
  Fin.ext (by
    have := n.isLt
    show (2 * (n.val / 2) + n.val % 2) % 14 = n.val
    omega)
theorem tkI_tkK (t : Tk) : tkI (tkK t) = t := by
  rcases t with e | ⟨d, e⟩ | d | ⟨⟨d, k⟩, n⟩ | ⟨⟨d, k⟩, n⟩
  · exact congrArg Sum.inl (Fin.ext (Nat.mod_eq_of_lt e.isLt))
  · exact congrArg (fun e => Sum.inr (Sum.inl (d, e))) (Fin.ext (Nat.mod_eq_of_lt e.isLt))
  · rfl
  · exact congrArg (fun n => (Sum.inr (Sum.inr (Sum.inr (Sum.inl ((d, k), n)))) : Tk)) (tk_slot n)
  · exact congrArg (fun n => (Sum.inr (Sum.inr (Sum.inr (Sum.inr ((d, k), n)))) : Tk)) (tk_slot n)

/-- The cell of a device and a kind. -/
abbrev cellOfP (ck : Dev nD × Kd) : GSem nD τ sig := cell ck.1 ck.2
theorem cellOfP_inj : Function.Injective cellOfP := by
  rintro ⟨c, κ⟩ ⟨c', κ'⟩ h
  have h1 : c = c' := congrArg (fun g : GSem nD τ sig => g.1.1) h
  have h2 : κ = κ' := csem_inj (congrArg Prod.snd h)
  rw [h1, h2]
/-- A contribution of a device, as the launch mints it. -/
def tokOf (ct : Dev nD × Tk) : GSem nD τ sig × ℕ × ℕ := (cell ct.1 (tkK ct.2).1, (tkK ct.2).2)
theorem tokOf_inj : Function.Injective tokOf := by
  rintro ⟨c, t⟩ ⟨c', t'⟩ h
  have h0 := cellOfP_inj (a₁ := (c, (tkK t).1)) (a₂ := (c', (tkK t').1)) (congrArg Prod.fst h)
  have h1 : tkK t = tkK t' := Prod.ext (congrArg Prod.snd h0) (show (tokOf (c, t)).2 = (tokOf (c', t')).2 from congrArg Prod.snd h)
  have h2 : t = t' := by rw [← tkI_tkK t, h1, tkI_tkK]
  rw [h2, show c = c' from congrArg Prod.fst h0]

def ringCells : Finset (GSem nD τ sig) := Finset.univ.map ⟨cellOfP, cellOfP_inj⟩
def ringToks : Finset (GSem nD τ sig × ℕ × ℕ) := Finset.univ.map ⟨tokOf, tokOf_inj⟩

/-- Families over the grants and over the sends of the lanes. -/
theorem big_grants (Φ : Bool × Fin 13 → sProp 𝕄) :
    bigSep Finset.univ Φ = iprop((bigSep Finset.univ fun e : Fin 13 => Φ (false, e)) ∗ (bigSep Finset.univ fun e : Fin 13 => Φ (true, e))) := by
  rw [bigSep_univ_prod, big_bool]
theorem big_runs (Φ : (Bool × Fin 2) × Fin 14 → sProp 𝕄) :
    bigSep Finset.univ Φ = bigSep Finset.univ fun dk : Bool × Fin 2 => bigSep Finset.univ fun n : Fin 14 => Φ (dk, n) := bigSep_univ_prod Φ

/-- The rights to the contributions to a device's own cells. -/
def toksM (c : Dev nD) : sProp 𝕄 := bigSep Finset.univ fun t : Tk => dutyTok ER (cell c (tkK t).1) (tkK t).2.1 (tkK t).2.2
theorem toksM_eq (c : Dev nD) : (toksM c : sProp 𝕄)
    = iprop((dutyTok ER (cell c kBar) 0 0 ∗ dutyTok ER (cell c kBar) 0 1)
      ∗ ((bigSep (Finset.Ico 0 13) fun e => dutyTok ER (cell c (kRdy false)) 0 e) ∗ (bigSep (Finset.Ico 0 13) fun e => dutyTok ER (cell c (kRdy true)) 0 e))
      ∗ (dutyTok ER (cell c (kOwn false)) 0 0 ∗ dutyTok ER (cell c (kOwn true)) 0 0)
      ∗ (bigSep Finset.univ fun dk : Bool × Fin 2 => bigSep (Finset.Ico 0 14) fun n => dutyTok ER (cell c (kSnd dk.1 dk.2 (sl n))) (n / 2) 0)
      ∗ (bigSep Finset.univ fun dk : Bool × Fin 2 => bigSep (Finset.Ico 0 14) fun n => dutyTok ER (cell c (kRcv dk.1 dk.2 (sl n))) (n / 2) 0)) := by
  unfold toksM
  rw [bigSep_univ_sum, bigSep_univ_sum, bigSep_univ_sum, bigSep_univ_sum, big_fin2, big_grants, big_bool, big_runs, big_runs]
  simp only [← big_fin]
  rfl

/-- The rights go to the devices that pay with them. -/
theorem toks_around : (bigSep Finset.univ fun c : Dev nD => (toksM c : sProp 𝕄)) ⊢ bigSep Finset.univ fun c : Dev nD => toksL c := by
  have hR : (bigSep Finset.univ fun c : Dev nD => bigSep Finset.univ fun dk : Bool × Fin 2 => bigSep (Finset.Ico 0 14) fun n => (dutyTok ER (cell c (kRcv dk.1 dk.2 (sl n))) (n / 2) 0 : sProp 𝕄))
      = bigSep Finset.univ fun c : Dev nD => bigSep Finset.univ fun dk : Bool × Fin 2 => bigSep (Finset.Ico 0 14) fun n => (dutyTok ER (cell (nxP dk.1 c) (kRcv dk.1 dk.2 (sl n))) (n / 2) 0 : sProp 𝕄) := by
    refine (bigSep_univ_comm _).trans (Eq.trans ?_ (bigSep_univ_comm _).symm)
    exact bigSep_congr fun dk _ => bigSep_univ_equiv (ringE dk.1) fun c : Dev nD => bigSep (Finset.Ico 0 14) fun n => (dutyTok ER (cell c (kRcv dk.1 dk.2 (sl n))) (n / 2) 0 : sProp 𝕄)
  have hL : ∀ c : Dev nD, (toksL c : sProp 𝕄)
      = iprop((dutyTok ER (cell (nxP true c) kBar) 0 0 ∗ dutyTok ER (cell (nxP false c) kBar) 0 1)
      ∗ ((bigSep (Finset.Ico 0 13) fun e => dutyTok ER (cell (nxP true c) (kRdy false)) 0 e) ∗ (bigSep (Finset.Ico 0 13) fun e => dutyTok ER (cell (nxP false c) (kRdy true)) 0 e))
      ∗ (dutyTok ER (cell c (kOwn false)) 0 0 ∗ dutyTok ER (cell c (kOwn true)) 0 0)
      ∗ (bigSep Finset.univ fun dk : Bool × Fin 2 => bigSep (Finset.Ico 0 14) fun n => dutyTok ER (cell c (kSnd dk.1 dk.2 (sl n))) (n / 2) 0)
      ∗ (bigSep Finset.univ fun dk : Bool × Fin 2 => bigSep (Finset.Ico 0 14) fun n => dutyTok ER (cell (nxP dk.1 c) (kRcv dk.1 dk.2 (sl n))) (n / 2) 0)) := fun c => by
    unfold toksL gTok tok
    simp only [bigSep_sep']
  simp only [toksM_eq, hL, bigSep_sep']
  rw [hR, bigSep_univ_equiv (ringE true) (fun c : Dev nD => (dutyTok ER (cell c kBar) 0 0 : sProp 𝕄)),
    bigSep_univ_equiv (ringE false) (fun c : Dev nD => (dutyTok ER (cell c kBar) 0 1 : sProp 𝕄)),
    bigSep_univ_equiv (ringE true) (fun c : Dev nD => (bigSep (Finset.Ico 0 13) fun e => dutyTok ER (cell c (kRdy false)) 0 e : sProp 𝕄)),
    bigSep_univ_equiv (ringE false) (fun c : Dev nD => (bigSep (Finset.Ico 0 13) fun e => dutyTok ER (cell c (kRdy true)) 0 e : sProp 𝕄))]
  exact .refl

end Cert.RingProof

end
-- ==== Proof.Launch.lean ====
/-
# The run

The launch of the kernel on the eight devices: the schedules' invariants are allocated on every device's counters at once, each
device is dealt its share, and the run ends with the product in every device's result array, the operands unchanged and every
counter at zero.
-/
module

public import proofs.«01_k».proof.Proof.Body
public import proofs.«01_k».proof.Proof.Deal
public import Idealize.ShloMosaic.Lib.Quiescent
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The semaphores -/

/-- The kernel's own semaphores: every cell's but the barrier's. -/
abbrev OK : Type := Bool ⊕ Bool ⊕ LK ⊕ LK
def osem (κ : OK) : SemLoc sig := csem (.inr κ)
theorem ownSemFacts : Pipeline.OwnSemFacts cfg0.spec osem where
  isScoped := by decide
  inj := fun a b h => Sum.inr_injective (csem_inj h)
  disj := by decide

theorem share_eq (c : Dev nD) (w : Fin cfg0.W) : (dats m 0 c).share w = fullShare := by unfold Dat.share; split <;> rfl

/-- The barrier semaphore is the launch's one unscoped semaphore. -/
theorem unscopedSems0_eq (c : Dev nD) : (unscopedSems0 c : sProp 𝕄) = semVal (cell c kBar) 0 := by
  unfold unscopedSems0; rw [bigSep_eq_bigSepL_of_eq [SemLoc.reg barS] (by decide) (by decide)]; rfl
/-- All the counters of a device at zero. -/
theorem sems0_eq (c : Dev nD) :
    (bigSep Finset.univ fun κ : Kd => semVal (cell c κ) 0 : sProp 𝕄)
      = iprop(unscopedSems0 c ∗ Pipeline.ownSems0 (Ix := ℕ) (Name := ℕ) (U := UU) (Lvl := ℕ) (Val := Elt F) (τ := τ) osem c) := by
  rw [unscopedSems0_eq, bigSep_univ_sum, Finset.univ_unique, bigSep_singleton]
  rfl

/-! ## The global step -/

def u₀ : UU :=
  (initOf (Pipeline.cells cfgs cellOf_inj) (Pipeline.launchToks cfgs cellOf_inj), initOf ringCells ringToks)

/-- What the launch element deals a device. -/
def deal (c : Dev nD) : sProp 𝕄 :=
  iprop((bigSep Finset.univ fun κ : Kd => roundState ER (sched (Xs m) (Ws m)) (cell c κ) 0)
    ∗ (bigSep Finset.univ fun κ : Kd => iprop(atPos ER (cell c κ) 0 ∅ 0 ∗ reached ER (cell c κ) 0)) ∗ toksM c)
/-- What the global step makes of it. -/
def dealt (c : Dev nD) : sProp 𝕄 := iprop(∃ Kn, records (Xs m) (Ws m) Kn ∗ atsL c ∗ toksL c)

theorem fund_ring : BI.own (ER (initOf ringCells ringToks)) ⊢ (|==> bigSep Finset.univ (deal m) : sProp 𝕄) := by
  have hX (Φ : GSem nD τ sig → sProp 𝕄) : bigSep ringCells Φ = bigSep Finset.univ fun c : Dev nD => bigSep Finset.univ fun κ : Kd => Φ (cell c κ) := by
    unfold ringCells; rw [bigSep_map, bigSep_univ_prod]; rfl
  have hT : bigSep ringToks (fun x => (dutyTok ER x.1 x.2.1 x.2.2 : sProp 𝕄)) = bigSep Finset.univ fun c : Dev nD => toksM c := by
    unfold ringToks; rw [bigSep_map, bigSep_univ_prod]; rfl
  iintro HX
  imod (Rounds.fund ER (sched (Xs m) (Ws m)) ringCells ringToks) $$ HX with ⟨Hst, Hr, Hat, Htok⟩
  imodintro
  ihave Hst' := (Entails.of_eq (hX fun g => roundState ER (sched (Xs m) (Ws m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold deal; simp only [bigSep_sep']
  iframe Hst' Hat' Hr' Htok'

/-- Each device's counters at zero start its cells' schedules. -/
theorem core_alloc (c : Dev nD) :
    iprop(Pipeline.ownSems0 (Ix := ℕ) (Name := ℕ) (U := UU) (Lvl := ℕ) (Val := Elt F) (τ := τ) osem c ∗ unscopedSems0 c ∗ deal m c)
      ⊢ |={Set.univ}=> iprop((bigSep Finset.univ fun κ : Kd => iprop(∃ n : ℕ, cellInv ER (sched (Xs m) (Ws m)) n (cell c κ)))
          ∗ (bigSep Finset.univ fun κ : Kd => iprop(atPos ER (cell c κ) 0 ∅ 0 ∗ reached ER (cell c κ) 0)) ∗ toksM c) := by
  have h : iprop((bigSep Finset.univ fun κ : Kd => semVal (cell c κ) 0) ∗ bigSep Finset.univ fun κ : Kd => roundState ER (sched (Xs m) (Ws m)) (cell c κ) 0)
      ⊢ (|={Set.univ}=> bigSep Finset.univ fun κ : Kd => iprop(∃ n : ℕ, cellInv ER (sched (Xs m) (Ws m)) n (cell c κ)) : sProp 𝕄) := by
    rw [← bigSep_sep']
    exact (bigSep_mono fun κ _ => (Rounds.body_intro ER (sched (Xs m) (Ws m)) (cell c κ)).trans inv_alloc).trans (bigSep_fupd _ _)
  rw [sems0_eq] at h
  unfold deal
  iintro ⟨Hos, Hus, Hst, Hat, Htok⟩
  imod h $$ [Hos Hus Hst] with Hinv
  · iframe Hos Hus Hst
  imodintro
  iframe Hinv Hat Htok

/-- The devices' invariants are known to all, and the rights go around the ring. -/
theorem regroup :
    (bigSep Finset.univ fun c : Dev nD => iprop((bigSep Finset.univ fun κ : Kd => iprop(∃ n : ℕ, cellInv ER (sched (Xs m) (Ws m)) n (cell c κ)))
          ∗ (bigSep Finset.univ fun κ : Kd => iprop(atPos ER (cell c κ) 0 ∅ 0 ∗ reached ER (cell c κ) 0)) ∗ toksM c) : sProp 𝕄)
      ⊢ bigSep Finset.univ (dealt m) := by
  have hone : ∀ (Kn : Dev nD × Kd → ℕ) (c : Dev nD), iprop(records (Xs m) (Ws m) Kn ∗ (atsL c ∗ toksL c)) ⊢ dealt m c := fun Kn c => by
    unfold dealt
    iintro ⟨#HR, Ha, Ht⟩
    iexists Kn
    isplitr; · iexact HR
    iframe Ha Ht
  rw [bigSep_sep', bigSep_sep', ← bigSep_univ_prod (fun ck : Dev nD × Kd => iprop(∃ n : ℕ, cellInv ER (sched (Xs m) (Ws m)) n (cell ck.1 ck.2))),
    bigSep_congr (s := Finset.univ) (fun (c : Dev nD) _ => bigSep_sep' Finset.univ (fun κ : Kd => (atPos ER (cell c κ) 0 ∅ 0 : sProp 𝕄)) (fun κ => reached ER (cell c κ) 0)),
    bigSep_sep', ← bigSep_univ_prod (fun ck : Dev nD × Kd => (reached ER (cell ck.1 ck.2) 0 : sProp 𝕄))]
  iintro ⟨HI, ⟨Hat, #HR⟩, Htok⟩
  ihave HK := (BI.bigSep_exists_pi Finset.univ (fun (ck : Dev nD × Kd) (n : ℕ) => (cellInv ER (sched (Xs m) (Ws m)) n (cell ck.1 ck.2) : sProp 𝕄))) $$ HI
  icases HK with ⟨%Kn, #HI⟩
  ihave Htk := (toks_around (F := F)) $$ Htok
  iapply (bigSep_with_persistent (R := records (Xs m) (Ws m) Kn) fun c _ => hone Kn c)
  isplitr
  · unfold records; isplitl; · iexact HI
    iexact HR
  · rw [bigSep_sep']
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ deal m c) : sProp 𝕄)
    ⊢ |={Set.univ}=> bigSep Finset.univ (dealt m) :=
  ((bigSep_mono fun c _ => core_alloc m c).trans (bigSep_fupd _ _)).trans (BI.fupd_mono (regroup m))

/-! ## The side conditions -/

theorem start_intro (c : Dev nD) :
    iprop(Pipeline.unscopedRestP Pipeline.Prefetch.none cfg0.spec c (fun b => m ((c : Thread nD τ).loc b)) ∗ levAts L lv
        ∗ Pipeline.launchCred (fun d => owed d payAll) c ∗ prngReg c (ρ c) ∗ dealt m c)
      ⊢ |={Set.univ}=> iprop(start m c ∗ emp) := by
  rw [Pipeline.unscopedRestP_none, unscopedRest0_eq]
  iintro ⟨Ho, Hlev, Hcr, -, HG⟩
  ihave Hc := (creds (F := F) c) $$ Hcr
  imodintro
  unfold start dealt
  icases HG with ⟨%Kn, Hrec, Ha, Ht⟩
  isplitl
  · isplitl [Hrec]; · iexists Kn; iexact Hrec
    iframe Hlev Ha Ht Hc
    iexists (m ((c : Thread nD τ).loc main_v1)); iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrs
  iintro ⟨Hs, -, Hr⟩
  iframe Hs Hr

/-- What the launch reads at the end: the barrier's counter and the result array. -/
def fin (c : Dev nD) : sProp 𝕄 := iprop(unscopedSems0 c ∗ ((oM.view.loc (c : Thread nD τ)) ↦{fullShare} (G (Xs m) (Ws m) : OV F)))

theorem phi1_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = Φ₁ m c from rfl, scopedRest0_eq]
  unfold Φ₁ fin scrs
  rw [sems0_eq]
  iintro ⟨Hr, ⟨Hu, Ho⟩, Hg⟩
  iframe Hu Hg Ho Hr

theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact mayWait_above c _ 0 (by decide) payAll (.cons ⟨by decide, by decide⟩ (.cons ⟨by decide, by decide⟩
        (.grant (by decide) (by decide) (.snds (by decide) (by decide) (.snds (by decide) (by decide) ((above_payFrom 0 (by decide)).mono (by decide)))))))
    · exact mayWait_above c _ 0 (by decide) [] (.nil _)

/-! ## The run -/

/-- The facts of a final memory: the operands as they were, the product in the result array, every counter at zero. -/
def Fin_ (r : PUnit.{1} × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = G (Xs m) (Ws m)) ∧ r.2.sem = fun _ => 0

def finalA (c : Dev nD) (w : Fin cfg0.W) : Buf (Elt F) ((cfg0.win w).arr.view.loc (c : Thread nD τ)) := (dats m 0 c).arrAt w cfg0.N
theorem finalA_0 (c : Dev nD) : finalA m c (0 : Fin 2) = m ((c : Thread nD τ).loc main_arg0) := (dats m 0 c).arrAt_in (0 : Fin 2) rfl _
theorem finalA_1 (c : Dev nD) : finalA m c (1 : Fin 2) = m ((c : Thread nD τ).loc main_arg1) := (dats m 0 c).arrAt_in (1 : Fin 2) rfl _

/-- The counter and the result array as a final state has them. -/
theorem fin_read (c : Dev nD) (s' : Phys nD τ sig (Elt F)) :
    iprop(fin m c ∗ emp ∗ SI s') ⊢ (|={Set.univ}=> iprop(⌜(∀ sm : SemLoc sig, sm.isScoped .tc = false → s'.mem.sem ((c.tc : Thread nD τ), sm) = 0)
        ∧ s'.mem.mem ((c : Thread nD τ).loc main_v1) = G (Xs m) (Ws m)⌝ ∗ SI s') : sProp 𝕄) := by
  have h := pointsTo_read_all (Ix := ℕ) (Name := ℕ) (U := UU) (Lvl := ℕ) (Finset.univ : Finset Unit) (fun _ => (c : Thread nD τ).loc main_v1)
    (fun _ => (G (Xs m) (Ws m) : OV F)) s'
  rw [Finset.univ_unique, bigSep_singleton] at h
  unfold fin
  iintro ⟨⟨Hu, Ho⟩, -, HSI⟩
  ihave ⟨%ho, HSI⟩ := h $$ [Ho HSI]
  · isplitl [Ho]; · iexact Ho
    iexact HSI
  imod (Pipeline.unscopedSems0_read (X := unscopedSems0 c) (c := c) fupd_intro s') $$ [Hu HSI] with ⟨%hu, HSI⟩
  · iframe Hu HSI
  imodintro
  isplitr; · ipureintro; exact ⟨hu, ho () (Finset.mem_singleton_self _)⟩
  iexact HSI

set_option maxRecDepth 100000 in
/-- For any float values, from any memory with zero counters: every weakly fair execution of the program on the eight devices ends,
    and every final state has the product in each device's result array, the operands unchanged and every counter at zero. -/
theorem run_main : θ_run defs (onTc (τ := τ) (main (F := F))) ⟨m, fun _ => 0, ρ⟩ (Fin_ m) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owed d payAll) (howed₀ := fun _ => rfl) (howedN := fun _ => rfl)
    (L := L) (lv := lv) (hL := L_of_ne) (hwaits := waits m)
    (G := deal m) (G' := dealt m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m) (hout := phi1_exit m)
    (QY := fun c s => (∀ sm : SemLoc sig, sm.isScoped .tc = false → s.sem ((c.tc : Thread nD τ), sm) = 0)
        ∧ s.mem ((c : Thread nD τ).loc main_v1) = G (Xs m) (Ws m))
    (hY := fin_read m)
    (hQ := fun _ h hs => ⟨fun c => ⟨((h c).1 (0 : Fin 2)).trans (finalA_0 m c), ((h c).1 (1 : Fin 2)).trans (finalA_1 m c), (h c).2.2.2⟩,
      sem_eq_zero hs fun c => (h c).2.2.1⟩)

end Cert.RingProof

end
-- ==== Proof.Reference.lean ====
/-
# The reference's run

The reference is one product of the whole matrices, computed by one operation on one device. Its run ends with that product in
the result array, the operands as they were and, as it has no semaphore at all, every counter at zero.
-/
module

public import proofs.«01_k».proof.Proof.Gen.ReferenceIdeal
public import Idealize.ShloMosaic.Lib.StableHlo.Run

@[expose] public section

noncomputable section

namespace Cert.RingProof.Whole

open Cert.ReferenceIdeal Cert.ReferenceIdeal.Gen
open Idealize.ShloMosaic Idealize.ShloMosaic.TcCoe Idealize.ShloMosaic.StableHlo Idealize.SL.Sem

variable {F : FTy → Type} [FloatOps F]

/-- The product of the whole matrices. -/
def prod (x : FVec F S4096x4096 .f32) (w : FVec F S4096x2048 .f32) : FVec F S4096x2048 .f32 :=
  Host.dotGeneral dot_S4096x4096_S4096x2048_S4096x2048_1_0_0_1_n_n none x w

/-- The one operation of the reference. -/
abbrev steps : List (HloOp τ sig (Elt F)) := [binary main_arg0 main_arg1 main_v0 prod]

/-- The reference is that operation. -/
theorem main_steps (c : Dev nD) : main (F := F) c = seq steps := rfl

/-- It touches the arrays of the tensor core only. -/
theorem steps_refs : (steps : List (HloOp τ sig (Elt F))).Forall fun op => op.bufs ⊆ tcRefs τ sig := binary_bufs_sub ..

/-- No array and no semaphore belongs to a region, for there is no region. -/
theorem no_scoped_ref : (Finset.univ.filter fun b : Ref sig .tc => b.isScoped) = ∅ := by decide
theorem no_scoped_sem : (Finset.univ.filter fun s : SemLoc sig => s.isScoped .tc) = ∅ := by decide

/-- What the operation leaves in each array. -/
theorem after_v0 (V : Valuation τ sig (Elt F)) :
    after steps V (main_v0 : DevRef τ sig) = prod (V (main_arg0 : DevRef τ sig)) (V (main_arg1 : DevRef τ sig)) := by
  after_results
theorem after_arg0 (V : Valuation τ sig (Elt F)) : after steps V (main_arg0 : DevRef τ sig) = V (main_arg0 : DevRef τ sig) := by
  after_results
theorem after_arg1 (V : Valuation τ sig (Elt F)) : after steps V (main_arg1 : DevRef τ sig) = V (main_arg1 : DevRef τ sig) := by
  after_results

/-- There is no semaphore whose counter could be anything but zero. -/
theorem sem_zero (s : MemSt nD τ sig (Elt F)) : s.sem = fun _ => 0 := by
  funext g
  rcases g with ⟨_, ⟨i⟩ | ⟨i⟩⟩ <;> exact i.elim0

/-- The reference's run. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v0)
            = prod (m ((c.tc : Thread nD τ).loc main_arg0)) (m ((c.tc : Thread nD τ).loc main_arg1)))
      ∧ r.2.sem = fun _ => 0 :=
  (θ_run defs _ _).mono
    (fun r h => ⟨fun c => ⟨(h c main_arg0).trans (after_arg0 _), (h c main_arg1).trans (after_arg1 _), (h c main_v0).trans (after_v0 _)⟩,
      sem_zero r.2⟩)
    (run_seq no_scoped_ref no_scoped_sem defs main (fun _ => steps) main_steps (fun _ => steps_refs) m ρ)

end Cert.RingProof.Whole

end
-- ==== Proof.Algebra.lean ====
/-
# The sum is the product

Over the extended reals a device's partial product is, at each place, the sum over its own 512 columns of the left matrix, and
the ring adds the eight devices' partial products in some order. Addition being commutative and associative there, that is the
sum over all 4096 columns, which is what the reference computes.
-/
module

public import proofs.«01_k».proof.Proof.Values
public import proofs.«01_k».proof.Proof.Reference
public import Idealize.ShloMosaic.Lib.MatmulPlain
public import Idealize.ShloMosaic.Lib.StackMember
public import Idealize.ShloMosaic.Lib.Layout
public import Mathlib.Algebra.BigOperators.Fin

@[expose] public section

noncomputable section

namespace Cert.RingProof

open Cert.KernelIdeal Cert.KernelIdeal.Gen

open Idealize.ShloMosaic
open Idealize.ShloMosaic.TcCoe
open Idealize.ShloMosaic.ValueIdx
open scoped BigOperators

/-! ## One device's product -/

/-- The two payloads at a place: a row of the block times a column of the right matrix. -/
theorem pay3_apply (x : Vec Ideal S128x512 .f32) (w : Vec Ideal S512x2048 .f32) (r : Fin 128) (q : Fin 2048) :
    (k0_pay3 x w : FVec Ideal S128x2048 .f32) (ix2 r q) = ∑ k : Fin 512, (x (ix2 r k) : EReal) * (w (ix2 k q) : EReal) := by
  unfold k0_pay3
  simp only [shapeCast_self]
  refine (Ideal.matmul_plain_apply (M := 128) (K := 512) (N := 2048) (φ₁ := .f32) (φ₂ := .f32) none x w _ r q).trans ?_
  show Ideal.ofBits .f32 0x00000000#32 + _ = _
  rw [Ideal.ofBits_zero_f32, zero_add]
theorem pay6_apply (x : Vec Ideal S256x512 .f32) (w : Vec Ideal S512x2048 .f32) (r : Fin 256) (q : Fin 2048) :
    (k0_pay6 x w : FVec Ideal S256x2048 .f32) (ix2 r q) = ∑ k : Fin 512, (x (ix2 r k) : EReal) * (w (ix2 k q) : EReal) := by
  unfold k0_pay6
  simp only [shapeCast_self]
  refine (Ideal.matmul_plain_apply (M := 256) (K := 512) (N := 2048) (φ₁ := .f32) (φ₂ := .f32) none x w _ r q).trans ?_
  show Ideal.ofBits .f32 0x00000000#32 + _ = _
  rw [Ideal.ofBits_zero_f32, zero_add]

/-- What the loads of the operands read at a place. -/
theorem x128_apply (f : Vec Ideal S4096x512 .f32) (d : Bool) (h : Fin 8) (k : Fin 2) (r : Fin 128) (j : Fin 512) (R : Fin 4096)
    (hR : R.val = rb d h k + r.val) :
    xM.view.readAt (Elt Ideal) (xR128 d h k).toLoadRect f (ix2 r j) = f (ix2 R j) := by
  have e : (xR128 d h k).emb (ix2 r j) = (ix2 R j : S4096x512.Idx) := by
    funext a; apply Fin.ext; fin_cases a
    · show rb d h k + 1 * r.val = R.val; omega
    · show 0 + 1 * j.val = j.val; omega
  exact congrArg f e
theorem x256_apply (f : Vec Ideal S4096x512 .f32) (d : Bool) (h : Fin 8) (r : Fin 256) (j : Fin 512) (R : Fin 4096)
    (hR : R.val = rc d h + r.val) :
    xM.view.readAt (Elt Ideal) (xR256 d h).toLoadRect f (ix2 r j) = f (ix2 R j) := by
  have e : (xR256 d h).emb (ix2 r j) = (ix2 R j : S4096x512.Idx) := by
    funext a; apply Fin.ext; fin_cases a
    · show rc d h + 1 * r.val = R.val; omega
    · show 0 + 1 * j.val = j.val; omega
  exact congrArg f e
theorem w_apply (f : Vec Ideal S512x2048 .f32) (j : Fin 512) (q : Fin 2048) :
    wM.view.readAt (Elt Ideal) wR.toLoadRect f (ix2 j q) = f (ix2 j q) := by
  have e : wR.emb (ix2 j q) = (ix2 j q : S512x2048.Idx) := by
    funext a; apply Fin.ext; fin_cases a
    · show 0 + 1 * j.val = j.val; omega
    · show 0 + 1 * q.val = q.val; omega
  exact congrArg f e

/-- A row is its block's first row and the row within the block. -/
theorem row_blk (r : ℕ) (hr : r < 4096) : r = rb (dR r) (hR r) (kR r) + r % 128 := by
  by_cases h : 2048 ≤ r <;> simp [dR, hR, kR, rb, rc, h] <;> omega
theorem row_ch (r : ℕ) (hr : r < 4096) : r = rc (dR r) (hR r) + r % 256 := by
  by_cases h : 2048 ≤ r <;> simp [dR, hR, rc, h] <;> omega

variable (X : Dev nD → Vec Ideal S4096x512 .f32) (Wt : Dev nD → Vec Ideal S512x2048 .f32)

/-- A device's partial product at a place, however it was blocked. -/
theorem PB_apply (c : Dev nD) (r : Fin 4096) (q : Fin 2048) :
    (PB X Wt c (ix2 r q) : EReal) = ∑ k : Fin 512, (X c (ix2 r k) : EReal) * (Wt c (ix2 k q) : EReal) := by
  unfold PB
  show (if (hR r.val).val = c.val then p128 X Wt c (dR r.val) (hR r.val) (kR r.val) (lB (ix2 r q))
    else p256 X Wt c (dR r.val) (hR r.val) (lC (ix2 r q))) = _
  split
  · have e : lB (ix2 r q) = (ix2 (⟨r.val % 128, Nat.mod_lt _ (by decide)⟩ : Fin 128) q : S128x2048.Idx) := by
      funext a; apply Fin.ext; fin_cases a <;> rfl
    rw [e]; unfold p128
    refine (pay3_apply _ _ _ _).trans (Finset.sum_congr rfl fun k _ => ?_)
    rw [x128_apply (X c) _ _ _ _ k r (row_blk r.val r.isLt), w_apply]
  · have e : lC (ix2 r q) = (ix2 (⟨r.val % 256, Nat.mod_lt _ (by decide)⟩ : Fin 256) q : S256x2048.Idx) := by
      funext a; apply Fin.ext; fin_cases a <;> rfl
    rw [e]; unfold p256
    refine (pay6_apply _ _ _ _).trans (Finset.sum_congr rfl fun k _ => ?_)
    rw [x256_apply (X c) _ _ _ k r (row_ch r.val r.isLt), w_apply]

/-! ## The ring's sum -/

/-- The device `n` steps back from `c` in direction `d`. -/
def back (d : Bool) (n : ℕ) (c : Dev nD) : Dev nD := (nxP (!d))^[n] c

/-- Its number. -/
theorem back_val (d : Bool) (n : ℕ) (c : Dev nD) : (back d n c).val = (c.val + (if d then n else 7 * n)) % 8 := by
  have h8 : nD = 8 := rfl
  induction n generalizing c with
  | zero => have := c.isLt; show c.val = _; cases d <;> simp <;> omega
  | succ n ih =>
    show (back d n (nxP (!d) c)).val = _
    rw [ih]
    cases d
    · show ((nxP true c).val + 7 * n) % 8 = (c.val + 7 * (n + 1)) % 8; rw [nxP_true]; omega
    · show ((nxP false c).val + n) % 8 = (c.val + (n + 1)) % 8; rw [nxP_false]; omega

/-- Seven steps of adding make the sum of the eight devices met. -/
theorem accN_sum (d : Bool) (n : ℕ) (c : Dev nD) (i : S4096x2048.Idx) :
    (accN X Wt d n c i : EReal) = ∑ j ∈ Finset.range (n + 1), (PB X Wt (back d j c) i : EReal) := by
  induction n generalizing c with
  | zero => simp [accN, back]
  | succ n ih =>
    rw [Finset.sum_range_succ']
    show (PB X Wt c i : EReal) + (accN X Wt d n (nxP (!d) c) i : EReal) = _
    rw [ih, add_comm]
    rfl

/-- The eight devices met going round are all the devices. -/
theorem back_sum (d : Bool) (c : Dev nD) (f : Dev nD → EReal) : (∑ j ∈ Finset.range 8, f (back d j c)) = ∑ b : Dev nD, f b := by
  have h8 : nD = 8 := rfl
  rw [Finset.sum_range]
  refine Function.Bijective.sum_comp (e := fun j : Fin 8 => back d j.val c) ?_ f
  refine (Fintype.bijective_iff_injective_and_card _).mpr ⟨fun a b e => ?_, rfl⟩
  have e' : (back d a.val c).val = (back d b.val c).val := congrArg Fin.val e
  have ha := a.isLt; have hb := b.isLt
  rw [back_val, back_val] at e'
  apply Fin.ext
  cases d <;> simp at e' <;> omega

/-- The finished sum at a place. -/
theorem G_apply (r : Fin 4096) (q : Fin 2048) :
    (G X Wt (ix2 r q) : EReal) = ∑ c : Dev nD, ∑ k : Fin 512, (X c (ix2 r k) : EReal) * (Wt c (ix2 k q) : EReal) := by
  unfold G
  rw [accN_sum, back_sum _ _ fun b => (PB X Wt b (ix2 r q) : EReal)]
  exact Finset.sum_congr rfl fun c _ => PB_apply X Wt c r q

/-! ## The whole product -/

/-- The reference's product at a place. -/
theorem prod_apply (x : Vec Ideal ReferenceIdeal.S4096x4096 .f32) (w : Vec Ideal ReferenceIdeal.S4096x2048 .f32) (r : Fin 4096) (q : Fin 2048) :
    (Whole.prod (F := Ideal) x w (ix2 r q) : EReal) = ∑ k : Fin 4096, (x (ix2 r k) : EReal) * (w (ix2 k q) : EReal) :=
  StackMember.dotGeneral_plain_apply (m := 4096) (k := 4096) (n := 2048) (φ₁ := .f32) (φ₂ := .f32) none x w r q

/-- A sum over 4096 columns is a sum over the eight devices of a sum over 512. -/
theorem sum_split (f : Fin 4096 → EReal) :
    (∑ k : Fin 4096, f k) = ∑ c : Fin 8, ∑ k : Fin 512, f ⟨c.val * 512 + k.val, by have := c.isLt; have := k.isLt; omega⟩ := by
  rw [← Equiv.sum_comp (finProdFinEquiv : Fin 8 × Fin 512 ≃ Fin (8 * 512)) f, Fintype.sum_prod_type]
  refine Finset.sum_congr rfl fun c _ => Finset.sum_congr rfl fun k _ => congrArg f (Fin.ext ?_)
  show k.val + 512 * c.val = c.val * 512 + k.val
  omega

/-- The kernel's sum of the devices' partial products is the reference's product of the whole matrices. -/
theorem G_eq_prod (x : Vec Ideal ReferenceIdeal.S4096x4096 .f32) (w : Vec Ideal ReferenceIdeal.S4096x2048 .f32)
    (hX : ∀ c, X c = Layout.block ⟨2, ![4096, 512]⟩ ⟨2, ![4096, 4096]⟩ 1 8 c x)
    (hW : ∀ c, Wt c = Layout.block ⟨2, ![512, 2048]⟩ ⟨2, ![4096, 2048]⟩ 0 8 c w) :
    (G X Wt : Vec Ideal S4096x2048 .f32) = Whole.prod (F := Ideal) x w := by
  funext i
  obtain ⟨r, q, rfl⟩ : ∃ (r : Fin 4096) (q : Fin 2048), i = ix2 r q := ⟨i 0, i 1, by funext a; fin_cases a <;> rfl⟩
  refine (G_apply X Wt r q).trans (Eq.trans ?_ (prod_apply x w r q).symm)
  rw [sum_split]
  refine Finset.sum_congr rfl fun c _ => Finset.sum_congr rfl fun k _ => ?_
  rw [hX c, hW c, Layout.block_apply, Layout.block_apply]
  congr 2 <;> (funext a; apply Fin.ext; fin_cases a <;> rfl)

end Cert.RingProof

end
-- ==== Proof.Claims.lean ====
/-
# The claims

The frames of the kernel and of the reference, and the equality of their results over the extended reals, each from the run of
the program it speaks of.
-/
module

public import proofs.«01_k».proof.Defs
public import proofs.«01_k».proof.Proof.Launch
public import proofs.«01_k».proof.Proof.Algebra
public import proofs.«01_k».proof.Proof.Gen.Kernel

@[expose] public section

noncomputable section

namespace Cert.RingProof

open Idealize.ShloMosaic Idealize.ShloMosaic.TcCoe Idealize.SL.Sem

/-- The windows of the operands are the whole arrays. -/
theorem Xs_eq {F : FTy → Type} [FloatOps F] (m : (ℓ : Loc KernelIdeal.nD KernelIdeal.τ KernelIdeal.sig) → Buf (Elt F) ℓ) (c : Dev KernelIdeal.nD) :
    Xs m c = m ((c.tc : Thread KernelIdeal.nD KernelIdeal.τ).loc KernelIdeal.main_arg0) := by
  funext i
  refine congrArg (m ((c.tc : Thread KernelIdeal.nD KernelIdeal.τ).loc KernelIdeal.main_arg0)) (funext fun a => Fin.ext ?_)
  fin_cases a
  · show 0 * 4096 + 1 * (i 0).val = (i 0).val; omega
  · show 0 * 512 + 1 * (i 1).val = (i 1).val; omega
theorem Ws_eq {F : FTy → Type} [FloatOps F] (m : (ℓ : Loc KernelIdeal.nD KernelIdeal.τ KernelIdeal.sig) → Buf (Elt F) ℓ) (c : Dev KernelIdeal.nD) :
    Ws m c = m ((c.tc : Thread KernelIdeal.nD KernelIdeal.τ).loc KernelIdeal.main_arg1) := by
  funext i
  refine congrArg (m ((c.tc : Thread KernelIdeal.nD KernelIdeal.τ).loc KernelIdeal.main_arg1)) (funext fun a => Fin.ext ?_)
  fin_cases a
  · show 0 * 512 + 1 * (i 0).val = (i 0).val; omega
  · show 0 * 2048 + 1 * (i 1).val = (i 1).val; omega

section OneText

variable {F : FTy → Type} [FloatOps F]

/-- Idealizing rewrote no operation, so the kernel's body and the idealized kernel's are one text; -/
theorem text_eq : @Kernel.cc0_body F _ Kernel.Gen.facts = @KernelIdeal.cc0_body F _ KernelIdeal.Gen.facts := rfl

/-- so are their tables of bodies. -/
theorem bodies_eq : @Kernel.defs₀ F _ Kernel.Gen.facts = @KernelIdeal.defs₀ F _ KernelIdeal.Gen.facts := by
  unfold Kernel.defs₀ KernelIdeal.defs₀
  refine congrArg Defs.onTc (funext fun l => funext fun a => ?_)
  obtain ⟨_ | n, h⟩ := l
  · rfl
  · exact absurd h (Nat.not_lt.2 (Nat.le_add_left _ _))
theorem tables_eq : @Kernel.defs F _ Kernel.Gen.facts = @KernelIdeal.defs F _ KernelIdeal.Gen.facts := by
  unfold Kernel.defs KernelIdeal.defs
  exact congrArg (Pipeline.defs _) bodies_eq

end OneText

/-- The kernel runs on the chip's words: it ends, its operands are unchanged and every counter is zero. -/
theorem kernel_frame : Cert.quiescent_Kernel (hKernel := Cert.Kernel.Gen.facts) := fun m g _ => by
  rw [tables_eq]
  exact (θ_run Cert.KernelIdeal.defs (onTc (τ := KernelIdeal.τ) (KernelIdeal.main (F := Bits))) _).mono
    (fun r h => ⟨fun c => ⟨(h.1 c).1, (h.1 c).2.1⟩, h.2⟩) (run_main (F := Bits) m g)

/-- The same over the extended reals. -/
theorem kernelIdeal_frame : Cert.quiescent_KernelIdeal (hKernelIdeal := Cert.KernelIdeal.Gen.facts) := fun m g _ =>
  (θ_run Cert.KernelIdeal.defs _ _).mono (fun r h => ⟨fun c => ⟨(h.1 c).1, (h.1 c).2.1⟩, h.2⟩) (run_main (F := Ideal) m g)

/-- The reference runs likewise. -/
theorem referenceIdeal_frame : Cert.quiescent_ReferenceIdeal (hReferenceIdeal := Cert.ReferenceIdeal.Gen.facts) := fun m g _ =>
  (θ_run Cert.ReferenceIdeal.defs _ _).mono (fun r h => ⟨fun c => ⟨(h.1 c).1, (h.1 c).2.1⟩, h.2⟩) (Whole.run_main (F := Ideal) m g)

/-- From operands that are the parts of the reference's, every device ends with the reference's result. -/
theorem same_result : Cert.algebraic_KernelIdeal_ReferenceIdeal (hKernelIdeal := Cert.KernelIdeal.Gen.facts)
    (hReferenceIdeal := Cert.ReferenceIdeal.Gen.facts) := fun m g m' g' _ hm => by
  have e : G (Xs m) (Ws m) = Whole.prod (F := Ideal)
      (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1)) :=
    G_eq_prod (Xs m) (Ws m) _ _ (fun c => (Xs_eq m c).trans (hm c).1) (fun c => (Ws_eq m c).trans (hm c).2)
  refine ⟨Whole.prod (F := Ideal)
      (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1)), ?_, ?_⟩
  · exact (θ_run Cert.KernelIdeal.defs _ _).mono (fun r h c => ⟨(h.1 c).2.2.trans e, (h.1 c).1, (h.1 c).2.1⟩) (run_main (F := Ideal) m g)
  · exact (θ_run Cert.ReferenceIdeal.defs _ _).mono (fun r h => ⟨(h.1 0).2.2, (h.1 0).1, (h.1 0).2.1⟩) (Whole.run_main (F := Ideal) m' g')

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.RingProof.kernel_frame, Cert.RingProof.kernelIdeal_frame, Cert.RingProof.referenceIdeal_frame, trivial, Cert.RingProof.same_result⟩

end Cert.Proof

end
